-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v1_0)) (v1 : (c : Dev Cert.Kernel34Ideal.nD) → Buf (Elt Ideal) ((c.tc : Thread Cert.Kernel34Ideal.nD Cert.Kernel34Ideal.τ).loc Cert.Kernel34Ideal.main_v1_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1_0) = v0 c
          ∧ r.2.mem ((c.tc : Thread Cert.Kernel34Ideal.nD Cert.Kernel34Ideal.τ).loc Cert.Kernel34Ideal.main_v1_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v36) = v0 c
          ∧ r.2.mem ((c.tc : Thread Cert.Reference34Ideal.nD Cert.Reference34Ideal.τ).loc Cert.Reference34Ideal.main_v37) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v14) = v0 c
          ∧ r.2.mem ((c.tc : Thread Cert.Reference35Ideal.nD Cert.Reference35Ideal.τ).loc Cert.Reference35Ideal.main_v22) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_finite.lean ====
abbrev S4x4096x128 : Shape := ⟨3, ![4, 4096, 128]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S4x64x1x128 : S_.BroadcastsInDim S4x64x1x128 (![] : Fin 0 → Fin S4x64x1x128.rank)
  reducesTo_S4x64x1x128_S_d0_1_2_3 : S4x64x1x128.ReducesTo [0, 1, 2, 3] S_
  bcast_S_S4x64x128x128 : S_.BroadcastsInDim S4x64x128x128 (![] : Fin 0 → Fin S4x64x128x128.rank)
  reducesTo_S4x64x128x128_S_d0_1_2_3 : S4x64x128x128.ReducesTo [0, 1, 2, 3] S_

variable [Facts]

def fn_part2 {F : FTy → Type} [FloatOps F] (main_arg7 : FVec F S4x4096x128 .f32) (main_v33 : IVec S_ 1) : IVec S_ 1 :=
  let main_v34 : FVec F S4x4096x128 .f32 := Host.absf main_arg7
  let main_cst_12 : FVec F S_ .f32 := constant S_ .f32 0x7F800000#32
  let main_v35 : FVec F S4x4096x128 .f32 := broadcastInDim S4x4096x128 ![] bcast_S_S4x4096x128 main_cst_12
  let main_v36 : IVec S4x4096x128 1 := cmpf .olt main_v34 main_v35
  let main_c_13 : IVec S_ 1 := constantI S_ 1 1#1
  let main_v37 : IVec S_ 1 := (fun x v => Host.reduce IntOp.andi x v reducesTo_S4x4096x128_S_d0_1_2 h_S_) main_v36 main_c_13
  let main_v38 : IVec S_ 1 := andi main_v33 main_v37
  main_v38

def fn_part1 {F : FTy → Type} [FloatOps F] (main_arg4 : FVec F S4x4096x64 .f32) (main_arg5 : FVec F S4x64x1x128 .f32) (main_arg6 : FVec F S4x64x128x128 .f32) (main_arg7 : FVec F S4x4096x128 .f32) (main_v13 : IVec S_ 1) (main_v16 : IVec S4x4096x128 1) : IVec S_ 1 :=
  let main_c_5 : IVec S_ 1 := constantI S_ 1 1#1
  let main_v17 : IVec S_ 1 := (fun x v => Host.reduce IntOp.andi x v reducesTo_S4x4096x128_S_d0_1_2 h_S_) main_v16 main_c_5
  let main_v18 : IVec S_ 1 := andi main_v13 main_v17
  let main_v19 : FVec F S4x4096x64 .f32 := Host.absf main_arg4
  let main_cst_6 : FVec F S_ .f32 := constant S_ .f32 0x7F800000#32
  let main_v20 : FVec F S4x4096x64 .f32 := broadcastInDim S4x4096x64 ![] bcast_S_S4x4096x64 main_cst_6
  let main_v21 : IVec S4x4096x64 1 := cmpf .olt main_v19 main_v20
  let main_c_7 : IVec S_ 1 := constantI S_ 1 1#1
  let main_v22 : IVec S_ 1 := (fun x v => Host.reduce IntOp.andi x v reducesTo_S4x4096x64_S_d0_1_2 h_S_) main_v21 main_c_7
  let main_v23 : IVec S_ 1 := andi main_v18 main_v22
  let main_v24 : FVec F S4x64x1x128 .f32 := Host.absf main_arg5
  let main_cst_8 : FVec F S_ .f32 := constant S_ .f32 0x7F800000#32
  let main_v25 : FVec F S4x64x1x128 .f32 := broadcastInDim S4x64x1x128 ![] bcast_S_S4x64x1x128 main_cst_8
  let main_v26 : IVec S4x64x1x128 1 := cmpf .olt main_v24 main_v25
  let main_c_9 : IVec S_ 1 := constantI S_ 1 1#1
  let main_v27 : IVec S_ 1 := (fun x v => Host.reduce IntOp.andi x v reducesTo_S4x64x1x128_S_d0_1_2_3 h_S_) main_v26 main_c_9
  let main_v28 : IVec S_ 1 := andi main_v23 main_v27
  let main_v29 : FVec F S4x64x128x128 .f32 := Host.absf main_arg6
  let main_cst_10 : FVec F S_ .f32 := constant S_ .f32 0x7F800000#32
  let main_v30 : FVec F S4x64x128x128 .f32 := broadcastInDim S4x64x128x128 ![] bcast_S_S4x64x128x128 main_cst_10
  let main_v31 : IVec S4x64x128x128 1 := cmpf .olt main_v29 main_v30
  let main_c_11 : IVec S_ 1 := constantI S_ 1 1#1
  let main_v32 : IVec S_ 1 := (fun x v => Host.reduce IntOp.andi x v reducesTo_S4x64x128x128_S_d0_1_2_3 h_S_) main_v31 main_c_11
  let main_v33 : IVec S_ 1 := andi main_v28 main_v32
  fn_part2 (F := F) main_arg7 main_v33

def fn {F : FTy → Type} [FloatOps F] (main_arg0 : FVec F S4x4096x128 .f32) (main_arg1 : FVec F S4x4096x128 .f32) (main_arg2 : FVec F S4x4096x128 .f32) (main_arg3 : FVec F S4x4096x128 .f32) (main_arg4 : FVec F S4x4096x64 .f32) (main_arg5 : FVec F S4x64x1x128 .f32) (main_arg6 : FVec F S4x64x128x128 .f32) (main_arg7 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S4x4096x128 .f32 := Host.absf main_arg3
  let main_cst_4 : FVec F S_ .f32 := constant S_ .f32 0x7F800000#32
  let main_v15 : FVec F S4x4096x128 .f32 := broadcastInDim S4x4096x128 ![] bcast_S_S4x4096x128 main_cst_4
  let main_v16 : IVec S4x4096x128 1 := cmpf .olt main_v14 main_v15
  fn_part1 (F := F) main_arg4 main_arg5 main_arg6 main_arg7 main_v13 main_v16
-- ==== Kernel.lean ====
abbrev S4x4096x128 : Shape := ⟨3, ![4, 4096, 128]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S4x256x128 : Shape := ⟨3, ![4, 256, 128]⟩
abbrev S4x256x64 : Shape := ⟨3, ![4, 256, 64]⟩
abbrev S4x4x1x128 : Shape := ⟨4, ![4, 4, 1, 128]⟩
abbrev S4x4x128x128 : Shape := ⟨4, ![4, 4, 128, 128]⟩
abbrev S4x128x128 : Shape := ⟨3, ![4, 128, 128]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x64x64 : Shape := ⟨3, ![1, 64, 64]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 14
  | .vmem => 29
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S4x4096x128, .f32⟩
  | .hbm, ⟨4, _⟩ => ⟨S4x4096x64, .f32⟩
  | .hbm, ⟨5, _⟩ => ⟨S4x64x1x128, .f32⟩
  | .hbm, ⟨6, _⟩ => ⟨S4x64x128x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S4x4096x64, .f32⟩
  | .hbm, ⟨13, _⟩ => ⟨S4x64x1x128, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x64, .f32⟩
  | .local _ .vmem, ⟨9, _⟩ => ⟨S4x256x64, .f32⟩
  | .local _ .vmem, ⟨10, _⟩ => ⟨S4x4x1x128, .f32⟩
  | .local _ .vmem, ⟨11, _⟩ => ⟨S4x4x1x128, .f32⟩
  | .local _ .vmem, ⟨12, _⟩ => ⟨S4x4x128x128, .f32⟩
  | .local _ .vmem, ⟨13, _⟩ => ⟨S4x4x128x128, .f32⟩
  | .local _ .vmem, ⟨14, _⟩ => ⟨S4x256x128, .f32⟩
  | .local _ .vmem, ⟨15, _⟩ => ⟨S4x256x128, .f32⟩
  | .local _ .vmem, ⟨16, _⟩ => ⟨S4x256x128, .f32⟩
  | .local _ .vmem, ⟨17, _⟩ => ⟨S4x256x128, .f32⟩
  | .local _ .vmem, ⟨18, _⟩ => ⟨S4x256x128, .f32⟩
  | .local _ .vmem, ⟨19, _⟩ => ⟨S4x256x128, .f32⟩
  | .local _ .vmem, ⟨20, _⟩ => ⟨S4x256x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S4x256x64, .f32⟩
  | .local _ .vmem, ⟨25, _⟩ => ⟨S4x256x64, .f32⟩
  | .local _ .vmem, ⟨26, _⟩ => ⟨S4x4x1x128, .f32⟩
  | .local _ .vmem, ⟨27, _⟩ => ⟨S4x4x1x128, .f32⟩
  | .local _ .vmem, ⟨28, _⟩ => ⟨S4x128x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x4096x128 : Shape := ⟨3, ![4, 4096, 128]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S4x64x64x128 : Shape := ⟨4, ![4, 64, 64, 128]⟩
abbrev S64x4x64x128 : Shape := ⟨4, ![64, 4, 64, 128]⟩
abbrev S4x64x64x64 : Shape := ⟨4, ![4, 64, 64, 64]⟩
abbrev S64x4x64x64 : Shape := ⟨4, ![64, 4, 64, 64]⟩
abbrev S64x4x1x128 : Shape := ⟨4, ![64, 4, 1, 128]⟩
abbrev S_ : Shape := ⟨0, ![]⟩
abbrev S4x128x128 : Shape := ⟨3, ![4, 128, 128]⟩
abbrev S64x4x128x128 : Shape := ⟨4, ![64, 4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S4x128x64 : Shape := ⟨3, ![4, 128, 64]⟩
abbrev S4x128 : Shape := ⟨2, ![4, 128]⟩
abbrev S64x64 : Shape := ⟨2, ![64, 64]⟩

abbrev nBuf : Space → Nat
  | .hbm => 190
  | .vmem => 0
  | .smem => 0
  | _ => 0

abbrev hbmTy0_0 (i : Nat) : BufTy := match i % 128 with
  | 0 => ⟨S4x4096x128, .f32⟩
  | 1 => ⟨S4x4096x128, .f32⟩
  | 2 => ⟨S4x4096x128, .f32⟩
  | 3 => ⟨S4x4096x128, .f32⟩
  | 4 => ⟨S4x4096x64, .f32⟩
  | 5 => ⟨S4x64x1x128, .f32⟩
  | 6 => ⟨S4x64x128x128, .f32⟩
  | 7 => ⟨S4x4096x128, .f32⟩
  | 8 => ⟨S4x64x64x128, .f32⟩
  | 9 => ⟨S64x4x64x128, .f32⟩
  | 10 => ⟨S4x64x64x128, .f32⟩
  | 11 => ⟨S64x4x64x128, .f32⟩
  | 12 => ⟨S4x64x64x128, .f32⟩
  | 13 => ⟨S64x4x64x128, .f32⟩
  | 14 => ⟨S4x64x64x128, .f32⟩
  | 15 => ⟨S64x4x64x128, .f32⟩
  | 16 => ⟨S4x64x64x64, .f32⟩
  | 17 => ⟨S64x4x64x64, .f32⟩
  | 18 => ⟨S64x4x1x128, .f32⟩
  | 19 => ⟨S_, .f32⟩
  | 20 => ⟨S4x128x128, .f32⟩
  | 21 => ⟨S64x4x128x128, .f32⟩
  | 22 => ⟨S4x64x64x128, .f32⟩
  | 23 => ⟨S64x4x64x128, .f32⟩
  | 24 => ⟨S_, .f32⟩
  | 25 => ⟨S64x4x64x128, .f32⟩
  | 26 => ⟨S_, .f32⟩
  | 27 => ⟨S64x4x64x128, .f32⟩
  | 28 => ⟨S_, .f32⟩
  | 29 => ⟨S64x4x64x128, .f32⟩
  | 30 => ⟨S_, .f32⟩
  | 31 => ⟨S64x4x64x128, .f32⟩
  | 32 => ⟨S_, .f32⟩
  | 33 => ⟨S64x4x64x64, .f32⟩
  | 34 => ⟨S_, .f32⟩
  | 35 => ⟨S64x4x1x128, .f32⟩
  | 36 => ⟨S_, .i32⟩
  | 37 => ⟨S64x4x128x128, .f32⟩
  | 38 => ⟨S64x4x64x128, .f32⟩
  | 39 => ⟨S64x4x64x128, .f32⟩
  | 40 => ⟨S64x4x64x128, .f32⟩
  | 41 => ⟨S64x4x64x128, .f32⟩
  | 42 => ⟨S64x4x64x64, .f32⟩
  | 43 => ⟨S64x4x1x128, .f32⟩
  | 44 => ⟨S64x4x64x128, .f32⟩
  | 45 => ⟨S_, .i32⟩
  | 46 => ⟨S4x128x128, .f32⟩
  | 47 => ⟨S64x4x64x128, .f32⟩
  | 48 => ⟨S64x4x64x128, .f32⟩
  | 49 => ⟨S64x4x64x128, .f32⟩
  | 50 => ⟨S64x4x64x128, .f32⟩
  | 51 => ⟨S64x4x64x64, .f32⟩
  | 52 => ⟨S64x4x1x128, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x4x128x128, .f32⟩
  | 63 => ⟨S4x128x128, .f32⟩
  | 64 => ⟨S_, .i32⟩
  | 65 => ⟨S_, .i32⟩
  | 66 => ⟨S_, .i32⟩
  | 67 => ⟨S1x4x64x128, .f32⟩
  | 68 => ⟨S4x64x128, .f32⟩
  | 69 => ⟨S_, .i32⟩
  | 70 => ⟨S_, .i32⟩
  | 71 => ⟨S_, .i32⟩
  | 72 => ⟨S1x4x64x128, .f32⟩
  | 73 => ⟨S4x64x128, .f32⟩
  | 74 => ⟨S_, .i32⟩
  | 75 => ⟨S_, .i32⟩
  | 76 => ⟨S_, .i32⟩
  | 77 => ⟨S1x4x64x128, .f32⟩
  | 78 => ⟨S4x64x128, .f32⟩
  | 79 => ⟨S_, .i32⟩
  | 80 => ⟨S_, .i32⟩
  | 81 => ⟨S_, .i32⟩
  | 82 => ⟨S1x4x64x128, .f32⟩
  | 83 => ⟨S4x64x128, .f32⟩
  | 84 => ⟨S_, .i32⟩
  | 85 => ⟨S_, .i32⟩
  | 86 => ⟨S_, .i32⟩
  | 87 => ⟨S1x4x64x64, .f32⟩
  | 88 => ⟨S4x64x64, .f32⟩
  | 89 => ⟨S_, .i32⟩
  | 90 => ⟨S_, .i32⟩
  | 91 => ⟨S_, .i32⟩
  | 92 => ⟨S1x4x1x128, .f32⟩
  | 93 => ⟨S4x1x128, .f32⟩
  | 94 => ⟨S_, .i32⟩
  | 95 => ⟨S_, .i32⟩
  | 96 => ⟨S_, .i32⟩
  | 97 => ⟨S1x4x64x128, .f32⟩
  | 98 => ⟨S4x64x128, .f32⟩
  | 99 => ⟨S4x64x128, .f32⟩
  | 100 => ⟨S4x64x128, .f32⟩
  | 101 => ⟨S4x64x128, .f32⟩
  | 102 => ⟨S4x64x128, .f32⟩
  | 103 => ⟨S4x64x128, .f32⟩
  | 104 => ⟨S4x128x128, .f32⟩
  | 105 => ⟨S4x128x128, .f32⟩
  | 106 => ⟨S4x128x128, .f32⟩
  | 107 => ⟨S4x128x128, .f32⟩
  | 108 => ⟨S4x128x64, .f32⟩
  | 109 => ⟨S4x64x128, .f32⟩
  | 110 => ⟨S4x128x64, .f32⟩
  | 111 => ⟨S4x64x128, .f32⟩
  | 112 => ⟨S4x128x128, .f32⟩
  | 113 => ⟨S_, .f32⟩
  | 114 => ⟨S4x128, .f32⟩
  | 115 => ⟨S4x1x128, .f32⟩
  | 116 => ⟨S4x128x128, .f32⟩
  | 117 => ⟨S4x128x128, .f32⟩
  | 118 => ⟨S4x128x64, .f32⟩
  | 119 => ⟨S4x64x128, .f32⟩
  | 120 => ⟨S4x64x128, .f32⟩
  | 121 => ⟨S4x64x64, .f32⟩
  | 122 => ⟨S4x128x128, .f32⟩
  | 123 => ⟨S4x128x128, .f32⟩
  | 124 => ⟨S4x128x128, .f32⟩
  | 125 => ⟨S4x64x128, .f32⟩
  | 126 => ⟨S4x64x128, .f32⟩
  | 127 => ⟨S4x128x128, .f32⟩
  | _ => ⟨S4x4096x128, .f32⟩

abbrev hbmTy0_1 (i : Nat) : BufTy := match i % 128 with
  | 0 => ⟨S4x128x128, .f32⟩
  | 1 => ⟨S4x128x128, .f32⟩
  | 2 => ⟨S4x64x128, .f32⟩
  | 3 => ⟨S1x4x64x128, .f32⟩
  | 4 => ⟨S_, .i32⟩
  | 5 => ⟨S_, .i32⟩
  | 6 => ⟨S_, .i32⟩
  | 7 => ⟨S64x4x64x128, .f32⟩
  | 8 => ⟨S1x4x64x128, .f32⟩
  | 9 => ⟨S_, .i32⟩
  | 10 => ⟨S_, .i32⟩
  | 11 => ⟨S_, .i32⟩
  | 12 => ⟨S64x4x64x128, .f32⟩
  | 13 => ⟨S1x4x64x128, .f32⟩
  | 14 => ⟨S_, .i32⟩
  | 15 => ⟨S_, .i32⟩
  | 16 => ⟨S_, .i32⟩
  | 17 => ⟨S64x4x64x128, .f32⟩
  | 18 => ⟨S1x4x64x128, .f32⟩
  | 19 => ⟨S_, .i32⟩
  | 20 => ⟨S_, .i32⟩
  | 21 => ⟨S_, .i32⟩
  | 22 => ⟨S64x4x64x128, .f32⟩
  | 23 => ⟨S1x4x64x64, .f32⟩
  | 24 => ⟨S_, .i32⟩
  | 25 => ⟨S_, .i32⟩
  | 26 => ⟨S_, .i32⟩
  | 27 => ⟨S64x4x64x64, .f32⟩
  | 28 => ⟨S1x4x1x128, .f32⟩
  | 29 => ⟨S_, .i32⟩
  | 30 => ⟨S_, .i32⟩
  | 31 => ⟨S_, .i32⟩
  | 32 => ⟨S64x4x1x128, .f32⟩
  | 33 => ⟨S_, .i32⟩
  | 34 => ⟨S_, .i32⟩
  | 35 => ⟨S_, .i1⟩
  | 36 => ⟨S64x64, .i1⟩
  | 37 => ⟨S64x64, .i32⟩
  | 38 => ⟨S_, .i32⟩
  | 39 => ⟨S64x64, .i32⟩
  | 40 => ⟨S64x64, .i32⟩
  | 41 => ⟨S64x64, .i32⟩
  | 42 => ⟨S64x64, .i1⟩
  | 43 => ⟨S_, .i1⟩
  | 44 => ⟨S64x64, .i1⟩
  | 45 => ⟨S64x64, .i1⟩
  | 46 => ⟨S_, .f32⟩
  | 47 => ⟨S_, .f32⟩
  | 48 => ⟨S64x4x64x64, .i1⟩
  | 49 => ⟨S64x4x64x64, .f32⟩
  | 50 => ⟨S64x4x64x64, .f32⟩
  | 51 => ⟨S4x64x64x128, .f32⟩
  | 52 => ⟨S4x4096x128, .f32⟩
  | 53 => ⟨S4x64x64x128, .f32⟩
  | 54 => ⟨S4x4096x128, .f32⟩
  | 55 => ⟨S4x64x64x128, .f32⟩
  | 56 => ⟨S4x4096x128, .f32⟩
  | 57 => ⟨S4x64x64x128, .f32⟩
  | 58 => ⟨S4x4096x128, .f32⟩
  | 59 => ⟨S4x64x64x64, .f32⟩
  | 60 => ⟨S4x4096x64, .f32⟩
  | 61 => ⟨S4x64x1x128, .f32⟩
  | _ => ⟨S4x4096x128, .f32⟩

abbrev hbmTy (i : Nat) : BufTy := match i / 128 with
  | 0 => hbmTy0_0 i
  | 1 => hbmTy0_1 i
  | _ => ⟨S4x4096x128, .f32⟩

abbrev bufTy : (tb : Table) → Fin (tcTables nBuf tb) → BufTy
  | .hbm, ⟨i, _⟩ => hbmTy i
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_v21_10 : Ref sig .tc := ⟨.hbm, 47, rfl⟩
abbrev main_v21_11 : Ref sig .tc := ⟨.hbm, 48, rfl⟩
abbrev main_v21_12 : Ref sig .tc := ⟨.hbm, 49, rfl⟩
abbrev main_v21_13 : Ref sig .tc := ⟨.hbm, 50, rfl⟩
abbrev main_v21_14 : Ref sig .tc := ⟨.hbm, 51, rfl⟩
abbrev main_v21_15 : Ref sig .tc := ⟨.hbm, 52, rfl⟩
abbrev main_while0c_c_23 : Ref sig .tc := ⟨.hbm, 53, rfl⟩
abbrev main_while0c_v36 : Ref sig .tc := ⟨.hbm, 54, rfl⟩
abbrev main_while0b_c_23 : Ref sig .tc := ⟨.hbm, 55, rfl⟩
abbrev main_while0b_v36 : Ref sig .tc := ⟨.hbm, 56, rfl⟩
abbrev main_while0b_c_24 : Ref sig .tc := ⟨.hbm, 57, rfl⟩
abbrev main_while0b_v37 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v38 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v39 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v40 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v41 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v42 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v43 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_call6_v0 : Ref sig .tc := ⟨.hbm, 92, rfl⟩
abbrev main_while0b_v44 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_v0 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_cst_25 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_call8_v0 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_v77 : Ref sig .tc := ⟨.hbm, 135, rfl⟩
abbrev main_while0b_call9_v0 : Ref sig .tc := ⟨.hbm, 136, rfl⟩
abbrev main_while0b_call9_c : Ref sig .tc := ⟨.hbm, 137, rfl⟩
abbrev main_while0b_call9_c_0 : Ref sig .tc := ⟨.hbm, 138, rfl⟩
abbrev main_while0b_call9_c_1 : Ref sig .tc := ⟨.hbm, 139, rfl⟩
abbrev main_while0b_v78 : Ref sig .tc := ⟨.hbm, 140, rfl⟩
abbrev main_while0b_call10_v0 : Ref sig .tc := ⟨.hbm, 141, rfl⟩
abbrev main_while0b_call10_c : Ref sig .tc := ⟨.hbm, 142, rfl⟩
abbrev main_while0b_call10_c_0 : Ref sig .tc := ⟨.hbm, 143, rfl⟩
abbrev main_while0b_call10_c_1 : Ref sig .tc := ⟨.hbm, 144, rfl⟩
abbrev main_while0b_v79 : Ref sig .tc := ⟨.hbm, 145, rfl⟩
abbrev main_while0b_call11_v0 : Ref sig .tc := ⟨.hbm, 146, rfl⟩
abbrev main_while0b_call11_c : Ref sig .tc := ⟨.hbm, 147, rfl⟩
abbrev main_while0b_call11_c_0 : Ref sig .tc := ⟨.hbm, 148, rfl⟩
abbrev main_while0b_call11_c_1 : Ref sig .tc := ⟨.hbm, 149, rfl⟩
abbrev main_while0b_v80 : Ref sig .tc := ⟨.hbm, 150, rfl⟩
abbrev main_while0b_call12_v0 : Ref sig .tc := ⟨.hbm, 151, rfl⟩
abbrev main_while0b_call12_c : Ref sig .tc := ⟨.hbm, 152, rfl⟩
abbrev main_while0b_call12_c_0 : Ref sig .tc := ⟨.hbm, 153, rfl⟩
abbrev main_while0b_call12_c_1 : Ref sig .tc := ⟨.hbm, 154, rfl⟩
abbrev main_while0b_v81 : Ref sig .tc := ⟨.hbm, 155, rfl⟩
abbrev main_while0b_call13_v0 : Ref sig .tc := ⟨.hbm, 156, rfl⟩
abbrev main_while0b_call13_c : Ref sig .tc := ⟨.hbm, 157, rfl⟩
abbrev main_while0b_call13_c_0 : Ref sig .tc := ⟨.hbm, 158, rfl⟩
abbrev main_while0b_call13_c_1 : Ref sig .tc := ⟨.hbm, 159, rfl⟩
abbrev main_while0b_v82 : Ref sig .tc := ⟨.hbm, 160, rfl⟩
abbrev main_while0b_c_26 : Ref sig .tc := ⟨.hbm, 161, rfl⟩
abbrev main_while0b_v83 : Ref sig .tc := ⟨.hbm, 162, rfl⟩
abbrev main_c_6 : Ref sig .tc := ⟨.hbm, 163, rfl⟩
abbrev main_v22 : Ref sig .tc := ⟨.hbm, 164, rfl⟩
abbrev main_call14_v0 : Ref sig .tc := ⟨.hbm, 165, rfl⟩
abbrev main_call14_c : Ref sig .tc := ⟨.hbm, 166, rfl⟩
abbrev main_call14_v1 : Ref sig .tc := ⟨.hbm, 167, rfl⟩
abbrev main_call14_v2 : Ref sig .tc := ⟨.hbm, 168, rfl⟩
abbrev main_call14_v3 : Ref sig .tc := ⟨.hbm, 169, rfl⟩
abbrev main_call14_v4 : Ref sig .tc := ⟨.hbm, 170, rfl⟩
abbrev main_call14_c_0 : Ref sig .tc := ⟨.hbm, 171, rfl⟩
abbrev main_call14_v5 : Ref sig .tc := ⟨.hbm, 172, rfl⟩
abbrev main_v23 : Ref sig .tc := ⟨.hbm, 173, rfl⟩
abbrev main_cst_7 : Ref sig .tc := ⟨.hbm, 174, rfl⟩
abbrev main_call15_v0 : Ref sig .tc := ⟨.hbm, 175, rfl⟩
abbrev main_call15_v1 : Ref sig .tc := ⟨.hbm, 176, rfl⟩
abbrev main_call15_v2 : Ref sig .tc := ⟨.hbm, 177, rfl⟩
abbrev main_v24 : Ref sig .tc := ⟨.hbm, 178, rfl⟩
abbrev main_v25 : Ref sig .tc := ⟨.hbm, 179, rfl⟩
abbrev main_v26 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_v32 : Ref sig .tc := ⟨.hbm, 186, rfl⟩
abbrev main_v33 : Ref sig .tc := ⟨.hbm, 187, rfl⟩
abbrev main_v34 : Ref sig .tc := ⟨.hbm, 188, rfl⟩
abbrev main_v35 : Ref sig .tc := ⟨.hbm, 189, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x128 : Shape := ⟨3, ![4, 4096, 128]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S4x256x128 : Shape := ⟨3, ![4, 256, 128]⟩
abbrev S4x256x64 : Shape := ⟨3, ![4, 256, 64]⟩
abbrev S4x4x1x128 : Shape := ⟨4, ![4, 4, 1, 128]⟩
abbrev S4x4x128x128 : Shape := ⟨4, ![4, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x1x128 : Shape := ⟨4, ![1, 1, 1, 128]⟩
abbrev S1x128 : Shape := ⟨2, ![1, 128]⟩

abbrev nBuf : Space → Nat
  | .hbm => 8
  | .vmem => 17
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S4x4096x128, .f32⟩
  | .hbm, ⟨4, _⟩ => ⟨S4x4096x64, .f32⟩
  | .hbm, ⟨5, _⟩ => ⟨S4x64x1x128, .f32⟩
  | .hbm, ⟨6, _⟩ => ⟨S4x4096x128, .f32⟩
  | .hbm, ⟨7, _⟩ => ⟨S4x64x128x128, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x64, .f32⟩
  | .local _ .vmem, ⟨9, _⟩ => ⟨S4x256x64, .f32⟩
  | .local _ .vmem, ⟨10, _⟩ => ⟨S4x4x1x128, .f32⟩
  | .local _ .vmem, ⟨11, _⟩ => ⟨S4x4x1x128, .f32⟩
  | .local _ .vmem, ⟨12, _⟩ => ⟨S4x256x128, .f32⟩
  | .local _ .vmem, ⟨13, _⟩ => ⟨S4x256x128, .f32⟩
  | .local _ .vmem, ⟨14, _⟩ => ⟨S4x4x128x128, .f32⟩
  | .local _ .vmem, ⟨15, _⟩ => ⟨S4x4x128x128, .f32⟩
  | .local _ .vmem, ⟨16, _⟩ => ⟨S4x128x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4096x128 : Shape := ⟨3, ![4, 4096, 128]⟩
abbrev S4x4096x64 : Shape := ⟨3, ![4, 4096, 64]⟩
abbrev S4x64x1x128 : Shape := ⟨4, ![4, 64, 1, 128]⟩
abbrev S4x64x64x128 : Shape := ⟨4, ![4, 64, 64, 128]⟩
abbrev S64x4x64x128 : Shape := ⟨4, ![64, 4, 64, 128]⟩
abbrev S4x64x64x64 : Shape := ⟨4, ![4, 64, 64, 64]⟩
abbrev S64x4x64x64 : Shape := ⟨4, ![64, 4, 64, 64]⟩
abbrev S64x4x1x128 : Shape := ⟨4, ![64, 4, 1, 128]⟩
abbrev S_ : Shape := ⟨0, ![]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S4x64x128x128 : Shape := ⟨4, ![4, 64, 128, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S4x4096x128, .f32⟩
  | .hbm, ⟨4, _⟩ => ⟨S4x4096x64, .f32⟩
  | .hbm, ⟨5, _⟩ => ⟨S4x64x1x128, .f32⟩
  | .hbm, ⟨6, _⟩ => ⟨S4x64x64x128, .f32⟩
  | .hbm, ⟨7, _⟩ => ⟨S64x4x64x128, .f32⟩
  | .hbm, ⟨8, _⟩ => ⟨S4x64x64x128, .f32⟩
  | .hbm, ⟨9, _⟩ => ⟨S64x4x64x128, .f32⟩
  | .hbm, ⟨10, _⟩ => ⟨S4x64x64x128, .f32⟩
  | .hbm, ⟨11, _⟩ => ⟨S64x4x64x128, .f32⟩
  | .hbm, ⟨12, _⟩ => ⟨S4x64x64x128, .f32⟩
  | .hbm, ⟨13, _⟩ => ⟨S64x4x64x128, .f32⟩
  | .hbm, ⟨14, _⟩ => ⟨S4x64x64x64, .f32⟩
  | .hbm, ⟨15, _⟩ => ⟨S64x4x64x64, .f32⟩
  | .hbm, ⟨16, _⟩ => ⟨S64x4x1x128, .f32⟩
  | .hbm, ⟨17, _⟩ => ⟨S_, .f32⟩
  | .hbm, ⟨18, _⟩ => ⟨S4x128x128, .f32⟩
  | .hbm, ⟨19, _⟩ => ⟨S_, .f32⟩
  | .hbm, ⟨20, _⟩ => ⟨S64x4x64x128, .f32⟩
  | .hbm, ⟨21, _⟩ => ⟨S_, .f32⟩
  | .hbm, ⟨22, _⟩ => ⟨S64x4x128x128, .f32⟩
  | .hbm, ⟨23, _⟩ => ⟨S_, .i32⟩
  | .hbm, ⟨24, _⟩ => ⟨S64x4x64x128, .f32⟩
  | .hbm, ⟨25, _⟩ => ⟨S64x4x64x128, .f32⟩
  | .hbm, ⟨26, _⟩ => ⟨S64x4x64x128, .f32⟩
  | .hbm, ⟨27, _⟩ => ⟨S64x4x64x128, .f32⟩
  | .hbm, ⟨28, _⟩ => ⟨S64x4x64x64, .f32⟩
  | .hbm, ⟨29, _⟩ => ⟨S64x4x1x128, .f32⟩
  | .hbm, ⟨30, _⟩ => ⟨S_, .i32⟩
  | .hbm, ⟨31, _⟩ => ⟨S4x128x128, .f32⟩
  | .hbm, ⟨32, _⟩ => ⟨S64x4x64x128, .f32⟩
  | .hbm, ⟨33, _⟩ => ⟨S64x4x128x128, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4x64x128, .f32⟩
  | .hbm, ⟨40, _⟩ => ⟨S4x64x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x64x128, .f32⟩
  | .hbm, ⟨45, _⟩ => ⟨S4x64x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x64x128, .f32⟩
  | .hbm, ⟨50, _⟩ => ⟨S4x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x4x64x128, .f32⟩
  | .hbm, ⟨55, _⟩ => ⟨S4x64x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x4x64x64, .f32⟩
  | .hbm, ⟨60, _⟩ => ⟨S4x64x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x4x1x128, .f32⟩
  | .hbm, ⟨65, _⟩ => ⟨S4x1x128, .f32⟩
  | .hbm, ⟨66, _⟩ => ⟨S4x64x128, .f32⟩
  | .hbm, ⟨67, _⟩ => ⟨S4x64x128, .f32⟩
  | .hbm, ⟨68, _⟩ => ⟨S4x64x128, .f32⟩
  | .hbm, ⟨69, _⟩ => ⟨S4x64x128, .f32⟩
  | .hbm, ⟨70, _⟩ => ⟨S4x64x128, .f32⟩
  | .hbm, ⟨71, _⟩ => ⟨S4x128x128, .f32⟩
  | .hbm, ⟨72, _⟩ => ⟨S4x128x128, .f32⟩
  | .hbm, ⟨73, _⟩ => ⟨S4x128x128, .f32⟩
  | .hbm, ⟨74, _⟩ => ⟨S4x128x128, .f32⟩
  | .hbm, ⟨75, _⟩ => ⟨S1x4x64x128, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S64x4x64x128, .f32⟩
  | .hbm, ⟨80, _⟩ => ⟨S1x4x128x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S64x4x128x128, .f32⟩
  | .hbm, ⟨85, _⟩ => ⟨S_, .i32⟩
  | .hbm, ⟨86, _⟩ => ⟨S_, .i32⟩
  | .hbm, ⟨87, _⟩ => ⟨S4x64x64x128, .f32⟩
  | .hbm, ⟨88, _⟩ => ⟨S4x4096x128, .f32⟩
  | .hbm, ⟨89, _⟩ => ⟨S4x64x128x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_c : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_v14_8 : Ref sig .tc := ⟨.hbm, 32, rfl⟩
abbrev main_v14_9 : Ref sig .tc := ⟨.hbm, 33, rfl⟩
abbrev main_while0c_c_11 : Ref sig .tc := ⟨.hbm, 34, rfl⟩
abbrev main_while0c_v18 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v18 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v19 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_c_1 : Ref sig .tc := ⟨.hbm, 48, rfl⟩
abbrev main_while0b_call2_v0 : Ref sig .tc := ⟨.hbm, 49, rfl⟩
abbrev main_while0b_v20 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_v0 : Ref sig .tc := ⟨.hbm, 54, rfl⟩
abbrev main_while0b_v21 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_c_1 : Ref sig .tc := ⟨.hbm, 58, rfl⟩
abbrev main_while0b_call4_v0 : Ref sig .tc := ⟨.hbm, 59, rfl⟩
abbrev main_while0b_v22 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_c_1 : Ref sig .tc := ⟨.hbm, 63, rfl⟩
abbrev main_while0b_call5_v0 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_v33 : Ref sig .tc := ⟨.hbm, 79, rfl⟩
abbrev main_while0b_call7_v0 : Ref sig .tc := ⟨.hbm, 80, rfl⟩
abbrev main_while0b_call7_c : Ref sig .tc := ⟨.hbm, 81, rfl⟩
abbrev main_while0b_call7_c_0 : Ref sig .tc := ⟨.hbm, 82, rfl⟩
abbrev main_while0b_call7_c_1 : Ref sig .tc := ⟨.hbm, 83, rfl⟩
abbrev main_while0b_v34 : Ref sig .tc := ⟨.hbm, 84, rfl⟩
abbrev main_while0b_c_11 : Ref sig .tc := ⟨.hbm, 85, rfl⟩
abbrev main_while0b_v35 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4096x1024 : Shape := ⟨2, ![4096, 1024]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .bf16⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .bf16⟩
  | .hbm, ⟨3, _⟩ => ⟨S1024x4096, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x1024 : Shape := ⟨2, ![4096, 1024]⟩
abbrev S4096x8192 : Shape := ⟨2, ![4096, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S4096x8192, .bf16⟩
  | .hbm, ⟨4, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .f32⟩
  | .hbm, ⟨3, _⟩ => ⟨S1024x8192, .f32⟩
  | .hbm, ⟨4, _⟩ => ⟨S4096x8192, .f32⟩
  | .hbm, ⟨5, _⟩ => ⟨S8192x1024, .f32⟩
  | .hbm, ⟨6, _⟩ => ⟨S1024x8192, .f32⟩
  | .hbm, ⟨7, _⟩ => ⟨S1024x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x8192 : Shape := ⟨2, ![4096, 8192]⟩
abbrev S1024x8192 : Shape := ⟨2, ![1024, 8192]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x8192, .bf16⟩
  | .hbm, ⟨4, _⟩ => ⟨S1024x8192, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x8192 : Shape := ⟨2, ![4096, 8192]⟩
abbrev S1024x8192 : Shape := ⟨2, ![1024, 8192]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x8192, .f32⟩
  | .hbm, ⟨6, _⟩ => ⟨S4096x1024, .f32⟩
  | .hbm, ⟨7, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S4096x1024, .bf16⟩
  | .hbm, ⟨3, _⟩ => ⟨S512x1024, .bf16⟩
  | .hbm, ⟨4, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | .hbm, ⟨6, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x8192 : Shape := ⟨2, ![1024, 8192]⟩
abbrev S4096x8192 : Shape := ⟨2, ![4096, 8192]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x1024, .bf16⟩
  | .hbm, ⟨3, _⟩ => ⟨S1024x8192, .bf16⟩
  | .hbm, ⟨4, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel17.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x1024x1025 : Shape := ⟨3, ![4, 1024, 1025]⟩
abbrev S4096x1025 : Shape := ⟨2, ![4096, 1025]⟩
abbrev S256x1025 : Shape := ⟨2, ![256, 1025]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1025, .f32⟩
  | .hbm, ⟨1, _⟩ => ⟨S4x1024x1025, .f32⟩
  | .hbm, ⟨2, _⟩ => ⟨S4x1024x1025, .f32⟩
  | .hbm, ⟨3, _⟩ => ⟨S4x1024x1025, .f32⟩
  | .hbm, ⟨4, _⟩ => ⟨S4096x1025, .f32⟩
  | .hbm, ⟨5, _⟩ => ⟨S4096x1025, .f32⟩
  | .hbm, ⟨6, _⟩ => ⟨S4096x1025, .f32⟩
  | .hbm, ⟨7, _⟩ => ⟨S4096x1025, .f32⟩
  | .hbm, ⟨8, _⟩ => ⟨S4096x1025, .f32⟩
  | .hbm, ⟨9, _⟩ => ⟨S4096x1025, .f32⟩
  | .hbm, ⟨10, _⟩ => ⟨S4096x1025, .f32⟩
  | .local _ .vmem, ⟨0, _⟩ => ⟨S256x1025, .f32⟩
  | .local _ .vmem, ⟨1, _⟩ => ⟨S256x1025, .f32⟩
  | .local _ .vmem, ⟨2, _⟩ => ⟨S256x1025, .f32⟩
  | .local _ .vmem, ⟨3, _⟩ => ⟨S256x1025, .f32⟩
  | .local _ .vmem, ⟨4, _⟩ => ⟨S256x1025, .f32⟩
  | .local _ .vmem, ⟨5, _⟩ => ⟨S256x1025, .f32⟩
  | .local _ .vmem, ⟨6, _⟩ => ⟨S256x1025, .f32⟩
  | .local _ .vmem, ⟨7, _⟩ => ⟨S256x1025, .f32⟩
  | .local _ .vmem, ⟨8, _⟩ => ⟨S256x1025, .f32⟩
  | .local _ .vmem, ⟨9, _⟩ => ⟨S256x1025, .f32⟩
  | .local _ .vmem, ⟨10, _⟩ => ⟨S256x1025, .f32⟩
  | .local _ .vmem, ⟨11, _⟩ => ⟨S256x1025, .f32⟩
  | .local _ .vmem, ⟨12, _⟩ => ⟨S256x1025, .f32⟩
  | .local _ .vmem, ⟨13, _⟩ => ⟨S256x1025, .f32⟩
  | _, _ => ⟨S4x1024x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1025 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1025 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1025 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1025 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1025 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S4x1024x1025 : Shape := ⟨3, ![4, 1024, 1025]⟩
abbrev S4096x1025 : Shape := ⟨2, ![4096, 1025]⟩
abbrev S256x1025 : Shape := ⟨2, ![256, 1025]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1025, .f32⟩
  | .hbm, ⟨1, _⟩ => ⟨S4x1024x1025, .f32⟩
  | .hbm, ⟨2, _⟩ => ⟨S4x1024x1025, .f32⟩
  | .hbm, ⟨3, _⟩ => ⟨S4x1024x1025, .f32⟩
  | .hbm, ⟨4, _⟩ => ⟨S4096x1025, .f32⟩
  | .hbm, ⟨5, _⟩ => ⟨S4096x1025, .f32⟩
  | .hbm, ⟨6, _⟩ => ⟨S4096x1025, .f32⟩
  | .hbm, ⟨7, _⟩ => ⟨S4096x1025, .f32⟩
  | .hbm, ⟨8, _⟩ => ⟨S4096x1025, .f32⟩
  | .hbm, ⟨9, _⟩ => ⟨S4096x1025, .f32⟩
  | .hbm, ⟨10, _⟩ => ⟨S4096x1025, .f32⟩
  | .local _ .vmem, ⟨0, _⟩ => ⟨S256x1025, .f32⟩
  | .local _ .vmem, ⟨1, _⟩ => ⟨S256x1025, .f32⟩
  | .local _ .vmem, ⟨2, _⟩ => ⟨S256x1025, .f32⟩
  | .local _ .vmem, ⟨3, _⟩ => ⟨S256x1025, .f32⟩
  | .local _ .vmem, ⟨4, _⟩ => ⟨S256x1025, .f32⟩
  | .local _ .vmem, ⟨5, _⟩ => ⟨S256x1025, .f32⟩
  | .local _ .vmem, ⟨6, _⟩ => ⟨S256x1025, .f32⟩
  | .local _ .vmem, ⟨7, _⟩ => ⟨S256x1025, .f32⟩
  | .local _ .vmem, ⟨8, _⟩ => ⟨S256x1025, .f32⟩
  | .local _ .vmem, ⟨9, _⟩ => ⟨S256x1025, .f32⟩
  | .local _ .vmem, ⟨10, _⟩ => ⟨S256x1025, .f32⟩
  | .local _ .vmem, ⟨11, _⟩ => ⟨S256x1025, .f32⟩
  | .local _ .vmem, ⟨12, _⟩ => ⟨S256x1025, .f32⟩
  | .local _ .vmem, ⟨13, _⟩ => ⟨S256x1025, .f32⟩
  | _, _ => ⟨S4x1024x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1025 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1025 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1025 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1025 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1025 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x1024x1025 : Shape := ⟨3, ![4, 1024, 1025]⟩
abbrev S_ : Shape := ⟨0, ![]⟩
abbrev S4096x1025 : Shape := ⟨2, ![4096, 1025]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1025, .f32⟩
  | .hbm, ⟨1, _⟩ => ⟨S4x1024x1025, .f32⟩
  | .hbm, ⟨2, _⟩ => ⟨S4x1024x1025, .f32⟩
  | .hbm, ⟨3, _⟩ => ⟨S4x1024x1025, .f32⟩
  | .hbm, ⟨4, _⟩ => ⟨S_, .f32⟩
  | .hbm, ⟨5, _⟩ => ⟨S4x1024x1025, .f32⟩
  | .hbm, ⟨6, _⟩ => ⟨S4x1024x1025, .f32⟩
  | .hbm, ⟨7, _⟩ => ⟨S_, .f32⟩
  | .hbm, ⟨8, _⟩ => ⟨S4x1024x1025, .f32⟩
  | .hbm, ⟨9, _⟩ => ⟨S4x1024x1025, .f32⟩
  | .hbm, ⟨10, _⟩ => ⟨S4x1024x1025, .f32⟩
  | .hbm, ⟨11, _⟩ => ⟨S_, .f32⟩
  | .hbm, ⟨12, _⟩ => ⟨S4x1024x1025, .f32⟩
  | .hbm, ⟨13, _⟩ => ⟨S4x1024x1025, .f32⟩
  | .hbm, ⟨14, _⟩ => ⟨S4x1024x1025, .f32⟩
  | .hbm, ⟨15, _⟩ => ⟨S_, .f32⟩
  | .hbm, ⟨16, _⟩ => ⟨S4x1024x1025, .f32⟩
  | .hbm, ⟨17, _⟩ => ⟨S4x1024x1025, .f32⟩
  | .hbm, ⟨18, _⟩ => ⟨S4x1024x1025, .f32⟩
  | .hbm, ⟨19, _⟩ => ⟨S_, .f32⟩
  | .hbm, ⟨20, _⟩ => ⟨S4x1024x1025, .f32⟩
  | .hbm, ⟨21, _⟩ => ⟨S4x1024x1025, .f32⟩
  | .hbm, ⟨22, _⟩ => ⟨S_, .f32⟩
  | .hbm, ⟨23, _⟩ => ⟨S4x1024x1025, .f32⟩
  | .hbm, ⟨24, _⟩ => ⟨S4x1024x1025, .f32⟩
  | .hbm, ⟨25, _⟩ => ⟨S4x1024x1025, .f32⟩
  | .hbm, ⟨26, _⟩ => ⟨S_, .f32⟩
  | .hbm, ⟨27, _⟩ => ⟨S4x1024x1025, .f32⟩
  | .hbm, ⟨28, _⟩ => ⟨S4x1024x1025, .f32⟩
  | .hbm, ⟨29, _⟩ => ⟨S4x1024x1025, .f32⟩
  | .hbm, ⟨30, _⟩ => ⟨S_, .f32⟩
  | .hbm, ⟨31, _⟩ => ⟨S4x1024x1025, .f32⟩
  | .hbm, ⟨32, _⟩ => ⟨S4x1024x1025, .f32⟩
  | .hbm, ⟨33, _⟩ => ⟨S4x1024x1025, .f32⟩
  | .hbm, ⟨34, _⟩ => ⟨S_, .f32⟩
  | .hbm, ⟨35, _⟩ => ⟨S4x1024x1025, .f32⟩
  | .hbm, ⟨36, _⟩ => ⟨S4x1024x1025, .f32⟩
  | .hbm, ⟨37, _⟩ => ⟨S4096x1025, .f32⟩
  | .hbm, ⟨38, _⟩ => ⟨S4096x1025, .f32⟩
  | .hbm, ⟨39, _⟩ => ⟨S4096x1025, .f32⟩
  | _, _ => ⟨S4x1024x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S4x4x192 : Shape := ⟨3, ![4, 4, 192]⟩
abbrev S16x192 : Shape := ⟨2, ![16, 192]⟩

abbrev nBuf : Space → Nat
  | .hbm => 11
  | .vmem => 7
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S16x192, .f32⟩
  | .hbm, ⟨5, _⟩ => ⟨S16x192, .f32⟩
  | .hbm, ⟨6, _⟩ => ⟨S16x192, .f32⟩
  | .hbm, ⟨7, _⟩ => ⟨S16x192, .f32⟩
  | .hbm, ⟨8, _⟩ => ⟨S16x192, .f32⟩
  | .hbm, ⟨9, _⟩ => ⟨S16x192, .f32⟩
  | .hbm, ⟨10, _⟩ => ⟨S16x192, .f32⟩
  | .local _ .vmem, ⟨0, _⟩ => ⟨S16x192, .f32⟩
  | .local _ .vmem, ⟨1, _⟩ => ⟨S16x192, .f32⟩
  | .local _ .vmem, ⟨2, _⟩ => ⟨S16x192, .f32⟩
  | .local _ .vmem, ⟨3, _⟩ => ⟨S16x192, .f32⟩
  | .local _ .vmem, ⟨4, _⟩ => ⟨S16x192, .f32⟩
  | .local _ .vmem, ⟨5, _⟩ => ⟨S16x192, .f32⟩
  | .local _ .vmem, ⟨6, _⟩ => ⟨S16x192, .f32⟩
  | _, _ => ⟨S4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S4x4x192 : Shape := ⟨3, ![4, 4, 192]⟩
abbrev S16x192 : Shape := ⟨2, ![16, 192]⟩

abbrev nBuf : Space → Nat
  | .hbm => 11
  | .vmem => 7
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S16x192, .f32⟩
  | .hbm, ⟨5, _⟩ => ⟨S16x192, .f32⟩
  | .hbm, ⟨6, _⟩ => ⟨S16x192, .f32⟩
  | .hbm, ⟨7, _⟩ => ⟨S16x192, .f32⟩
  | .hbm, ⟨8, _⟩ => ⟨S16x192, .f32⟩
  | .hbm, ⟨9, _⟩ => ⟨S16x192, .f32⟩
  | .hbm, ⟨10, _⟩ => ⟨S16x192, .f32⟩
  | .local _ .vmem, ⟨0, _⟩ => ⟨S16x192, .f32⟩
  | .local _ .vmem, ⟨1, _⟩ => ⟨S16x192, .f32⟩
  | .local _ .vmem, ⟨2, _⟩ => ⟨S16x192, .f32⟩
  | .local _ .vmem, ⟨3, _⟩ => ⟨S16x192, .f32⟩
  | .local _ .vmem, ⟨4, _⟩ => ⟨S16x192, .f32⟩
  | .local _ .vmem, ⟨5, _⟩ => ⟨S16x192, .f32⟩
  | .local _ .vmem, ⟨6, _⟩ => ⟨S16x192, .f32⟩
  | _, _ => ⟨S4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S4x4x192 : Shape := ⟨3, ![4, 4, 192]⟩
abbrev S_ : Shape := ⟨0, ![]⟩
abbrev S16x192 : Shape := ⟨2, ![16, 192]⟩

abbrev nBuf : Space → Nat
  | .hbm => 40
  | .vmem => 0
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S_, .f32⟩
  | .hbm, ⟨5, _⟩ => ⟨S4x4x192, .f32⟩
  | .hbm, ⟨6, _⟩ => ⟨S4x4x192, .f32⟩
  | .hbm, ⟨7, _⟩ => ⟨S_, .f32⟩
  | .hbm, ⟨8, _⟩ => ⟨S4x4x192, .f32⟩
  | .hbm, ⟨9, _⟩ => ⟨S4x4x192, .f32⟩
  | .hbm, ⟨10, _⟩ => ⟨S4x4x192, .f32⟩
  | .hbm, ⟨11, _⟩ => ⟨S_, .f32⟩
  | .hbm, ⟨12, _⟩ => ⟨S4x4x192, .f32⟩
  | .hbm, ⟨13, _⟩ => ⟨S4x4x192, .f32⟩
  | .hbm, ⟨14, _⟩ => ⟨S4x4x192, .f32⟩
  | .hbm, ⟨15, _⟩ => ⟨S_, .f32⟩
  | .hbm, ⟨16, _⟩ => ⟨S4x4x192, .f32⟩
  | .hbm, ⟨17, _⟩ => ⟨S4x4x192, .f32⟩
  | .hbm, ⟨18, _⟩ => ⟨S4x4x192, .f32⟩
  | .hbm, ⟨19, _⟩ => ⟨S_, .f32⟩
  | .hbm, ⟨20, _⟩ => ⟨S4x4x192, .f32⟩
  | .hbm, ⟨21, _⟩ => ⟨S4x4x192, .f32⟩
  | .hbm, ⟨22, _⟩ => ⟨S_, .f32⟩
  | .hbm, ⟨23, _⟩ => ⟨S4x4x192, .f32⟩
  | .hbm, ⟨24, _⟩ => ⟨S4x4x192, .f32⟩
  | .hbm, ⟨25, _⟩ => ⟨S4x4x192, .f32⟩
  | .hbm, ⟨26, _⟩ => ⟨S_, .f32⟩
  | .hbm, ⟨27, _⟩ => ⟨S4x4x192, .f32⟩
  | .hbm, ⟨28, _⟩ => ⟨S4x4x192, .f32⟩
  | .hbm, ⟨29, _⟩ => ⟨S4x4x192, .f32⟩
  | .hbm, ⟨30, _⟩ => ⟨S_, .f32⟩
  | .hbm, ⟨31, _⟩ => ⟨S4x4x192, .f32⟩
  | .hbm, ⟨32, _⟩ => ⟨S4x4x192, .f32⟩
  | .hbm, ⟨33, _⟩ => ⟨S4x4x192, .f32⟩
  | .hbm, ⟨34, _⟩ => ⟨S_, .f32⟩
  | .hbm, ⟨35, _⟩ => ⟨S4x4x192, .f32⟩
  | .hbm, ⟨36, _⟩ => ⟨S4x4x192, .f32⟩
  | .hbm, ⟨37, _⟩ => ⟨S16x192, .f32⟩
  | .hbm, ⟨38, _⟩ => ⟨S16x192, .f32⟩
  | .hbm, ⟨39, _⟩ => ⟨S16x192, .f32⟩
  | _, _ => ⟨S4x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S4x4 : Shape := ⟨2, ![4, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S_, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x4, .f32⟩
  | .hbm, ⟨11, _⟩ => ⟨S_, .f32⟩
  | .hbm, ⟨12, _⟩ => ⟨S4x4, .f32⟩
  | .hbm, ⟨13, _⟩ => ⟨S4x4, .f32⟩
  | .hbm, ⟨14, _⟩ => ⟨S4x4, .f32⟩
  | .hbm, ⟨15, _⟩ => ⟨S_, .f32⟩
  | .hbm, ⟨16, _⟩ => ⟨S4x4, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .f32⟩
  | .hbm, ⟨22, _⟩ => ⟨S_, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S_, .f32⟩
  | .hbm, ⟨35, _⟩ => ⟨S4x4, .f32⟩
  | .hbm, ⟨36, _⟩ => ⟨S4x4, .f32⟩
  | _, _ => ⟨S4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S4x3x64 : Shape := ⟨3, ![4, 3, 64]⟩
abbrev S_ : Shape := ⟨0, ![]⟩
abbrev S12x64 : Shape := ⟨2, ![12, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S_, .f32⟩
  | .hbm, ⟨5, _⟩ => ⟨S4x3x64, .f32⟩
  | .hbm, ⟨6, _⟩ => ⟨S4x3x64, .f32⟩
  | .hbm, ⟨7, _⟩ => ⟨S_, .f32⟩
  | .hbm, ⟨8, _⟩ => ⟨S4x3x64, .f32⟩
  | .hbm, ⟨9, _⟩ => ⟨S4x3x64, .f32⟩
  | .hbm, ⟨10, _⟩ => ⟨S4x3x64, .f32⟩
  | .hbm, ⟨11, _⟩ => ⟨S_, .f32⟩
  | .hbm, ⟨12, _⟩ => ⟨S4x3x64, .f32⟩
  | .hbm, ⟨13, _⟩ => ⟨S4x3x64, .f32⟩
  | .hbm, ⟨14, _⟩ => ⟨S4x3x64, .f32⟩
  | .hbm, ⟨15, _⟩ => ⟨S_, .f32⟩
  | .hbm, ⟨16, _⟩ => ⟨S4x3x64, .f32⟩
  | .hbm, ⟨17, _⟩ => ⟨S4x3x64, .f32⟩
  | .hbm, ⟨18, _⟩ => ⟨S4x3x64, .f32⟩
  | .hbm, ⟨19, _⟩ => ⟨S_, .f32⟩
  | .hbm, ⟨20, _⟩ => ⟨S4x3x64, .f32⟩
  | .hbm, ⟨21, _⟩ => ⟨S4x3x64, .f32⟩
  | .hbm, ⟨22, _⟩ => ⟨S_, .f32⟩
  | .hbm, ⟨23, _⟩ => ⟨S4x3x64, .f32⟩
  | .hbm, ⟨24, _⟩ => ⟨S4x3x64, .f32⟩
  | .hbm, ⟨25, _⟩ => ⟨S4x3x64, .f32⟩
  | .hbm, ⟨26, _⟩ => ⟨S_, .f32⟩
  | .hbm, ⟨27, _⟩ => ⟨S4x3x64, .f32⟩
  | .hbm, ⟨28, _⟩ => ⟨S4x3x64, .f32⟩
  | .hbm, ⟨29, _⟩ => ⟨S4x3x64, .f32⟩
  | .hbm, ⟨30, _⟩ => ⟨S_, .f32⟩
  | .hbm, ⟨31, _⟩ => ⟨S4x3x64, .f32⟩
  | .hbm, ⟨32, _⟩ => ⟨S4x3x64, .f32⟩
  | .hbm, ⟨33, _⟩ => ⟨S4x3x64, .f32⟩
  | .hbm, ⟨34, _⟩ => ⟨S_, .f32⟩
  | .hbm, ⟨35, _⟩ => ⟨S4x3x64, .f32⟩
  | .hbm, ⟨36, _⟩ => ⟨S4x3x64, .f32⟩
  | .hbm, ⟨37, _⟩ => ⟨S12x64, .f32⟩
  | .hbm, ⟨38, _⟩ => ⟨S12x64, .f32⟩
  | .hbm, ⟨39, _⟩ => ⟨S12x64, .f32⟩
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x3x512x128 : Shape := ⟨4, ![4, 3, 512, 128]⟩
abbrev S6144x128 : Shape := ⟨2, ![6144, 128]⟩
abbrev S3072x128 : Shape := ⟨2, ![3072, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x3x512x128, .f32⟩
  | .hbm, ⟨1, _⟩ => ⟨S4x3x512x128, .f32⟩
  | .hbm, ⟨2, _⟩ => ⟨S4x3x512x128, .f32⟩
  | .hbm, ⟨3, _⟩ => ⟨S4x3x512x128, .f32⟩
  | .hbm, ⟨4, _⟩ => ⟨S6144x128, .f32⟩
  | .hbm, ⟨5, _⟩ => ⟨S6144x128, .f32⟩
  | .hbm, ⟨6, _⟩ => ⟨S6144x128, .f32⟩
  | .hbm, ⟨7, _⟩ => ⟨S6144x128, .f32⟩
  | .hbm, ⟨8, _⟩ => ⟨S6144x128, .f32⟩
  | .hbm, ⟨9, _⟩ => ⟨S6144x128, .f32⟩
  | .hbm, ⟨10, _⟩ => ⟨S6144x128, .f32⟩
  | .local _ .vmem, ⟨0, _⟩ => ⟨S3072x128, .f32⟩
  | .local _ .vmem, ⟨1, _⟩ => ⟨S3072x128, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S3072x128, .f32⟩
  | .local _ .vmem, ⟨7, _⟩ => ⟨S3072x128, .f32⟩
  | .local _ .vmem, ⟨8, _⟩ => ⟨S3072x128, .f32⟩
  | .local _ .vmem, ⟨9, _⟩ => ⟨S3072x128, .f32⟩
  | .local _ .vmem, ⟨10, _⟩ => ⟨S3072x128, .f32⟩
  | .local _ .vmem, ⟨11, _⟩ => ⟨S3072x128, .f32⟩
  | .local _ .vmem, ⟨12, _⟩ => ⟨S3072x128, .f32⟩
  | .local _ .vmem, ⟨13, _⟩ => ⟨S3072x128, .f32⟩
  | _, _ => ⟨S4x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
abbrev S4x3x512x128 : Shape := ⟨4, ![4, 3, 512, 128]⟩
abbrev S6144x128 : Shape := ⟨2, ![6144, 128]⟩
abbrev S3072x128 : Shape := ⟨2, ![3072, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x3x512x128, .f32⟩
  | .hbm, ⟨1, _⟩ => ⟨S4x3x512x128, .f32⟩
  | .hbm, ⟨2, _⟩ => ⟨S4x3x512x128, .f32⟩
  | .hbm, ⟨3, _⟩ => ⟨S4x3x512x128, .f32⟩
  | .hbm, ⟨4, _⟩ => ⟨S6144x128, .f32⟩
  | .hbm, ⟨5, _⟩ => ⟨S6144x128, .f32⟩
  | .hbm, ⟨6, _⟩ => ⟨S6144x128, .f32⟩
  | .hbm, ⟨7, _⟩ => ⟨S6144x128, .f32⟩
  | .hbm, ⟨8, _⟩ => ⟨S6144x128, .f32⟩
  | .hbm, ⟨9, _⟩ => ⟨S6144x128, .f32⟩
  | .hbm, ⟨10, _⟩ => ⟨S6144x128, .f32⟩
  | .local _ .vmem, ⟨0, _⟩ => ⟨S3072x128, .f32⟩
  | .local _ .vmem, ⟨1, _⟩ => ⟨S3072x128, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S3072x128, .f32⟩
  | .local _ .vmem, ⟨7, _⟩ => ⟨S3072x128, .f32⟩
  | .local _ .vmem, ⟨8, _⟩ => ⟨S3072x128, .f32⟩
  | .local _ .vmem, ⟨9, _⟩ => ⟨S3072x128, .f32⟩
  | .local _ .vmem, ⟨10, _⟩ => ⟨S3072x128, .f32⟩
  | .local _ .vmem, ⟨11, _⟩ => ⟨S3072x128, .f32⟩
  | .local _ .vmem, ⟨12, _⟩ => ⟨S3072x128, .f32⟩
  | .local _ .vmem, ⟨13, _⟩ => ⟨S3072x128, .f32⟩
  | _, _ => ⟨S4x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4x3x512x128 : Shape := ⟨4, ![4, 3, 512, 128]⟩
abbrev S_ : Shape := ⟨0, ![]⟩
abbrev S6144x128 : Shape := ⟨2, ![6144, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x3x512x128, .f32⟩
  | .hbm, ⟨1, _⟩ => ⟨S4x3x512x128, .f32⟩
  | .hbm, ⟨2, _⟩ => ⟨S4x3x512x128, .f32⟩
  | .hbm, ⟨3, _⟩ => ⟨S4x3x512x128, .f32⟩
  | .hbm, ⟨4, _⟩ => ⟨S_, .f32⟩
  | .hbm, ⟨5, _⟩ => ⟨S4x3x512x128, .f32⟩
  | .hbm, ⟨6, _⟩ => ⟨S4x3x512x128, .f32⟩
  | .hbm, ⟨7, _⟩ => ⟨S_, .f32⟩
  | .hbm, ⟨8, _⟩ => ⟨S4x3x512x128, .f32⟩
  | .hbm, ⟨9, _⟩ => ⟨S4x3x512x128, .f32⟩
  | .hbm, ⟨10, _⟩ => ⟨S4x3x512x128, .f32⟩
  | .hbm, ⟨11, _⟩ => ⟨S_, .f32⟩
  | .hbm, ⟨12, _⟩ => ⟨S4x3x512x128, .f32⟩
  | .hbm, ⟨13, _⟩ => ⟨S4x3x512x128, .f32⟩
  | .hbm, ⟨14, _⟩ => ⟨S4x3x512x128, .f32⟩
  | .hbm, ⟨15, _⟩ => ⟨S_, .f32⟩
  | .hbm, ⟨16, _⟩ => ⟨S4x3x512x128, .f32⟩
  | .hbm, ⟨17, _⟩ => ⟨S4x3x512x128, .f32⟩
  | .hbm, ⟨18, _⟩ => ⟨S4x3x512x128, .f32⟩
  | .hbm, ⟨19, _⟩ => ⟨S_, .f32⟩
  | .hbm, ⟨20, _⟩ => ⟨S4x3x512x128, .f32⟩
  | .hbm, ⟨21, _⟩ => ⟨S4x3x512x128, .f32⟩
  | .hbm, ⟨22, _⟩ => ⟨S_, .f32⟩
  | .hbm, ⟨23, _⟩ => ⟨S4x3x512x128, .f32⟩
  | .hbm, ⟨24, _⟩ => ⟨S4x3x512x128, .f32⟩
  | .hbm, ⟨25, _⟩ => ⟨S4x3x512x128, .f32⟩
  | .hbm, ⟨26, _⟩ => ⟨S_, .f32⟩
  | .hbm, ⟨27, _⟩ => ⟨S4x3x512x128, .f32⟩
  | .hbm, ⟨28, _⟩ => ⟨S4x3x512x128, .f32⟩
  | .hbm, ⟨29, _⟩ => ⟨S4x3x512x128, .f32⟩
  | .hbm, ⟨30, _⟩ => ⟨S_, .f32⟩
  | .hbm, ⟨31, _⟩ => ⟨S4x3x512x128, .f32⟩
  | .hbm, ⟨32, _⟩ => ⟨S4x3x512x128, .f32⟩
  | .hbm, ⟨33, _⟩ => ⟨S4x3x512x128, .f32⟩
  | .hbm, ⟨34, _⟩ => ⟨S_, .f32⟩
  | .hbm, ⟨35, _⟩ => ⟨S4x3x512x128, .f32⟩
  | .hbm, ⟨36, _⟩ => ⟨S4x3x512x128, .f32⟩
  | .hbm, ⟨37, _⟩ => ⟨S6144x128, .f32⟩
  | .hbm, ⟨38, _⟩ => ⟨S6144x128, .f32⟩
  | .hbm, ⟨39, _⟩ => ⟨S6144x128, .f32⟩
  | _, _ => ⟨S4x3x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
abbrev S4x1024x512 : Shape := ⟨3, ![4, 1024, 512]⟩
abbrev S4096x512 : Shape := ⟨2, ![4096, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S4x512x1024 : Shape := ⟨3, ![4, 512, 1024]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S8x376x128 : Shape := ⟨3, ![8, 376, 128]⟩
abbrev S376x128 : Shape := ⟨2, ![376, 128]⟩
abbrev S1x376x128 : Shape := ⟨3, ![1, 376, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x376x128, .f32⟩
  | .hbm, ⟨1, _⟩ => ⟨S376x128, .f32⟩
  | .local _ .vmem, ⟨0, _⟩ => ⟨S8x376x128, .f32⟩
  | .local _ .vmem, ⟨1, _⟩ => ⟨S376x128, .f32⟩
  | _, _ => ⟨S8x376x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference28Ideal.lean ====
abbrev S8x376x128 : Shape := ⟨3, ![8, 376, 128]⟩
abbrev S_ : Shape := ⟨0, ![]⟩
abbrev S376x128 : Shape := ⟨2, ![376, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x376x128, .f32⟩
  | .hbm, ⟨1, _⟩ => ⟨S_, .f32⟩
  | .hbm, ⟨2, _⟩ => ⟨S376x128, .f32⟩
  | _, _ => ⟨S8x376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8x1536x128 : Shape := ⟨3, ![8, 1536, 128]⟩
abbrev S1536x128 : Shape := ⟨2, ![1536, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x1536x128, .f32⟩
  | .hbm, ⟨1, _⟩ => ⟨S8x1536x128, .bf16⟩
  | .hbm, ⟨2, _⟩ => ⟨S1536x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | _, _ => ⟨S8x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel29Ideal.lean ====
abbrev S8x1536x128 : Shape := ⟨3, ![8, 1536, 128]⟩
abbrev S1536x128 : Shape := ⟨2, ![1536, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x1536x128, .f32⟩
  | .hbm, ⟨1, _⟩ => ⟨S8x1536x128, .bf16⟩
  | .hbm, ⟨2, _⟩ => ⟨S1536x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | _, _ => ⟨S8x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S8x1536x128 : Shape := ⟨3, ![8, 1536, 128]⟩
abbrev S_ : Shape := ⟨0, ![]⟩
abbrev S1536x128 : Shape := ⟨2, ![1536, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1536x128, .f32⟩
  | .hbm, ⟨1, _⟩ => ⟨S_, .f32⟩
  | .hbm, ⟨2, _⟩ => ⟨S1536x128, .f32⟩
  | _, _ => ⟨S8x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel30Ideal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .bf16⟩
  | .hbm, ⟨2, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel31Ideal.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .bf16⟩
  | .hbm, ⟨2, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S8x1024x512 : Shape := ⟨3, ![8, 1024, 512]⟩
abbrev S_ : Shape := ⟨0, ![]⟩
abbrev S1024x512 : Shape := ⟨2, ![1024, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S_, .f32⟩
  | .hbm, ⟨2, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S8x512x1024 : Shape := ⟨3, ![8, 512, 1024]⟩
abbrev S512x1024 : Shape := ⟨2, ![512, 1024]⟩
abbrev S1x512x1024 : Shape := ⟨3, ![1, 512, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .bf16⟩
  | .hbm, ⟨2, _⟩ => ⟨S512x1024, .f32⟩
  | .local _ .vmem, ⟨0, _⟩ => ⟨S8x512x1024, .bf16⟩
  | .local _ .vmem, ⟨1, _⟩ => ⟨S512x1024, .f32⟩
  | _, _ => ⟨S8x512x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel32Ideal.lean ====
abbrev S8x512x1024 : Shape := ⟨3, ![8, 512, 1024]⟩
abbrev S512x1024 : Shape := ⟨2, ![512, 1024]⟩
abbrev S1x512x1024 : Shape := ⟨3, ![1, 512, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .bf16⟩
  | .hbm, ⟨2, _⟩ => ⟨S512x1024, .f32⟩
  | .local _ .vmem, ⟨0, _⟩ => ⟨S8x512x1024, .bf16⟩
  | .local _ .vmem, ⟨1, _⟩ => ⟨S512x1024, .f32⟩
  | _, _ => ⟨S8x512x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference32Ideal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S_, .f32⟩
  | .hbm, ⟨2, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel33.lean ====
abbrev S8x1024x1025 : Shape := ⟨3, ![8, 1024, 1025]⟩
abbrev S1024x1025 : Shape := ⟨2, ![1024, 1025]⟩
abbrev S8x512x1025 : Shape := ⟨3, ![8, 512, 1025]⟩
abbrev S512x1025 : Shape := ⟨2, ![512, 1025]⟩
abbrev S1x512x1025 : Shape := ⟨3, ![1, 512, 1025]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x1025, .f32⟩
  | .hbm, ⟨1, _⟩ => ⟨S8x1024x1025, .bf16⟩
  | .hbm, ⟨2, _⟩ => ⟨S1024x1025, .f32⟩
  | .local _ .vmem, ⟨0, _⟩ => ⟨S8x512x1025, .bf16⟩
  | .local _ .vmem, ⟨1, _⟩ => ⟨S8x512x1025, .bf16⟩
  | .local _ .vmem, ⟨2, _⟩ => ⟨S512x1025, .f32⟩
  | .local _ .vmem, ⟨3, _⟩ => ⟨S512x1025, .f32⟩
  | _, _ => ⟨S8x1024x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x1025 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1025 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference33Ideal.lean ====
abbrev S8x1024x1025 : Shape := ⟨3, ![8, 1024, 1025]⟩
abbrev S_ : Shape := ⟨0, ![]⟩
abbrev S1024x1025 : Shape := ⟨2, ![1024, 1025]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x1025, .f32⟩
  | .hbm, ⟨1, _⟩ => ⟨S_, .f32⟩
  | .hbm, ⟨2, _⟩ => ⟨S1024x1025, .f32⟩
  | _, _ => ⟨S8x1024x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel34.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference34Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel35.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference35Ideal.lean ====
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.MmModel.lean ====
/- Matrix products over the extended reals, in the three layouts the training step uses, and the squared ReLU. -/
module

public import Idealize.ShloMosaic.Lib.Pointwise

@[expose] public section

noncomputable section

namespace Mm

open Idealize.ShloMosaic

/-- A matrix as an array of rank two. -/
abbrev Arr (a b : ℕ) := (⟨2, ![a, b]⟩ : Shape).Idx → EReal

/-- `A B`. -/
def nn {a b k : ℕ} (A : Arr a k) (B : Arr k b) : Arr a b := fun i => ∑ l : Fin k, A (ix2 (i 0) l) * B (ix2 l (i 1))

/-- `A Bᵀ`. -/
def nt {a b k : ℕ} (A : Arr a k) (B : Arr b k) : Arr a b := fun i => ∑ l : Fin k, A (ix2 (i 0) l) * B (ix2 (i 1) l)

/-- `Aᵀ B`. -/
def tn {a b k : ℕ} (A : Arr k a) (B : Arr k b) : Arr a b := fun i => ∑ l : Fin k, A (ix2 l (i 0)) * B (ix2 l (i 1))

/-- Two arrays that agree at every row and column are equal. -/
theorem ext {a b : ℕ} (x y : Arr a b) (h : ∀ (i : Fin a) (j : Fin b), x (ix2 i j) = y (ix2 i j)) : x = y := by
  funext i
  rw [eq_ix2 i]
  exact h _ _

/-- A sum over an axis cut into two halves. -/
theorem halves {n N : ℕ} (f g : Fin n → EReal) (F : Fin N → EReal) (hN : N = n + n)
    (hf : ∀ (k : Fin n) (h : k.val < N), f k = F ⟨k.val, h⟩) (hg : ∀ (k : Fin n) (h : n + k.val < N), g k = F ⟨n + k.val, h⟩) :
    ∑ k, f k + ∑ k, g k = ∑ l, F l := by
  subst hN
  rw [Fin.sum_univ_add]
  exact congrArg₂ (· + ·) (Finset.sum_congr rfl fun k _ => hf k _) (Finset.sum_congr rfl fun k _ => hg k _)

/-- The constant two, as the programs write it. -/
abbrev two : EReal := Ideal.ofBits FTy.f32 1073741824#32

/-- The squared ReLU's derivative: where the argument is not positive, the guarded and the plain form are both zero. -/
theorem relu2_bwd (p a : EReal) : (if 0 < a then p * (two * max a 0) else 0) = p * two * max a 0 := by
  split
  · exact (mul_assoc _ _ _).symm
  · rename_i h
    rw [max_eq_right (not_lt.mp h), mul_zero]

theorem relu2_bwd_congr {p q a b : EReal} (h : p = q) (h' : a = b) : p * two * max a 0 = q * two * max b 0 := by
  rw [h, h']

end Mm

end
-- ==== Proof.Ff2Dx.lean ====
/- The gradient of the feed-forward's pre-activation: `df W₂ᵀ` times the derivative of the squared ReLU. -/
module

public import proofs.«01_k».proof.Defs
public import proofs.«01_k».proof.Proof.MmModel
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.Ff2Dx

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

abbrev a0 : Mm.Arr 4096 1024 := m ((c.tc : Thread nD τ).loc main_arg0)
abbrev a1 : Mm.Arr 4096 1024 := m ((c.tc : Thread nD τ).loc main_arg1)
abbrev a2 : Mm.Arr 4096 4096 := m ((c.tc : Thread nD τ).loc main_arg2)

/-- What one grid point stores. -/
theorem pay (A B E : Mm.Arr 1024 1024) (i j : Fin 1024) :
    k0_pay1 (F := Ideal) A B E (ix2 i j) = Mm.nt A B (ix2 i j) * Mm.two * max (E (ix2 i j)) 0 := by
  unfold Mm.nt
  pointwise [k0_pay1]

/-- The kernel's result. -/

theorem out : (dats m 0 c).arrAt 3 cfg0.N = fun i => Mm.nt (a0 m c) (a1 m c) i * Mm.two * max (a2 m c i) 0 := by
  refine (dats m 0 c).arrAt_eq_of_covers 3 _ (by decide +kernel) fun t hf y => ?_
  blk_simp
  rw [after0_3]
  unfold outsAt0
  frame_out
  rw [eq_ix2 y]
  refine (pay _ _ _ _ _).trans (Mm.relu2_bwd_congr ?_ ?_)
  · unfold Mm.nt
    blk_point [iblk, V, idx t]
  · blk_point [iblk, V, idx t]

theorem algebraic [Cert.Kernel3Ideal.Facts] [Cert.Reference3Ideal.Facts] : Cert.algebraic_Kernel3Ideal_Reference3Ideal := by
  intro m g m' g' _ hargs
  refine ⟨fun c i => Mm.nt (a0 m c) (a1 m c) i * Mm.two * max (a2 m c i) 0, ?_, ?_⟩
  · refine (θ_run Cert.Kernel3Ideal.defs _ _).mono (fun r h c => ?_) (Cert.Kernel3Ideal.Value.run_blocks (F := Ideal) m g)
    exact ⟨(h c).1.trans (out m c), (h c).2⟩
  · refine (θ_run Cert.Reference3Ideal.defs _ _).mono (fun r h c => ?_) (Cert.Reference3Ideal.Value.run (F := Ideal) m' g')
    obtain ⟨h0, h1, h2⟩ := hargs c
    refine ⟨(h c).1.trans ?_, (h c).2⟩
    rw [h0, h1, h2]
    refine Mm.ext _ _ fun i j => ?_
    unfold Mm.nt
    pointwise
    exact Mm.relu2_bwd _ _

theorem frame_reference [Cert.Reference3Ideal.Facts] : Cert.quiescent_Reference3Ideal := fun m ρ _ =>
  (θ_run Cert.Reference3Ideal.defs _ _).mono
    (fun _ h => ⟨fun c => (h c).2, funext fun g => by obtain ⟨_, s | s⟩ := g <;> exact s.elim0⟩)
    (Cert.Reference3Ideal.Value.run (F := Ideal) m ρ)

end Cert.Ff2Dx

end
-- ==== Proof.Ff2Dw.lean ====
/- The gradient of the feed-forward's second weight, `rᵀ df`. -/
module

public import proofs.«01_k».proof.Defs
public import proofs.«01_k».proof.Proof.MmModel
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.Ff2Dw

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

abbrev a0 : Mm.Arr 4096 4096 := m ((c.tc : Thread nD τ).loc main_arg0)
abbrev a1 : Mm.Arr 4096 1024 := m ((c.tc : Thread nD τ).loc main_arg1)

/-- The kernel's result. -/

theorem out : (dats m 0 c).arrAt 2 cfg0.N = Mm.tn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.tn
  rw [eq_ix2 y]
  pointwise [k0_pay4, k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel4Ideal.Facts] [Cert.Reference4Ideal.Facts] : Cert.algebraic_Kernel4Ideal_Reference4Ideal := by
  intro m g m' g' _ hargs
  refine ⟨fun c => Mm.tn (a0 m c) (a1 m c), ?_, ?_⟩
  · refine (θ_run Cert.Kernel4Ideal.defs _ _).mono (fun r h c => ?_) (Cert.Kernel4Ideal.Value.run_blocks (F := Ideal) m g)
    exact ⟨(h c).1.trans (out m c), (h c).2⟩
  · refine (θ_run Cert.Reference4Ideal.defs _ _).mono (fun r h c => ?_) (Cert.Reference4Ideal.Value.run (F := Ideal) m' g')
    obtain ⟨h0, h1⟩ := hargs c
    refine ⟨(h c).1.trans ?_, (h c).2⟩
    rw [h0, h1]
    refine Mm.ext _ _ fun i j => ?_
    unfold Mm.tn
    pointwise
    exact Finset.sum_congr rfl fun k _ => mul_comm _ _

theorem frame_reference [Cert.Reference4Ideal.Facts] : Cert.quiescent_Reference4Ideal := fun m ρ _ =>
  (θ_run Cert.Reference4Ideal.defs _ _).mono
    (fun _ h => ⟨fun c => (h c).2, funext fun g => by obtain ⟨_, s | s⟩ := g <;> exact s.elim0⟩)
    (Cert.Reference4Ideal.Value.run (F := Ideal) m ρ)

end Cert.Ff2Dw

end
-- ==== Proof.Ff1Dw.lean ====
/- The gradient of the feed-forward's first weight, `hᵀ da`. -/
module

public import proofs.«01_k».proof.Defs
public import proofs.«01_k».proof.Proof.MmModel
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Ff1Dw

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

abbrev a0 : Mm.Arr 4096 1024 := m ((c.tc : Thread nD τ).loc main_arg0)
abbrev a1 : Mm.Arr 4096 4096 := m ((c.tc : Thread nD τ).loc main_arg1)

/-- The kernel's result. -/

theorem out : (dats m 0 c).arrAt 2 cfg0.N = Mm.tn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.tn
  rw [eq_ix2 y]
  pointwise [k0_pay4, k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel5Ideal.Facts] [Cert.Reference5Ideal.Facts] : Cert.algebraic_Kernel5Ideal_Reference5Ideal := by
  intro m g m' g' _ hargs
  refine ⟨fun c => Mm.tn (a0 m c) (a1 m c), ?_, ?_⟩
  · refine (θ_run Cert.Kernel5Ideal.defs _ _).mono (fun r h c => ?_) (Cert.Kernel5Ideal.Value.run_blocks (F := Ideal) m g)
    exact ⟨(h c).1.trans (out m c), (h c).2⟩
  · refine (θ_run Cert.Reference5Ideal.defs _ _).mono (fun r h c => ?_) (Cert.Reference5Ideal.Value.run (F := Ideal) m' g')
    obtain ⟨h0, h1⟩ := hargs c
    refine ⟨(h c).1.trans ?_, (h c).2⟩
    rw [h0, h1]
    refine Mm.ext _ _ fun i j => ?_
    unfold Mm.tn
    pointwise
    exact Finset.sum_congr rfl fun k _ => mul_comm _ _

theorem frame_reference [Cert.Reference5Ideal.Facts] : Cert.quiescent_Reference5Ideal := fun m ρ _ =>
  (θ_run Cert.Reference5Ideal.defs _ _).mono
    (fun _ h => ⟨fun c => (h c).2, funext fun g => by obtain ⟨_, s | s⟩ := g <;> exact s.elim0⟩)
    (Cert.Reference5Ideal.Value.run (F := Ideal) m ρ)

end Cert.Ff1Dw

end
-- ==== Proof.Ff1Dx.lean ====
/- The gradient of the feed-forward's input, `da W₁ᵀ`. -/
module

public import proofs.«01_k».proof.Defs
public import proofs.«01_k».proof.Proof.MmModel
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Ff1Dx

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

abbrev a0 : Mm.Arr 4096 4096 := m ((c.tc : Thread nD τ).loc main_arg0)
abbrev a1 : Mm.Arr 1024 4096 := m ((c.tc : Thread nD τ).loc main_arg1)

/-- The kernel's result. -/

theorem out : (dats m 0 c).arrAt 2 cfg0.N = Mm.nt (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.nt
  rw [eq_ix2 y]
  pointwise [k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel6Ideal.Facts] [Cert.Reference6Ideal.Facts] : Cert.algebraic_Kernel6Ideal_Reference6Ideal := by
  intro m g m' g' _ hargs
  refine ⟨fun c => Mm.nt (a0 m c) (a1 m c), ?_, ?_⟩
  · refine (θ_run Cert.Kernel6Ideal.defs _ _).mono (fun r h c => ?_) (Cert.Kernel6Ideal.Value.run_blocks (F := Ideal) m g)
    exact ⟨(h c).1.trans (out m c), (h c).2⟩
  · refine (θ_run Cert.Reference6Ideal.defs _ _).mono (fun r h c => ?_) (Cert.Reference6Ideal.Value.run (F := Ideal) m' g')
    obtain ⟨h0, h1⟩ := hargs c
    refine ⟨(h c).1.trans ?_, (h c).2⟩
    rw [h0, h1]
    refine Mm.ext _ _ fun i j => ?_
    unfold Mm.nt
    pointwise

theorem frame_reference [Cert.Reference6Ideal.Facts] : Cert.quiescent_Reference6Ideal := fun m ρ _ =>
  (θ_run Cert.Reference6Ideal.defs _ _).mono
    (fun _ h => ⟨fun c => (h c).2, funext fun g => by obtain ⟨_, s | s⟩ := g <;> exact s.elim0⟩)
    (Cert.Reference6Ideal.Value.run (F := Ideal) m ρ)

end Cert.Ff1Dx

end
-- ==== Proof.InDw.lean ====
/- The gradient of the input projection's weight, `hᵀ dproj`. -/
module

public import proofs.«01_k».proof.Defs
public import proofs.«01_k».proof.Proof.MmModel
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.InDw

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

abbrev a0 : Mm.Arr 4096 1024 := m ((c.tc : Thread nD τ).loc main_arg0)
abbrev a1 : Mm.Arr 4096 8192 := m ((c.tc : Thread nD τ).loc main_arg1)

/-- The kernel's result. -/

theorem out : (dats m 0 c).arrAt 2 cfg0.N = Mm.tn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.tn
  rw [eq_ix2 y]
  pointwise [k0_pay4, k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel7Ideal.Facts] [Cert.Reference7Ideal.Facts] : Cert.algebraic_Kernel7Ideal_Reference7Ideal := by
  intro m g m' g' _ hargs
  refine ⟨fun c => Mm.tn (a0 m c) (a1 m c), ?_, ?_⟩
  · refine (θ_run Cert.Kernel7Ideal.defs _ _).mono (fun r h c => ?_) (Cert.Kernel7Ideal.Value.run_blocks (F := Ideal) m g)
    exact ⟨(h c).1.trans (out m c), (h c).2⟩
  · refine (θ_run Cert.Reference7Ideal.defs _ _).mono (fun r h c => ?_) (Cert.Reference7Ideal.Value.run (F := Ideal) m' g')
    obtain ⟨h0, h1⟩ := hargs c
    refine ⟨(h c).1.trans ?_, (h c).2⟩
    rw [h0, h1]
    refine Mm.ext _ _ fun i j => ?_
    unfold Mm.tn
    pointwise
    exact Finset.sum_congr rfl fun k _ => mul_comm _ _

theorem frame_reference [Cert.Reference7Ideal.Facts] : Cert.quiescent_Reference7Ideal := fun m ρ _ =>
  (θ_run Cert.Reference7Ideal.defs _ _).mono
    (fun _ h => ⟨fun c => (h c).2, funext fun g => by obtain ⟨_, s | s⟩ := g <;> exact s.elim0⟩)
    (Cert.Reference7Ideal.Value.run (F := Ideal) m ρ)

end Cert.InDw

end
-- ==== Proof.InDx.lean ====
/- The gradient of the input projection's input, `dproj Wᵀ` plus what the two narrow columns give. -/
module

public import proofs.«01_k».proof.Defs
public import proofs.«01_k».proof.Proof.MmModel
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

namespace Cert.InDx

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 4, t.val % 4] ∧ win0_1.index t = ![0, t.val % 4] ∧ win0_2.index t = ![t.val / 4, 0] ∧ win0_3.index t = ![t.val / 4, 0] :=
  (by decide +kernel : ∀ t : Fin grid0.N, _)

abbrev a0 : Mm.Arr 4096 8192 := m ((c.tc : Thread nD τ).loc main_arg0)
abbrev a1 : Mm.Arr 1024 8192 := m ((c.tc : Thread nD τ).loc main_arg1)
abbrev a2 : Mm.Arr 4096 1024 := m ((c.tc : Thread nD τ).loc main_arg2)

/-- What grid point `t` adds to the scratch. -/
def term (t : Fin cfg0.N) : FVec Ideal S1024x1024 .f32 := k0_pay1 (iblk m c 0 t) (iblk m c 1 t)

theorem acc (t : Fin cfg0.N) (hf : (cfg0.win 3).flush t = true) (j : S1024x1024.Idx) :
    (outsAt0 m c t.val t.isLt).2 j =
      ∑ s : Fin 4, term m c ⟨4 * (t.val / 4) + s.val, by have := t.isLt; have := (flush0_3 t).mp hf; omega⟩ j := by
  refine (Pipeline.eq_sum_fin_of_reset_step_apply_of_flush (fun n h => (outsAt0 m c n h).2) 4 (fun _ => 0) (term m c)
    (fun t h j => ?_) (fun t h j => ?_) t ((flush0_3 t).mp hf) j).trans (zero_add _)
  · rw [outsAt0_A m c t h (by omega) (by omega)]
    frame_out
    rw [zero_add]
    pointwise [k0_pay2, term]
  · by_cases h2 : t.val % 4 = 3
    · rw [outsAt0_C m c t h (by omega) h2]
      frame_out
      simp only [read_unread_whole]
      pointwise [k0_pay3, term]
    · rw [outsAt0_B m c t h (by omega) h2]
      frame_out
      simp only [read_unread_whole]
      pointwise [k0_pay3, term]

/-- The kernel's result. -/
theorem out : (dats m 0 c).arrAt 3 cfg0.N = fun i => Mm.nt (a0 m c) (a1 m c) i + a2 m c i := by
  refine (dats m 0 c).arrAt_eq_of_covers 3 _ (by decide +kernel) fun t hf y => ?_
  have h3 := (flush0_3 t).mp hf
  have ht := acc m c t hf y
  blk_simp
  rw [after0_3]
  rw [outsAt0_C m c t (by omega) (by omega) h3] at ht ⊢
  frame_out at ht ⊢
  have e : ∀ a b z w, a y = z → b y = w → k0_pay4 (F := Ideal) a b y = z + w := by
    rintro a b _ _ rfl rfl
    pointwise [k0_pay4]
  refine e _ _ _ _ (ht.trans ?_) ?_
  · unfold Mm.nt
    rw [eq_ix2 y]
    pointwise [term, k0_pay1]
    refine Fin.sum_mul_add_congr fun s k hl => ?_
    blk_point [iblk, V, idx t, idx ⟨_, Pipeline.run_point_lt_of_flush t h3 s⟩]
  · rw [eq_ix2 y]
    blk_point [iblk, V, idx t]

theorem algebraic [Cert.Kernel8Ideal.Facts] [Cert.Reference8Ideal.Facts] : Cert.algebraic_Kernel8Ideal_Reference8Ideal := by
  intro m g m' g' _ hargs
  refine ⟨fun c i => Mm.nt (a0 m c) (a1 m c) i + a2 m c i, ?_, ?_⟩
  · refine (θ_run Cert.Kernel8Ideal.defs _ _).mono (fun r h c => ?_) (Cert.Kernel8Ideal.Value.run_blocks (F := Ideal) m g)
    exact ⟨(h c).1.trans (out m c), (h c).2⟩
  · refine (θ_run Cert.Reference8Ideal.defs _ _).mono (fun r h c => ?_) (Cert.Reference8Ideal.Value.run (F := Ideal) m' g')
    obtain ⟨h0, h1, h2⟩ := hargs c
    refine ⟨(h c).1.trans ?_, (h c).2⟩
    rw [h0, h1, h2]
    refine Mm.ext _ _ fun i j => ?_
    unfold Mm.nt
    pointwise

theorem frame_reference [Cert.Reference8Ideal.Facts] : Cert.quiescent_Reference8Ideal := fun m ρ _ =>
  (θ_run Cert.Reference8Ideal.defs _ _).mono
    (fun _ h => ⟨fun c => (h c).2, funext fun g => by obtain ⟨_, s | s⟩ := g <;> exact s.elim0⟩)
    (Cert.Reference8Ideal.Value.run (F := Ideal) m ρ)

end Cert.InDx

end
-- ==== Proof.OutDx.lean ====
/- The gradient of the merged branches, `dmo Wᵀ`. -/
module

public import proofs.«01_k».proof.Defs
public import proofs.«01_k».proof.Proof.MmModel
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.OutDx

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 1, 0] ∧ win0_1.index t = ![0, 0] ∧ win0_2.index t = ![t.val / 1, 0] :=
  (by decide +kernel : ∀ t : Fin grid0.N, _)

abbrev a0 : Mm.Arr 4096 1024 := m ((c.tc : Thread nD τ).loc main_arg0)
abbrev a1 : Mm.Arr 1024 1024 := m ((c.tc : Thread nD τ).loc main_arg1)

/-- The kernel's result. -/

theorem out : (dats m 0 c).arrAt 2 cfg0.N = Mm.nt (a0 m c) (a1 m c) := by
  refine (dats m 0 c).arrAt_eq_of_covers 2 _ (by decide +kernel) fun t hf y => ?_
  blk_simp
  rw [after0_2]
  unfold outsAt0 Mm.nt
  frame_out
  rw [eq_ix2 y]
  pointwise [k0_pay1]
  blk_point [iblk, V, idx t]

theorem algebraic [Cert.Kernel9Ideal.Facts] [Cert.Reference9Ideal.Facts] : Cert.algebraic_Kernel9Ideal_Reference9Ideal := by
  intro m g m' g' _ hargs
  refine ⟨fun c => Mm.nt (a0 m c) (a1 m c), ?_, ?_⟩
  · refine (θ_run Cert.Kernel9Ideal.defs _ _).mono (fun r h c => ?_) (Cert.Kernel9Ideal.Value.run_blocks (F := Ideal) m g)
    exact ⟨(h c).1.trans (out m c), (h c).2⟩
  · refine (θ_run Cert.Reference9Ideal.defs _ _).mono (fun r h c => ?_) (Cert.Reference9Ideal.Value.run (F := Ideal) m' g')
    obtain ⟨h0, h1⟩ := hargs c
    refine ⟨(h c).1.trans ?_, (h c).2⟩
    rw [h0, h1]
    refine Mm.ext _ _ fun i j => ?_
    unfold Mm.nt
    pointwise

theorem frame_reference [Cert.Reference9Ideal.Facts] : Cert.quiescent_Reference9Ideal := fun m ρ _ =>
  (θ_run Cert.Reference9Ideal.defs _ _).mono
    (fun _ h => ⟨fun c => (h c).2, funext fun g => by obtain ⟨_, s | s⟩ := g <;> exact s.elim0⟩)
    (Cert.Reference9Ideal.Value.run (F := Ideal) m ρ)

end Cert.OutDx

end
-- ==== Proof.OutDw.lean ====
/- The gradient of the output projection's weight, `mergedᵀ dmo`. -/
module

public import proofs.«01_k».proof.Defs
public import proofs.«01_k».proof.Proof.MmModel
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

namespace Cert.OutDw

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val % 2, 0] ∧ win0_1.index t = ![t.val % 2, 0] ∧ win0_2.index t = ![0, 0] :=
  (by decide +kernel : ∀ t : Fin grid0.N, _)

abbrev a0 : Mm.Arr 4096 1024 := m ((c.tc : Thread nD τ).loc main_arg0)
abbrev a1 : Mm.Arr 4096 1024 := m ((c.tc : Thread nD τ).loc main_arg1)

/-- The kernel's result. -/

theorem out : (dats m 0 c).arrAt 2 cfg0.N = Mm.tn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.tn
  rw [eq_ix2 y]
  pointwise [k0_pay4, k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel10Ideal.Facts] [Cert.Reference10Ideal.Facts] : Cert.algebraic_Kernel10Ideal_Reference10Ideal := by
  intro m g m' g' _ hargs
  refine ⟨fun c => Mm.tn (a0 m c) (a1 m c), ?_, ?_⟩
  · refine (θ_run Cert.Kernel10Ideal.defs _ _).mono (fun r h c => ?_) (Cert.Kernel10Ideal.Value.run_blocks (F := Ideal) m g)
    exact ⟨(h c).1.trans (out m c), (h c).2⟩
  · refine (θ_run Cert.Reference10Ideal.defs _ _).mono (fun r h c => ?_) (Cert.Reference10Ideal.Value.run (F := Ideal) m' g')
    obtain ⟨h0, h1⟩ := hargs c
    refine ⟨(h c).1.trans ?_, (h c).2⟩
    rw [h0, h1]
    refine Mm.ext _ _ fun i j => ?_
    unfold Mm.tn
    pointwise
    exact Finset.sum_congr rfl fun k _ => mul_comm _ _

theorem frame_reference [Cert.Reference10Ideal.Facts] : Cert.quiescent_Reference10Ideal := fun m ρ _ =>
  (θ_run Cert.Reference10Ideal.defs _ _).mono
    (fun _ h => ⟨fun c => (h c).2, funext fun g => by obtain ⟨_, s | s⟩ := g <;> exact s.elim0⟩)
    (Cert.Reference10Ideal.Value.run (F := Ideal) m ρ)

end Cert.OutDw

end
-- ==== Proof.BranchDx.lean ====
/- The gradient of one branch's output, `dp Wᵀ`. -/
module

public import proofs.«01_k».proof.Defs
public import proofs.«01_k».proof.Proof.MmModel
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.BranchDx

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 1, 0] ∧ win0_1.index t = ![0, 0] ∧ win0_2.index t = ![t.val / 1, 0] :=
  (by decide +kernel : ∀ t : Fin grid0.N, _)

abbrev a0 : Mm.Arr 4096 1024 := m ((c.tc : Thread nD τ).loc main_arg0)
abbrev a1 : Mm.Arr 512 1024 := m ((c.tc : Thread nD τ).loc main_arg1)

/-- The kernel's result. -/

theorem out : (dats m 0 c).arrAt 2 cfg0.N = Mm.nt (a0 m c) (a1 m c) := by
  refine (dats m 0 c).arrAt_eq_of_covers 2 _ (by decide +kernel) fun t hf y => ?_
  blk_simp
  rw [after0_2]
  unfold outsAt0 Mm.nt
  frame_out
  rw [eq_ix2 y]
  pointwise [k0_pay1]
  blk_point [iblk, V, idx t]

theorem algebraic [Cert.Kernel11Ideal.Facts] [Cert.Reference11Ideal.Facts] : Cert.algebraic_Kernel11Ideal_Reference11Ideal := by
  intro m g m' g' _ hargs
  refine ⟨fun c => Mm.nt (a0 m c) (a1 m c), ?_, ?_⟩
  · refine (θ_run Cert.Kernel11Ideal.defs _ _).mono (fun r h c => ?_) (Cert.Kernel11Ideal.Value.run_blocks (F := Ideal) m g)
    exact ⟨(h c).1.trans (out m c), (h c).2⟩
  · refine (θ_run Cert.Reference11Ideal.defs _ _).mono (fun r h c => ?_) (Cert.Reference11Ideal.Value.run (F := Ideal) m' g')
    obtain ⟨h0, h1⟩ := hargs c
    refine ⟨(h c).1.trans ?_, (h c).2⟩
    rw [h0, h1]
    refine Mm.ext _ _ fun i j => ?_
    unfold Mm.nt
    pointwise

theorem frame_reference [Cert.Reference11Ideal.Facts] : Cert.quiescent_Reference11Ideal := fun m ρ _ =>
  (θ_run Cert.Reference11Ideal.defs _ _).mono
    (fun _ h => ⟨fun c => (h c).2, funext fun g => by obtain ⟨_, s | s⟩ := g <;> exact s.elim0⟩)
    (Cert.Reference11Ideal.Value.run (F := Ideal) m ρ)

end Cert.BranchDx

end
-- ==== Proof.BranchDw.lean ====
/- The gradient of one branch projection's weight, `yᵀ dp`. -/
module

public import proofs.«01_k».proof.Defs
public import proofs.«01_k».proof.Proof.MmModel
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

namespace Cert.BranchDw

open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val % 2, 0] ∧ win0_1.index t = ![t.val % 2, 0] ∧ win0_2.index t = ![0, 0] :=
  (by decide +kernel : ∀ t : Fin grid0.N, _)

abbrev a0 : Mm.Arr 4096 512 := m ((c.tc : Thread nD τ).loc main_arg0)
abbrev a1 : Mm.Arr 4096 1024 := m ((c.tc : Thread nD τ).loc main_arg1)

/-- The kernel's result. -/

theorem out : (dats m 0 c).arrAt 2 cfg0.N = Mm.tn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.tn
  rw [eq_ix2 y]
  pointwise [k0_pay4, k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel12Ideal.Facts] [Cert.Reference12Ideal.Facts] : Cert.algebraic_Kernel12Ideal_Reference12Ideal := by
  intro m g m' g' _ hargs
  refine ⟨fun c => Mm.tn (a0 m c) (a1 m c), ?_, ?_⟩
  · refine (θ_run Cert.Kernel12Ideal.defs _ _).mono (fun r h c => ?_) (Cert.Kernel12Ideal.Value.run_blocks (F := Ideal) m g)
    exact ⟨(h c).1.trans (out m c), (h c).2⟩
  · refine (θ_run Cert.Reference12Ideal.defs _ _).mono (fun r h c => ?_) (Cert.Reference12Ideal.Value.run (F := Ideal) m' g')
    obtain ⟨h0, h1⟩ := hargs c
    refine ⟨(h c).1.trans ?_, (h c).2⟩
    rw [h0, h1]
    refine Mm.ext _ _ fun i j => ?_
    unfold Mm.tn
    pointwise
    exact Finset.sum_congr rfl fun k _ => mul_comm _ _

theorem frame_reference [Cert.Reference12Ideal.Facts] : Cert.quiescent_Reference12Ideal := fun m ρ _ =>
  (θ_run Cert.Reference12Ideal.defs _ _).mono
    (fun _ h => ⟨fun c => (h c).2, funext fun g => by obtain ⟨_, s | s⟩ := g <;> exact s.elim0⟩)
    (Cert.Reference12Ideal.Value.run (F := Ideal) m ρ)

end Cert.BranchDw

end
-- ==== Proof.InProj.lean ====
/- The input projection `h W`. -/
module

public import proofs.«01_k».proof.Defs
public import proofs.«01_k».proof.Proof.MmModel
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

namespace Cert.InProj

open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

abbrev a0 : Mm.Arr 4096 1024 := m ((c.tc : Thread nD τ).loc main_arg0)
abbrev a1 : Mm.Arr 1024 8192 := m ((c.tc : Thread nD τ).loc main_arg1)

/-- The kernel's result. -/

theorem out : (dats m 0 c).arrAt 2 cfg0.N = Mm.nn (a0 m c) (a1 m c) := by
  refine (dats m 0 c).arrAt_eq_of_covers 2 _ (by decide +kernel) fun t hf y => ?_
  blk_simp
  rw [after0_2]
  unfold outsAt0 Mm.nn
  frame_out
  rw [eq_ix2 y]
  pointwise [k0_pay1]
  blk_point [iblk, V, idx t]

theorem algebraic [Cert.Kernel13Ideal.Facts] [Cert.Reference13Ideal.Facts] : Cert.algebraic_Kernel13Ideal_Reference13Ideal := by
  intro m g m' g' _ hargs
  refine ⟨fun c => Mm.nn (a0 m c) (a1 m c), ?_, ?_⟩
  · refine (θ_run Cert.Kernel13Ideal.defs _ _).mono (fun r h c => ?_) (Cert.Kernel13Ideal.Value.run_blocks (F := Ideal) m g)
    exact ⟨(h c).1.trans (out m c), (h c).2⟩
  · refine (θ_run Cert.Reference13Ideal.defs _ _).mono (fun r h c => ?_) (Cert.Reference13Ideal.Value.run (F := Ideal) m' g')
    obtain ⟨h0, h1⟩ := hargs c
    refine ⟨(h c).1.trans ?_, (h c).2⟩
    rw [h0, h1]
    refine Mm.ext _ _ fun i j => ?_
    unfold Mm.nn
    pointwise

theorem frame_reference [Cert.Reference13Ideal.Facts] : Cert.quiescent_Reference13Ideal := fun m ρ _ =>
  (θ_run Cert.Reference13Ideal.defs _ _).mono
    (fun _ h => ⟨fun c => (h c).2, funext fun g => by obtain ⟨_, s | s⟩ := g <;> exact s.elim0⟩)
    (Cert.Reference13Ideal.Value.run (F := Ideal) m ρ)

end Cert.InProj

end
-- ==== Proof.Branch.lean ====
/- One branch's projection `y W`. -/
module

public import proofs.«01_k».proof.Defs
public import proofs.«01_k».proof.Proof.MmModel
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack

@[expose] public section

set_option maxRecDepth 16384

noncomputable section

namespace Cert.Branch

open Cert.Kernel14Ideal Cert.Kernel14Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 1, 0] ∧ win0_1.index t = ![0, 0] ∧ win0_2.index t = ![t.val / 1, 0] :=
  (by decide +kernel : ∀ t : Fin grid0.N, _)

abbrev a0 : Mm.Arr 4096 512 := m ((c.tc : Thread nD τ).loc main_arg0)
abbrev a1 : Mm.Arr 512 1024 := m ((c.tc : Thread nD τ).loc main_arg1)

/-- The kernel's result. -/

theorem out : (dats m 0 c).arrAt 2 cfg0.N = Mm.nn (a0 m c) (a1 m c) := by
  refine (dats m 0 c).arrAt_eq_of_covers 2 _ (by decide +kernel) fun t hf y => ?_
  blk_simp
  rw [after0_2]
  unfold outsAt0 Mm.nn
  frame_out
  rw [eq_ix2 y]
  pointwise [k0_pay1]
  blk_point [iblk, V, idx t]

theorem algebraic [Cert.Kernel14Ideal.Facts] [Cert.Reference14Ideal.Facts] : Cert.algebraic_Kernel14Ideal_Reference14Ideal := by
  intro m g m' g' _ hargs
  refine ⟨fun c => Mm.nn (a0 m c) (a1 m c), ?_, ?_⟩
  · refine (θ_run Cert.Kernel14Ideal.defs _ _).mono (fun r h c => ?_) (Cert.Kernel14Ideal.Value.run_blocks (F := Ideal) m g)
    exact ⟨(h c).1.trans (out m c), (h c).2⟩
  · refine (θ_run Cert.Reference14Ideal.defs _ _).mono (fun r h c => ?_) (Cert.Reference14Ideal.Value.run (F := Ideal) m' g')
    obtain ⟨h0, h1⟩ := hargs c
    refine ⟨(h c).1.trans ?_, (h c).2⟩
    rw [h0, h1]
    refine Mm.ext _ _ fun i j => ?_
    unfold Mm.nn
    pointwise

theorem frame_reference [Cert.Reference14Ideal.Facts] : Cert.quiescent_Reference14Ideal := fun m ρ _ =>
  (θ_run Cert.Reference14Ideal.defs _ _).mono
    (fun _ h => ⟨fun c => (h c).2, funext fun g => by obtain ⟨_, s | s⟩ := g <;> exact s.elim0⟩)
    (Cert.Reference14Ideal.Value.run (F := Ideal) m ρ)

end Cert.Branch

end
-- ==== Proof.OutProj.lean ====
/- The output projection `merged W`. -/
module

public import proofs.«01_k».proof.Defs
public import proofs.«01_k».proof.Proof.MmModel
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

@[expose] public section

set_option maxRecDepth 16384

noncomputable section

namespace Cert.OutProj

open Cert.Kernel15Ideal Cert.Kernel15Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 1, 0] ∧ win0_1.index t = ![0, 0] ∧ win0_2.index t = ![t.val / 1, 0] :=
  (by decide +kernel : ∀ t : Fin grid0.N, _)

abbrev a0 : Mm.Arr 4096 1024 := m ((c.tc : Thread nD τ).loc main_arg0)
abbrev a1 : Mm.Arr 1024 1024 := m ((c.tc : Thread nD τ).loc main_arg1)

/-- The kernel's result. -/

theorem out : (dats m 0 c).arrAt 2 cfg0.N = Mm.nn (a0 m c) (a1 m c) := by
  refine (dats m 0 c).arrAt_eq_of_covers 2 _ (by decide +kernel) fun t hf y => ?_
  blk_simp
  rw [after0_2]
  unfold outsAt0 Mm.nn
  frame_out
  rw [eq_ix2 y]
  pointwise [k0_pay1]
  blk_point [iblk, V, idx t]

theorem algebraic [Cert.Kernel15Ideal.Facts] [Cert.Reference15Ideal.Facts] : Cert.algebraic_Kernel15Ideal_Reference15Ideal := by
  intro m g m' g' _ hargs
  refine ⟨fun c => Mm.nn (a0 m c) (a1 m c), ?_, ?_⟩
  · refine (θ_run Cert.Kernel15Ideal.defs _ _).mono (fun r h c => ?_) (Cert.Kernel15Ideal.Value.run_blocks (F := Ideal) m g)
    exact ⟨(h c).1.trans (out m c), (h c).2⟩
  · refine (θ_run Cert.Reference15Ideal.defs _ _).mono (fun r h c => ?_) (Cert.Reference15Ideal.Value.run (F := Ideal) m' g')
    obtain ⟨h0, h1⟩ := hargs c
    refine ⟨(h c).1.trans ?_, (h c).2⟩
    rw [h0, h1]
    refine Mm.ext _ _ fun i j => ?_
    unfold Mm.nn
    pointwise

theorem frame_reference [Cert.Reference15Ideal.Facts] : Cert.quiescent_Reference15Ideal := fun m ρ _ =>
  (θ_run Cert.Reference15Ideal.defs _ _).mono
    (fun _ h => ⟨fun c => (h c).2, funext fun g => by obtain ⟨_, s | s⟩ := g <;> exact s.elim0⟩)
    (Cert.Reference15Ideal.Value.run (F := Ideal) m ρ)

end Cert.OutProj

end
-- ==== Proof.Ff1.lean ====
/- The feed-forward's first product `h W₁` and its squared ReLU. -/
module

public import proofs.«01_k».proof.Defs
public import proofs.«01_k».proof.Proof.MmModel
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

namespace Cert.Ff1

open Cert.Kernel16Ideal Cert.Kernel16Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

abbrev a0 : Mm.Arr 4096 1024 := m ((c.tc : Thread nD τ).loc main_arg0)
abbrev a1 : Mm.Arr 1024 4096 := m ((c.tc : Thread nD τ).loc main_arg1)

/-- The kernel's result. -/

theorem out : (dats m 0 c).arrAt 2 cfg0.N = Mm.nn (a0 m c) (a1 m c) := by
  refine (dats m 0 c).arrAt_eq_of_covers 2 _ (by decide +kernel) fun t hf y => ?_
  blk_simp
  rw [after0_2]
  unfold outsAt0 Mm.nn
  frame_out
  rw [eq_ix2 y]
  pointwise [k0_pay2, k0_pay1]
  blk_point [iblk, V, idx t]

theorem out_relu : (dats m 0 c).arrAt 3 cfg0.N = fun i => max (Mm.nn (a0 m c) (a1 m c) i) 0 * max (Mm.nn (a0 m c) (a1 m c) i) 0 := by
  refine (dats m 0 c).arrAt_eq_of_covers 3 _ (by decide +kernel) fun t hf y => ?_
  blk_simp
  rw [after0_3]
  unfold outsAt0 Mm.nn
  frame_out
  have h : ∀ z, k0_pay1 (iblk m c 0 t) (iblk m c 1 t) y = z → k0_pay3 (iblk m c 0 t) (iblk m c 1 t) y = max z 0 * max z 0 := by
    rintro _ rfl
    pointwise [k0_pay3]
  refine h _ ?_
  rw [eq_ix2 y]
  pointwise [k0_pay1]
  blk_point [iblk, V, idx t]

theorem algebraic [Cert.Kernel16Ideal.Facts] [Cert.Reference16Ideal.Facts] : Cert.algebraic_Kernel16Ideal_Reference16Ideal := by
  intro m g m' g' _ hargs
  refine ⟨fun c => Mm.nn (a0 m c) (a1 m c), fun c i => max (Mm.nn (a0 m c) (a1 m c) i) 0 * max (Mm.nn (a0 m c) (a1 m c) i) 0, ?_, ?_⟩
  · refine (θ_run Cert.Kernel16Ideal.defs _ _).mono (fun r h c => ?_) (Cert.Kernel16Ideal.Value.run_blocks (F := Ideal) m g)
    exact ⟨(h c).1.trans (out m c), (h c).2.1.trans (out_relu m c), (h c).2.2⟩
  · refine (θ_run Cert.Reference16Ideal.defs _ _).mono (fun r h c => ?_) (Cert.Reference16Ideal.Value.run (F := Ideal) m' g')
    obtain ⟨h0, h1⟩ := hargs c
    refine ⟨(h c).1.trans ?_, (h c).2.1.trans ?_, (h c).2.2⟩ <;>
    · rw [h0, h1]
      refine Mm.ext _ _ fun i j => ?_
      unfold Mm.nn
      pointwise

theorem frame_reference [Cert.Reference16Ideal.Facts] : Cert.quiescent_Reference16Ideal := fun m ρ _ =>
  (θ_run Cert.Reference16Ideal.defs _ _).mono
    (fun _ h => ⟨fun c => (h c).2.2, funext fun g => by obtain ⟨_, s | s⟩ := g <;> exact s.elim0⟩)
    (Cert.Reference16Ideal.Value.run (F := Ideal) m ρ)

end Cert.Ff1

end
-- ==== Proof.Ff2.lean ====
/- The feed-forward's second product `r W₂`. -/
module

public import proofs.«01_k».proof.Defs
public import proofs.«01_k».proof.Proof.MmModel
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack

@[expose] public section

set_option maxRecDepth 16384

noncomputable section

namespace Cert.Ff2

open Cert.Kernel17Ideal Cert.Kernel17Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

abbrev a0 : Mm.Arr 4096 4096 := m ((c.tc : Thread nD τ).loc main_arg0)
abbrev a1 : Mm.Arr 4096 1024 := m ((c.tc : Thread nD τ).loc main_arg1)

/-- The kernel's result. -/

theorem out : (dats m 0 c).arrAt 2 cfg0.N = Mm.nn (a0 m c) (a1 m c) := by
  refine (dats m 0 c).arrAt_eq_of_covers 2 _ (by decide +kernel) fun t hf y => ?_
  have h1 := (flush0_2 t).mp hf
  have hp : t.val - 1 < cfg0.N := by have := t.isLt; omega
  blk_simp
  rw [after0_2, outsAt0_B m c t (by omega) h1 h1]
  frame_out
  rw [outsAt0_A m c ⟨t.val - 1, hp⟩ (by show (t.val - 1) % 2 = 0; omega) (by show ¬(t.val - 1) % 2 = 1; omega) (by show ¬(t.val - 1) % 2 = 1; omega)]
  frame_out
  simp only [read_unread_whole]
  unfold Mm.nn
  rw [eq_ix2 y]
  pointwise [k0_pay3, k0_pay2, k0_pay1]
  refine Mm.halves _ _ _ rfl (fun k hk => ?_) fun k hk => ?_
  · blk_point [iblk, V, idx ⟨t.val - 1, hp⟩, idx t]
  · blk_point [iblk, V, idx t]

theorem algebraic [Cert.Kernel17Ideal.Facts] [Cert.Reference17Ideal.Facts] : Cert.algebraic_Kernel17Ideal_Reference17Ideal := by
  intro m g m' g' _ hargs
  refine ⟨fun c => Mm.nn (a0 m c) (a1 m c), ?_, ?_⟩
  · refine (θ_run Cert.Kernel17Ideal.defs _ _).mono (fun r h c => ?_) (Cert.Kernel17Ideal.Value.run_blocks (F := Ideal) m g)
    exact ⟨(h c).1.trans (out m c), (h c).2⟩
  · refine (θ_run Cert.Reference17Ideal.defs _ _).mono (fun r h c => ?_) (Cert.Reference17Ideal.Value.run (F := Ideal) m' g')
    obtain ⟨h0, h1⟩ := hargs c
    refine ⟨(h c).1.trans ?_, (h c).2⟩
    rw [h0, h1]
    refine Mm.ext _ _ fun i j => ?_
    unfold Mm.nn
    pointwise

theorem frame_reference [Cert.Reference17Ideal.Facts] : Cert.quiescent_Reference17Ideal := fun m ρ _ =>
  (θ_run Cert.Reference17Ideal.defs _ _).mono
    (fun _ h => ⟨fun c => (h c).2, funext fun g => by obtain ⟨_, s | s⟩ := g <;> exact s.elim0⟩)
    (Cert.Reference17Ideal.Value.run (F := Ideal) m ρ)

end Cert.Ff2

end
-- ==== Proof.AdamModel.lean ====
/- One AdamW step of one number, over the extended reals, with the constants as the programs write them. -/
module

public import proofs.«01_k».proof.Proof.MmModel

@[expose] public section

noncomputable section

namespace Adam

open Idealize.ShloMosaic

/-- The new first moment, `β₁ m + (1 - β₁) g`. -/
def newM (g p : EReal) : EReal := Ideal.ofBits FTy.f32 1063675494#32 * p + Ideal.ofBits FTy.f32 1036831949#32 * g

/-- The new second moment, `β₂ v + (1 - β₂) g²`. -/
def newV (g v : EReal) : EReal := Ideal.ofBits FTy.f32 1065336439#32 * v + Ideal.ofBits FTy.f32 981668463#32 * (g * g)

/-- The step, `-η (m̂ / (√v̂ + ε) + λ w)`. -/
def delta (w g p v : EReal) : EReal :=
  Ideal.ofBits FTy.f32 3129152111#32 *
    (Ideal.div (Ideal.div (newM g p) (Ideal.ofBits FTy.f32 1059503362#32))
        (Ideal.sqrt (Ideal.div (newV g v) (Ideal.ofBits FTy.f32 1008933580#32)) + Ideal.ofBits FTy.f32 841731191#32) +
      Ideal.ofBits FTy.f32 1008981770#32 * w)

/-- The three results of a step, array by array. -/
def newMs {a b : ℕ} (g p : Mm.Arr a b) : Mm.Arr a b := fun i => newM (g i) (p i)
def newVs {a b : ℕ} (g v : Mm.Arr a b) : Mm.Arr a b := fun i => newV (g i) (v i)
def deltas {a b : ℕ} (w g p v : Mm.Arr a b) : Mm.Arr a b := fun i => delta (w i) (g i) (p i) (v i)

theorem newM_congr {g g' p p' : EReal} (h : g = g') (h' : p = p') : newM g p = newM g' p' := by rw [h, h']

theorem newV_congr {g g' v v' : EReal} (h : g = g') (h' : v = v') : newV g v = newV g' v' := by rw [h, h']

theorem delta_congr {w w' g g' p p' v v' : EReal} (h : w = w') (h1 : g = g') (h2 : p = p') (h3 : v = v') :
    delta w g p v = delta w' g' p' v' := by rw [h, h1, h2, h3]

end Adam

end
-- ==== Proof.AdamWNorm.lean ====
/- The AdamW step of a norm's weight. -/
module

public import proofs.«01_k».proof.Defs
public import proofs.«01_k».proof.Proof.AdamModel
public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

namespace Cert.AdamWNorm

open Cert.Kernel18Ideal Cert.Kernel18Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev a0 : Mm.Arr 4 1024 := m ((c.tc : Thread nD τ).loc main_arg0)
abbrev a1 : Mm.Arr 4 1024 := m ((c.tc : Thread nD τ).loc main_arg1)
abbrev a2 : Mm.Arr 4 1024 := m ((c.tc : Thread nD τ).loc main_arg2)
abbrev a3 : Mm.Arr 4 1024 := m ((c.tc : Thread nD τ).loc main_arg3)

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 4 1024) (i : Fin 4) (j : Fin 1024) : k0_pay3 (F := Ideal) g p v w (ix2 i j) = Adam.delta (w (ix2 i j)) (g (ix2 i j)) (p (ix2 i j)) (v (ix2 i j)) := by
    pointwise [k0_pay3, k0_pay2, k0_pay1, Adam.delta, Adam.newM, Adam.newV]
  refine (h _ _ _ _ _ _).trans (Adam.delta_congr ?_ ?_ ?_ ?_)
  · blk_point [iblk, V, idx t]
  · blk_point [iblk, V, idx t]
  · blk_point [iblk, V, idx t]
  · blk_point [iblk, V, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 4 1024) (i : Fin 4) (j : Fin 1024) : k0_pay1 (F := Ideal) g p (ix2 i j) = Adam.newM (g (ix2 i j)) (p (ix2 i j)) := by
    pointwise [k0_pay1, Adam.newM]
  refine (h _ _ _ _).trans (Adam.newM_congr ?_ ?_)
  · blk_point [iblk, V, idx t]
  · blk_point [iblk, V, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 4 1024) (i : Fin 4) (j : Fin 1024) : k0_pay2 (F := Ideal) g v (ix2 i j) = Adam.newV (g (ix2 i j)) (v (ix2 i j)) := by
    pointwise [k0_pay2, Adam.newV]
  refine (h _ _ _ _).trans (Adam.newV_congr ?_ ?_)
  · blk_point [iblk, V, idx t]
  · blk_point [iblk, V, idx t]

theorem algebraic [Cert.Kernel18Ideal.Facts] [Cert.Reference18Ideal.Facts] : Cert.algebraic_Kernel18Ideal_Reference18Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel18Ideal.defs _ _).mono (fun r h c => ?_) (Cert.Kernel18Ideal.Value.run_blocks (F := Ideal) m g)
    exact ⟨(h c).1.trans (delta m c), (h c).2.1.trans (newM m c), (h c).2.2.1.trans (newV m c), (h c).2.2.2⟩
  · refine (θ_run Cert.Reference18Ideal.defs _ _).mono (fun r h c => ?_) (Cert.Reference18Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      funext i
      pointwise [Adam.deltas, Adam.delta, Adam.newM, Adam.newV]
    · rw [h1, h2]
      funext i
      pointwise [Adam.newMs, Adam.newM]
    · rw [h1, h3]
      funext i
      pointwise [Adam.newVs, Adam.newV]

theorem frame_reference [Cert.Reference18Ideal.Facts] : Cert.quiescent_Reference18Ideal := fun m ρ _ =>
  (θ_run Cert.Reference18Ideal.defs _ _).mono
    (fun _ h => ⟨fun c => (h c).2.2.2, funext fun g => by obtain ⟨_, s | s⟩ := g <;> exact s.elim0⟩)
    (Cert.Reference18Ideal.Value.run (F := Ideal) m ρ)

end Cert.AdamWNorm

end
-- ==== Proof.AdamWWIn.lean ====
/- The AdamW step of the input projection's weight. -/
module

public import proofs.«01_k».proof.Defs
public import proofs.«01_k».proof.Proof.AdamModel
public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

namespace Cert.AdamWWIn

open Cert.Kernel19Ideal Cert.Kernel19Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x1024x1025.Idx → EReal := m ((c.tc : Thread nD τ).loc main_arg0)
abbrev a0 : Mm.Arr 4096 1025 := shapeCast S4096x1025 (b0 m c) shapeCasts_S4x1024x1025_S4096x1025
abbrev b1 : S4x1024x1025.Idx → EReal := m ((c.tc : Thread nD τ).loc main_arg1)
abbrev a1 : Mm.Arr 4096 1025 := shapeCast S4096x1025 (b1 m c) shapeCasts_S4x1024x1025_S4096x1025
abbrev b2 : S4x1024x1025.Idx → EReal := m ((c.tc : Thread nD τ).loc main_arg2)
abbrev a2 : Mm.Arr 4096 1025 := shapeCast S4096x1025 (b2 m c) shapeCasts_S4x1024x1025_S4096x1025
abbrev b3 : S4x1024x1025.Idx → EReal := m ((c.tc : Thread nD τ).loc main_arg3)
abbrev a3 : Mm.Arr 4096 1025 := shapeCast S4096x1025 (b3 m c) shapeCasts_S4x1024x1025_S4096x1025

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x1024x1025.Idx → EReal} (h : x = y) : shapeCast S4096x1025 x shapeCasts_S4x1024x1025_S4096x1025 = shapeCast S4096x1025 y shapeCasts_S4x1024x1025_S4096x1025 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 256 1025) (i : Fin 256) (j : Fin 1025) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 256 1025) (i : Fin 256) (j : Fin 1025) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 256 1025) (i : Fin 256) (j : Fin 1025) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel19Ideal.Facts] [Cert.Reference19Ideal.Facts] : Cert.algebraic_Kernel19Ideal_Reference19Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel19Ideal.defs _ _).mono (fun r h c => ?_) (Cert.Kernel19Ideal.Value.run_blocks (F := Ideal) m g)
    exact ⟨(h c).1.trans (delta m c), (h c).2.1.trans (newM m c), (h c).2.2.1.trans (newV m c), (h c).2.2.2⟩
  · refine (θ_run Cert.Reference19Ideal.defs _ _).mono (fun r h c => ?_) (Cert.Reference19Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference19Ideal.Facts] : Cert.quiescent_Reference19Ideal := fun m ρ _ =>
  (θ_run Cert.Reference19Ideal.defs _ _).mono
    (fun _ h => ⟨fun c => (h c).2.2.2, funext fun g => by obtain ⟨_, s | s⟩ := g <;> exact s.elim0⟩)
    (Cert.Reference19Ideal.Value.run (F := Ideal) m ρ)

end Cert.AdamWWIn

end
-- ==== Proof.AdamWConvQkv.lean ====
/- The AdamW step of the delta rule's convolution. -/
module

public import proofs.«01_k».proof.Defs
public import proofs.«01_k».proof.Proof.AdamModel
public import proofs.«01_k».proof.Proof.Gen.Kernel20Ideal.Value
public import proofs.«01_k».proof.Proof.Gen.Reference20Ideal.Run
public import Idealize.ShloMosaic.Lib.Pipeline.ValueKit

@[expose] public section

set_option maxRecDepth 16384

noncomputable section

namespace Cert.AdamWConvQkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x4x192.Idx → EReal := m ((c.tc : Thread nD τ).loc main_arg0)
abbrev a0 : Mm.Arr 16 192 := shapeCast S16x192 (b0 m c) shapeCasts_S4x4x192_S16x192
abbrev b1 : S4x4x192.Idx → EReal := m ((c.tc : Thread nD τ).loc main_arg1)
abbrev a1 : Mm.Arr 16 192 := shapeCast S16x192 (b1 m c) shapeCasts_S4x4x192_S16x192
abbrev b2 : S4x4x192.Idx → EReal := m ((c.tc : Thread nD τ).loc main_arg2)
abbrev a2 : Mm.Arr 16 192 := shapeCast S16x192 (b2 m c) shapeCasts_S4x4x192_S16x192
abbrev b3 : S4x4x192.Idx → EReal := m ((c.tc : Thread nD τ).loc main_arg3)
abbrev a3 : Mm.Arr 16 192 := shapeCast S16x192 (b3 m c) shapeCasts_S4x4x192_S16x192

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x4x192.Idx → EReal} (h : x = y) : shapeCast S16x192 x shapeCasts_S4x4x192_S16x192 = shapeCast S16x192 y shapeCasts_S4x4x192_S16x192 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 16 192) (i : Fin 16) (j : Fin 192) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 16 192) (i : Fin 16) (j : Fin 192) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 16 192) (i : Fin 16) (j : Fin 192) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel20Ideal.Facts] [Cert.Reference20Ideal.Facts] : Cert.algebraic_Kernel20Ideal_Reference20Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel20Ideal.defs _ _).mono (fun r h c => ?_) (Cert.Kernel20Ideal.Value.run_blocks (F := Ideal) m g)
    exact ⟨(h c).1.trans (delta m c), (h c).2.1.trans (newM m c), (h c).2.2.1.trans (newV m c), (h c).2.2.2⟩
  · refine (θ_run Cert.Reference20Ideal.defs _ _).mono (fun r h c => ?_) (Cert.Reference20Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference20Ideal.Facts] : Cert.quiescent_Reference20Ideal := fun m ρ _ =>
  (θ_run Cert.Reference20Ideal.defs _ _).mono
    (fun _ h => ⟨fun c => (h c).2.2.2, funext fun g => by obtain ⟨_, s | s⟩ := g <;> exact s.elim0⟩)
    (Cert.Reference20Ideal.Value.run (F := Ideal) m ρ)

end Cert.AdamWConvQkv

end
-- ==== Proof.AdamWDecay.lean ====
/- The AdamW step of the delta rule's decay parameters. -/
module

public import proofs.«01_k».proof.Defs
public import proofs.«01_k».proof.Proof.AdamModel
public import proofs.«01_k».proof.Proof.Gen.Kernel21Ideal.Value
public import proofs.«01_k».proof.Proof.Gen.Reference21Ideal.Run
public import Idealize.ShloMosaic.Lib.Pipeline.ValueKit

@[expose] public section

set_option maxRecDepth 16384

noncomputable section

namespace Cert.AdamWDecay

open Cert.Kernel21Ideal Cert.Kernel21Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev a0 : Mm.Arr 4 4 := m ((c.tc : Thread nD τ).loc main_arg0)
abbrev a1 : Mm.Arr 4 4 := m ((c.tc : Thread nD τ).loc main_arg1)
abbrev a2 : Mm.Arr 4 4 := m ((c.tc : Thread nD τ).loc main_arg2)
abbrev a3 : Mm.Arr 4 4 := m ((c.tc : Thread nD τ).loc main_arg3)

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 4 4) (i : Fin 4) (j : Fin 4) : k0_pay3 (F := Ideal) g p v w (ix2 i j) = Adam.delta (w (ix2 i j)) (g (ix2 i j)) (p (ix2 i j)) (v (ix2 i j)) := by
    pointwise [k0_pay3, k0_pay2, k0_pay1, Adam.delta, Adam.newM, Adam.newV]
  refine (h _ _ _ _ _ _).trans (Adam.delta_congr ?_ ?_ ?_ ?_)
  · blk_point [iblk, V, idx t]
  · blk_point [iblk, V, idx t]
  · blk_point [iblk, V, idx t]
  · blk_point [iblk, V, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 4 4) (i : Fin 4) (j : Fin 4) : k0_pay1 (F := Ideal) g p (ix2 i j) = Adam.newM (g (ix2 i j)) (p (ix2 i j)) := by
    pointwise [k0_pay1, Adam.newM]
  refine (h _ _ _ _).trans (Adam.newM_congr ?_ ?_)
  · blk_point [iblk, V, idx t]
  · blk_point [iblk, V, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 4 4) (i : Fin 4) (j : Fin 4) : k0_pay2 (F := Ideal) g v (ix2 i j) = Adam.newV (g (ix2 i j)) (v (ix2 i j)) := by
    pointwise [k0_pay2, Adam.newV]
  refine (h _ _ _ _).trans (Adam.newV_congr ?_ ?_)
  · blk_point [iblk, V, idx t]
  · blk_point [iblk, V, idx t]

theorem algebraic [Cert.Kernel21Ideal.Facts] [Cert.Reference21Ideal.Facts] : Cert.algebraic_Kernel21Ideal_Reference21Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel21Ideal.defs _ _).mono (fun r h c => ?_) (Cert.Kernel21Ideal.Value.run_blocks (F := Ideal) m g)
    exact ⟨(h c).1.trans (delta m c), (h c).2.1.trans (newM m c), (h c).2.2.1.trans (newV m c), (h c).2.2.2⟩
  · refine (θ_run Cert.Reference21Ideal.defs _ _).mono (fun r h c => ?_) (Cert.Reference21Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      funext i
      pointwise [Adam.deltas, Adam.delta, Adam.newM, Adam.newV]
    · rw [h1, h2]
      funext i
      pointwise [Adam.newMs, Adam.newM]
    · rw [h1, h3]
      funext i
      pointwise [Adam.newVs, Adam.newV]

theorem frame_reference [Cert.Reference21Ideal.Facts] : Cert.quiescent_Reference21Ideal := fun m ρ _ =>
  (θ_run Cert.Reference21Ideal.defs _ _).mono
    (fun _ h => ⟨fun c => (h c).2.2.2, funext fun g => by obtain ⟨_, s | s⟩ := g <;> exact s.elim0⟩)
    (Cert.Reference21Ideal.Value.run (F := Ideal) m ρ)

end Cert.AdamWDecay

end
-- ==== Proof.AdamWGdnNorm.lean ====
/- The AdamW step of the delta rule's norm. -/
module

public import proofs.«01_k».proof.Defs
public import proofs.«01_k».proof.Proof.AdamModel
public import proofs.«01_k».proof.Proof.Gen.Kernel22Ideal.Value
public import proofs.«01_k».proof.Proof.Gen.Reference22Ideal.Run
public import Idealize.ShloMosaic.Lib.Pipeline.ValueKit

@[expose] public section

set_option maxRecDepth 16384

noncomputable section

namespace Cert.AdamWGdnNorm

open Cert.Kernel22Ideal Cert.Kernel22Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev a0 : Mm.Arr 4 128 := m ((c.tc : Thread nD τ).loc main_arg0)
abbrev a1 : Mm.Arr 4 128 := m ((c.tc : Thread nD τ).loc main_arg1)
abbrev a2 : Mm.Arr 4 128 := m ((c.tc : Thread nD τ).loc main_arg2)
abbrev a3 : Mm.Arr 4 128 := m ((c.tc : Thread nD τ).loc main_arg3)

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 4 128) (i : Fin 4) (j : Fin 128) : k0_pay3 (F := Ideal) g p v w (ix2 i j) = Adam.delta (w (ix2 i j)) (g (ix2 i j)) (p (ix2 i j)) (v (ix2 i j)) := by
    pointwise [k0_pay3, k0_pay2, k0_pay1, Adam.delta, Adam.newM, Adam.newV]
  refine (h _ _ _ _ _ _).trans (Adam.delta_congr ?_ ?_ ?_ ?_)
  · blk_point [iblk, V, idx t]
  · blk_point [iblk, V, idx t]
  · blk_point [iblk, V, idx t]
  · blk_point [iblk, V, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 4 128) (i : Fin 4) (j : Fin 128) : k0_pay1 (F := Ideal) g p (ix2 i j) = Adam.newM (g (ix2 i j)) (p (ix2 i j)) := by
    pointwise [k0_pay1, Adam.newM]
  refine (h _ _ _ _).trans (Adam.newM_congr ?_ ?_)
  · blk_point [iblk, V, idx t]
  · blk_point [iblk, V, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 4 128) (i : Fin 4) (j : Fin 128) : k0_pay2 (F := Ideal) g v (ix2 i j) = Adam.newV (g (ix2 i j)) (v (ix2 i j)) := by
    pointwise [k0_pay2, Adam.newV]
  refine (h _ _ _ _).trans (Adam.newV_congr ?_ ?_)
  · blk_point [iblk, V, idx t]
  · blk_point [iblk, V, idx t]

theorem algebraic [Cert.Kernel22Ideal.Facts] [Cert.Reference22Ideal.Facts] : Cert.algebraic_Kernel22Ideal_Reference22Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel22Ideal.defs _ _).mono (fun r h c => ?_) (Cert.Kernel22Ideal.Value.run_blocks (F := Ideal) m g)
    exact ⟨(h c).1.trans (delta m c), (h c).2.1.trans (newM m c), (h c).2.2.1.trans (newV m c), (h c).2.2.2⟩
  · refine (θ_run Cert.Reference22Ideal.defs _ _).mono (fun r h c => ?_) (Cert.Reference22Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      funext i
      pointwise [Adam.deltas, Adam.delta, Adam.newM, Adam.newV]
    · rw [h1, h2]
      funext i
      pointwise [Adam.newMs, Adam.newM]
    · rw [h1, h3]
      funext i
      pointwise [Adam.newVs, Adam.newV]

theorem frame_reference [Cert.Reference22Ideal.Facts] : Cert.quiescent_Reference22Ideal := fun m ρ _ =>
  (θ_run Cert.Reference22Ideal.defs _ _).mono
    (fun _ h => ⟨fun c => (h c).2.2.2, funext fun g => by obtain ⟨_, s | s⟩ := g <;> exact s.elim0⟩)
    (Cert.Reference22Ideal.Value.run (F := Ideal) m ρ)

end Cert.AdamWGdnNorm

end
-- ==== Proof.AdamWConvSc.lean ====
/- The AdamW step of the gated short convolution. -/
module

public import proofs.«01_k».proof.Defs
public import proofs.«01_k».proof.Proof.AdamModel
public import proofs.«01_k».proof.Proof.Gen.Kernel23Ideal.Value
public import proofs.«01_k».proof.Proof.Gen.Reference23Ideal.Run
public import Idealize.ShloMosaic.Lib.Pipeline.ValueKit

@[expose] public section

set_option maxRecDepth 16384

noncomputable section

namespace Cert.AdamWConvSc

open Cert.Kernel23Ideal Cert.Kernel23Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x3x64.Idx → EReal := m ((c.tc : Thread nD τ).loc main_arg0)
abbrev a0 : Mm.Arr 12 64 := shapeCast S12x64 (b0 m c) shapeCasts_S4x3x64_S12x64
abbrev b1 : S4x3x64.Idx → EReal := m ((c.tc : Thread nD τ).loc main_arg1)
abbrev a1 : Mm.Arr 12 64 := shapeCast S12x64 (b1 m c) shapeCasts_S4x3x64_S12x64
abbrev b2 : S4x3x64.Idx → EReal := m ((c.tc : Thread nD τ).loc main_arg2)
abbrev a2 : Mm.Arr 12 64 := shapeCast S12x64 (b2 m c) shapeCasts_S4x3x64_S12x64
abbrev b3 : S4x3x64.Idx → EReal := m ((c.tc : Thread nD τ).loc main_arg3)
abbrev a3 : Mm.Arr 12 64 := shapeCast S12x64 (b3 m c) shapeCasts_S4x3x64_S12x64

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x3x64.Idx → EReal} (h : x = y) : shapeCast S12x64 x shapeCasts_S4x3x64_S12x64 = shapeCast S12x64 y shapeCasts_S4x3x64_S12x64 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 12 64) (i : Fin 12) (j : Fin 64) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 12 64) (i : Fin 12) (j : Fin 64) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 12 64) (i : Fin 12) (j : Fin 64) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel23Ideal.Facts] [Cert.Reference23Ideal.Facts] : Cert.algebraic_Kernel23Ideal_Reference23Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel23Ideal.defs _ _).mono (fun r h c => ?_) (Cert.Kernel23Ideal.Value.run_blocks (F := Ideal) m g)
    exact ⟨(h c).1.trans (delta m c), (h c).2.1.trans (newM m c), (h c).2.2.1.trans (newV m c), (h c).2.2.2⟩
  · refine (θ_run Cert.Reference23Ideal.defs _ _).mono (fun r h c => ?_) (Cert.Reference23Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference23Ideal.Facts] : Cert.quiescent_Reference23Ideal := fun m ρ _ =>
  (θ_run Cert.Reference23Ideal.defs _ _).mono
    (fun _ h => ⟨fun c => (h c).2.2.2, funext fun g => by obtain ⟨_, s | s⟩ := g <;> exact s.elim0⟩)
    (Cert.Reference23Ideal.Value.run (F := Ideal) m ρ)

end Cert.AdamWConvSc

end
-- ==== Proof.AdamWWBranch.lean ====
/- The AdamW step of the branch projections' weight. -/
module

public import proofs.«01_k».proof.Defs
public import proofs.«01_k».proof.Proof.AdamModel
public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

namespace Cert.AdamWWBranch

open Cert.Kernel24Ideal Cert.Kernel24Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x3x512x128.Idx → EReal := m ((c.tc : Thread nD τ).loc main_arg0)
abbrev a0 : Mm.Arr 6144 128 := shapeCast S6144x128 (b0 m c) shapeCasts_S4x3x512x128_S6144x128
abbrev b1 : S4x3x512x128.Idx → EReal := m ((c.tc : Thread nD τ).loc main_arg1)
abbrev a1 : Mm.Arr 6144 128 := shapeCast S6144x128 (b1 m c) shapeCasts_S4x3x512x128_S6144x128
abbrev b2 : S4x3x512x128.Idx → EReal := m ((c.tc : Thread nD τ).loc main_arg2)
abbrev a2 : Mm.Arr 6144 128 := shapeCast S6144x128 (b2 m c) shapeCasts_S4x3x512x128_S6144x128
abbrev b3 : S4x3x512x128.Idx → EReal := m ((c.tc : Thread nD τ).loc main_arg3)
abbrev a3 : Mm.Arr 6144 128 := shapeCast S6144x128 (b3 m c) shapeCasts_S4x3x512x128_S6144x128

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x3x512x128.Idx → EReal} (h : x = y) : shapeCast S6144x128 x shapeCasts_S4x3x512x128_S6144x128 = shapeCast S6144x128 y shapeCasts_S4x3x512x128_S6144x128 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 3072 128) (i : Fin 3072) (j : Fin 128) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 3072 128) (i : Fin 3072) (j : Fin 128) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 3072 128) (i : Fin 3072) (j : Fin 128) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel24Ideal.Facts] [Cert.Reference24Ideal.Facts] : Cert.algebraic_Kernel24Ideal_Reference24Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel24Ideal.defs _ _).mono (fun r h c => ?_) (Cert.Kernel24Ideal.Value.run_blocks (F := Ideal) m g)
    exact ⟨(h c).1.trans (delta m c), (h c).2.1.trans (newM m c), (h c).2.2.1.trans (newV m c), (h c).2.2.2⟩
  · refine (θ_run Cert.Reference24Ideal.defs _ _).mono (fun r h c => ?_) (Cert.Reference24Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference24Ideal.Facts] : Cert.quiescent_Reference24Ideal := fun m ρ _ =>
  (θ_run Cert.Reference24Ideal.defs _ _).mono
    (fun _ h => ⟨fun c => (h c).2.2.2, funext fun g => by obtain ⟨_, s | s⟩ := g <;> exact s.elim0⟩)
    (Cert.Reference24Ideal.Value.run (F := Ideal) m ρ)

end Cert.AdamWWBranch

end
-- ==== Proof.AdamWWOut.lean ====
/- The AdamW step of the output projection's weight. -/
module

public import proofs.«01_k».proof.Defs
public import proofs.«01_k».proof.Proof.AdamModel
public import proofs.«01_k».proof.Proof.Gen.Kernel25Ideal.Value
public import proofs.«01_k».proof.Proof.Gen.Reference25Ideal.Run
public import Idealize.ShloMosaic.Lib.Pipeline.ValueKit

@[expose] public section

set_option maxRecDepth 16384

noncomputable section

namespace Cert.AdamWWOut

open Cert.Kernel25Ideal Cert.Kernel25Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x128x1024.Idx → EReal := m ((c.tc : Thread nD τ).loc main_arg0)
abbrev a0 : Mm.Arr 512 1024 := shapeCast S512x1024 (b0 m c) shapeCasts_S4x128x1024_S512x1024
abbrev b1 : S4x128x1024.Idx → EReal := m ((c.tc : Thread nD τ).loc main_arg1)
abbrev a1 : Mm.Arr 512 1024 := shapeCast S512x1024 (b1 m c) shapeCasts_S4x128x1024_S512x1024
abbrev b2 : S4x128x1024.Idx → EReal := m ((c.tc : Thread nD τ).loc main_arg2)
abbrev a2 : Mm.Arr 512 1024 := shapeCast S512x1024 (b2 m c) shapeCasts_S4x128x1024_S512x1024
abbrev b3 : S4x128x1024.Idx → EReal := m ((c.tc : Thread nD τ).loc main_arg3)
abbrev a3 : Mm.Arr 512 1024 := shapeCast S512x1024 (b3 m c) shapeCasts_S4x128x1024_S512x1024

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x128x1024.Idx → EReal} (h : x = y) : shapeCast S512x1024 x shapeCasts_S4x128x1024_S512x1024 = shapeCast S512x1024 y shapeCasts_S4x128x1024_S512x1024 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 512 1024) (i : Fin 512) (j : Fin 1024) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 512 1024) (i : Fin 512) (j : Fin 1024) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 512 1024) (i : Fin 512) (j : Fin 1024) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel25Ideal.Facts] [Cert.Reference25Ideal.Facts] : Cert.algebraic_Kernel25Ideal_Reference25Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel25Ideal.defs _ _).mono (fun r h c => ?_) (Cert.Kernel25Ideal.Value.run_blocks (F := Ideal) m g)
    exact ⟨(h c).1.trans (delta m c), (h c).2.1.trans (newM m c), (h c).2.2.1.trans (newV m c), (h c).2.2.2⟩
  · refine (θ_run Cert.Reference25Ideal.defs _ _).mono (fun r h c => ?_) (Cert.Reference25Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference25Ideal.Facts] : Cert.quiescent_Reference25Ideal := fun m ρ _ =>
  (θ_run Cert.Reference25Ideal.defs _ _).mono
    (fun _ h => ⟨fun c => (h c).2.2.2, funext fun g => by obtain ⟨_, s | s⟩ := g <;> exact s.elim0⟩)
    (Cert.Reference25Ideal.Value.run (F := Ideal) m ρ)

end Cert.AdamWWOut

end
-- ==== Proof.AdamWWFf1.lean ====
/- The AdamW step of the feed-forward's first weight. -/
module

public import proofs.«01_k».proof.Defs
public import proofs.«01_k».proof.Proof.AdamModel
public import proofs.«01_k».proof.Proof.Gen.Kernel26Ideal.Value
public import proofs.«01_k».proof.Proof.Gen.Reference26Ideal.Run
public import Idealize.ShloMosaic.Lib.Pipeline.ValueKit

@[expose] public section

set_option maxRecDepth 16384

noncomputable section

namespace Cert.AdamWWFf1

open Cert.Kernel26Ideal Cert.Kernel26Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x1024x512.Idx → EReal := m ((c.tc : Thread nD τ).loc main_arg0)
abbrev a0 : Mm.Arr 4096 512 := shapeCast S4096x512 (b0 m c) shapeCasts_S4x1024x512_S4096x512
abbrev b1 : S4x1024x512.Idx → EReal := m ((c.tc : Thread nD τ).loc main_arg1)
abbrev a1 : Mm.Arr 4096 512 := shapeCast S4096x512 (b1 m c) shapeCasts_S4x1024x512_S4096x512
abbrev b2 : S4x1024x512.Idx → EReal := m ((c.tc : Thread nD τ).loc main_arg2)
abbrev a2 : Mm.Arr 4096 512 := shapeCast S4096x512 (b2 m c) shapeCasts_S4x1024x512_S4096x512
abbrev b3 : S4x1024x512.Idx → EReal := m ((c.tc : Thread nD τ).loc main_arg3)
abbrev a3 : Mm.Arr 4096 512 := shapeCast S4096x512 (b3 m c) shapeCasts_S4x1024x512_S4096x512

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x1024x512.Idx → EReal} (h : x = y) : shapeCast S4096x512 x shapeCasts_S4x1024x512_S4096x512 = shapeCast S4096x512 y shapeCasts_S4x1024x512_S4096x512 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 1024 512) (i : Fin 1024) (j : Fin 512) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 1024 512) (i : Fin 1024) (j : Fin 512) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 1024 512) (i : Fin 1024) (j : Fin 512) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel26Ideal.Facts] [Cert.Reference26Ideal.Facts] : Cert.algebraic_Kernel26Ideal_Reference26Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel26Ideal.defs _ _).mono (fun r h c => ?_) (Cert.Kernel26Ideal.Value.run_blocks (F := Ideal) m g)
    exact ⟨(h c).1.trans (delta m c), (h c).2.1.trans (newM m c), (h c).2.2.1.trans (newV m c), (h c).2.2.2⟩
  · refine (θ_run Cert.Reference26Ideal.defs _ _).mono (fun r h c => ?_) (Cert.Reference26Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference26Ideal.Facts] : Cert.quiescent_Reference26Ideal := fun m ρ _ =>
  (θ_run Cert.Reference26Ideal.defs _ _).mono
    (fun _ h => ⟨fun c => (h c).2.2.2, funext fun g => by obtain ⟨_, s | s⟩ := g <;> exact s.elim0⟩)
    (Cert.Reference26Ideal.Value.run (F := Ideal) m ρ)

end Cert.AdamWWFf1

end
-- ==== Proof.AdamWWFf2.lean ====
/- The AdamW step of the feed-forward's second weight. -/
module

public import proofs.«01_k».proof.Defs
public import proofs.«01_k».proof.Proof.AdamModel
public import proofs.«01_k».proof.Proof.Gen.Kernel27Ideal.Value
public import proofs.«01_k».proof.Proof.Gen.Reference27Ideal.Run
public import Idealize.ShloMosaic.Lib.Pipeline.ValueKit

@[expose] public section

set_option maxRecDepth 16384

noncomputable section

namespace Cert.AdamWWFf2

open Cert.Kernel27Ideal Cert.Kernel27Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-! The arguments: weight, gradient and the two moments. -/

abbrev b0 : S4x512x1024.Idx → EReal := m ((c.tc : Thread nD τ).loc main_arg0)
abbrev a0 : Mm.Arr 2048 1024 := shapeCast S2048x1024 (b0 m c) shapeCasts_S4x512x1024_S2048x1024
abbrev b1 : S4x512x1024.Idx → EReal := m ((c.tc : Thread nD τ).loc main_arg1)
abbrev a1 : Mm.Arr 2048 1024 := shapeCast S2048x1024 (b1 m c) shapeCasts_S4x512x1024_S2048x1024
abbrev b2 : S4x512x1024.Idx → EReal := m ((c.tc : Thread nD τ).loc main_arg2)
abbrev a2 : Mm.Arr 2048 1024 := shapeCast S2048x1024 (b2 m c) shapeCasts_S4x512x1024_S2048x1024
abbrev b3 : S4x512x1024.Idx → EReal := m ((c.tc : Thread nD τ).loc main_arg3)
abbrev a3 : Mm.Arr 2048 1024 := shapeCast S2048x1024 (b3 m c) shapeCasts_S4x512x1024_S2048x1024

/-! What the call reads: the arguments with their leading axes joined. -/

theorem V0 : V m c main_v0 = a0 m c := by
  entry_read
  rfl

theorem V1 : V m c main_v1 = a1 m c := by
  entry_read
  rfl

theorem V2 : V m c main_v2 = a2 m c := by
  entry_read
  rfl

theorem V3 : V m c main_v3 = a3 m c := by
  entry_read
  rfl

theorem joined {x y : S4x512x1024.Idx → EReal} (h : x = y) : shapeCast S2048x1024 x shapeCasts_S4x512x1024_S2048x1024 = shapeCast S2048x1024 y shapeCasts_S4x512x1024_S2048x1024 := by rw [h]

/-! The kernel's results. -/

theorem delta : (dats m 0 c).arrAt 4 cfg0.N = Adam.deltas (a0 m c) (a1 m c) (a2 m c) (a3 m c) := by
  refine (dats m 0 c).arrAt_eq_of_covers 4 _ (by decide +kernel) fun t hf y => ?_
  blk_simp
  rw [after0_4]
  frame_out
  rw [eq_ix2 y]
  have h (w g p v : Mm.Arr 512 1024) (i : Fin 512) (j : Fin 1024) : k0_pay4 (F := Ideal) g p v w (ix2 i j) = Adam.delta (w (ix2 i j)) (g (ix2 i j)) (p (ix2 i j)) (v (ix2 i j)) := by
    pointwise [k0_pay4, k0_pay3, k0_pay2, k0_pay1, Adam.delta, Adam.newM, Adam.newV]
  refine (h _ _ _ _ _ _).trans (Adam.delta_congr ?_ ?_ ?_ ?_)
  · blk_point [iblk, V0, idx t]
  · blk_point [iblk, V1, idx t]
  · blk_point [iblk, V2, idx t]
  · blk_point [iblk, V3, idx t]

theorem newM : (dats m 0 c).arrAt 5 cfg0.N = Adam.newMs (a1 m c) (a2 m c) := by
  refine (dats m 0 c).arrAt_eq_of_covers 5 _ (by decide +kernel) fun t hf y => ?_
  blk_simp
  rw [after0_5]
  frame_out
  rw [eq_ix2 y]
  have h (g p : Mm.Arr 512 1024) (i : Fin 512) (j : Fin 1024) : k0_pay2 (F := Ideal) g p (ix2 i j) = Adam.newM (g (ix2 i j)) (p (ix2 i j)) := by
    pointwise [k0_pay2, k0_pay1, Adam.newM]
  refine (h _ _ _ _).trans (Adam.newM_congr ?_ ?_)
  · blk_point [iblk, V1, idx t]
  · blk_point [iblk, V2, idx t]

theorem newV : (dats m 0 c).arrAt 6 cfg0.N = Adam.newVs (a1 m c) (a3 m c) := by
  refine (dats m 0 c).arrAt_eq_of_covers 6 _ (by decide +kernel) fun t hf y => ?_
  blk_simp
  rw [after0_6]
  frame_out
  rw [eq_ix2 y]
  have h (g v : Mm.Arr 512 1024) (i : Fin 512) (j : Fin 1024) : k0_pay3 (F := Ideal) g v (ix2 i j) = Adam.newV (g (ix2 i j)) (v (ix2 i j)) := by
    pointwise [k0_pay3, k0_pay1, Adam.newV]
  refine (h _ _ _ _).trans (Adam.newV_congr ?_ ?_)
  · blk_point [iblk, V1, idx t]
  · blk_point [iblk, V3, idx t]

theorem algebraic [Cert.Kernel27Ideal.Facts] [Cert.Reference27Ideal.Facts] : Cert.algebraic_Kernel27Ideal_Reference27Ideal := by
  intro m g m' g' _ hargs
  refine ⟨fun c => Adam.deltas (a0 m c) (a1 m c) (a2 m c) (a3 m c), fun c => Adam.newMs (a1 m c) (a2 m c),
    fun c => Adam.newVs (a1 m c) (a3 m c), ?_, ?_⟩
  · refine (θ_run Cert.Kernel27Ideal.defs _ _).mono (fun r h c => ?_) (Cert.Kernel27Ideal.Value.run_blocks (F := Ideal) m g)
    exact ⟨(h c).1.trans (delta m c), (h c).2.1.trans (newM m c), (h c).2.2.1.trans (newV m c), (h c).2.2.2⟩
  · refine (θ_run Cert.Reference27Ideal.defs _ _).mono (fun r h c => ?_) (Cert.Reference27Ideal.Value.run (F := Ideal) m' g')
    obtain ⟨h0, h1, h2, h3⟩ := hargs c
    refine ⟨(h c).1.trans ?_, (h c).2.1.trans ?_, (h c).2.2.1.trans ?_, (h c).2.2.2⟩
    · rw [h0, h1, h2, h3]
      refine joined (?_ : _ = fun i => Adam.delta (b0 m c i) (b1 m c i) (b2 m c i) (b3 m c i))
      funext i
      pointwise [Adam.delta, Adam.newM, Adam.newV]
    · rw [h1, h2]
      refine joined (?_ : _ = fun i => Adam.newM (b1 m c i) (b2 m c i))
      funext i
      pointwise [Adam.newM]
    · rw [h1, h3]
      refine joined (?_ : _ = fun i => Adam.newV (b1 m c i) (b3 m c i))
      funext i
      pointwise [Adam.newV]

theorem frame_reference [Cert.Reference27Ideal.Facts] : Cert.quiescent_Reference27Ideal := fun m ρ _ =>
  (θ_run Cert.Reference27Ideal.defs _ _).mono
    (fun _ h => ⟨fun c => (h c).2.2.2, funext fun g => by obtain ⟨_, s | s⟩ := g <;> exact s.elim0⟩)
    (Cert.Reference27Ideal.Value.run (F := Ideal) m ρ)

end Cert.AdamWWFf2

end
-- ==== Proof.SumModel.lean ====
/- The sum over the devices of what each of them brings. -/
module

public import proofs.«01_k».proof.Proof.MmModel

@[expose] public section

noncomputable section

namespace Slots

open Idealize.ShloMosaic

/-- The sum over the leading axis. -/
def total {n a b : ℕ} (x : (⟨3, ![n, a, b]⟩ : Shape).Idx → EReal) : Mm.Arr a b := fun i => ∑ s : Fin n, x (ix3 s (i 0) (i 1))

end Slots

end
-- ==== Proof.SumSmall.lean ====
/- The sum over the devices of the small gradients and the loss. -/
module

public import proofs.«01_k».proof.Defs
public import proofs.«01_k».proof.Proof.SumModel
public import proofs.«01_k».proof.Proof.Gen.Kernel28Ideal.Value
public import proofs.«01_k».proof.Proof.Gen.Reference28Ideal.Run
public import Idealize.ShloMosaic.Lib.Pipeline.ValueKit

@[expose] public section

set_option maxRecDepth 16384

noncomputable section

namespace Cert.SumSmall

open Cert.Kernel28Ideal Cert.Kernel28Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 376, 128]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 376, 128]⟩ : Shape).Idx → EReal) (i : Fin 376) (j : Fin 128) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel28Ideal.Facts] [Cert.Reference28Ideal.Facts] : Cert.algebraic_Kernel28Ideal_Reference28Ideal := by
  intro m g m' g' _ hargs
  refine ⟨fun c => Slots.total (a0 m c), ?_, ?_⟩
  · refine (θ_run Cert.Kernel28Ideal.defs _ _).mono (fun r h c => ?_) (Cert.Kernel28Ideal.Value.run_blocks (F := Ideal) m g)
    exact ⟨(h c).1.trans (out m c), (h c).2⟩
  · refine (θ_run Cert.Reference28Ideal.defs _ _).mono (fun r h c => ?_) (Cert.Reference28Ideal.Value.run (F := Ideal) m' g')
    refine ⟨(h c).1.trans ?_, (h c).2⟩
    rw [hargs c]
    refine Mm.ext _ _ fun i j => ?_
    unfold Slots.total
    pointwise

theorem frame_reference [Cert.Reference28Ideal.Facts] : Cert.quiescent_Reference28Ideal := fun m ρ _ =>
  (θ_run Cert.Reference28Ideal.defs _ _).mono
    (fun _ h => ⟨fun c => (h c).2, funext fun g => by obtain ⟨_, s | s⟩ := g <;> exact s.elim0⟩)
    (Cert.Reference28Ideal.Value.run (F := Ideal) m ρ)

end Cert.SumSmall

end
-- ==== Proof.SumBranch.lean ====
/- The sum over the devices of the gradient of the branch projections' weight. -/
module

public import proofs.«01_k».proof.Defs
public import proofs.«01_k».proof.Proof.SumModel
public import proofs.«01_k».proof.Proof.Gen.Kernel29Ideal.Value
public import proofs.«01_k».proof.Proof.Gen.Reference29Ideal.Run
public import Idealize.ShloMosaic.Lib.Pipeline.ValueKit

@[expose] public section

set_option maxRecDepth 16384

noncomputable section

namespace Cert.SumBranch

open Cert.Kernel29Ideal Cert.Kernel29Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 1536, 128]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 512, 128]⟩ : Shape).Idx → EReal) (i : Fin 512) (j : Fin 128) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel29Ideal.Facts] [Cert.Reference29Ideal.Facts] : Cert.algebraic_Kernel29Ideal_Reference29Ideal := by
  intro m g m' g' _ hargs
  refine ⟨fun c => Slots.total (a0 m c), ?_, ?_⟩
  · refine (θ_run Cert.Kernel29Ideal.defs _ _).mono (fun r h c => ?_) (Cert.Kernel29Ideal.Value.run_blocks (F := Ideal) m g)
    exact ⟨(h c).1.trans (out m c), (h c).2⟩
  · refine (θ_run Cert.Reference29Ideal.defs _ _).mono (fun r h c => ?_) (Cert.Reference29Ideal.Value.run (F := Ideal) m' g')
    refine ⟨(h c).1.trans ?_, (h c).2⟩
    rw [hargs c]
    refine Mm.ext _ _ fun i j => ?_
    unfold Slots.total
    pointwise

theorem frame_reference [Cert.Reference29Ideal.Facts] : Cert.quiescent_Reference29Ideal := fun m ρ _ =>
  (θ_run Cert.Reference29Ideal.defs _ _).mono
    (fun _ h => ⟨fun c => (h c).2, funext fun g => by obtain ⟨_, s | s⟩ := g <;> exact s.elim0⟩)
    (Cert.Reference29Ideal.Value.run (F := Ideal) m ρ)

end Cert.SumBranch

end
-- ==== Proof.SumOut.lean ====
/- The sum over the devices of the gradient of the output projection's weight. -/
module

public import proofs.«01_k».proof.Defs
public import proofs.«01_k».proof.Proof.SumModel
public import proofs.«01_k».proof.Proof.Gen.Kernel30Ideal.Value
public import proofs.«01_k».proof.Proof.Gen.Reference30Ideal.Run
public import Idealize.ShloMosaic.Lib.Pipeline.ValueKit

@[expose] public section

set_option maxRecDepth 16384

noncomputable section

namespace Cert.SumOut

open Cert.Kernel30Ideal Cert.Kernel30Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 128, 1024]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 128, 1024]⟩ : Shape).Idx → EReal) (i : Fin 128) (j : Fin 1024) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel30Ideal.Facts] [Cert.Reference30Ideal.Facts] : Cert.algebraic_Kernel30Ideal_Reference30Ideal := by
  intro m g m' g' _ hargs
  refine ⟨fun c => Slots.total (a0 m c), ?_, ?_⟩
  · refine (θ_run Cert.Kernel30Ideal.defs _ _).mono (fun r h c => ?_) (Cert.Kernel30Ideal.Value.run_blocks (F := Ideal) m g)
    exact ⟨(h c).1.trans (out m c), (h c).2⟩
  · refine (θ_run Cert.Reference30Ideal.defs _ _).mono (fun r h c => ?_) (Cert.Reference30Ideal.Value.run (F := Ideal) m' g')
    refine ⟨(h c).1.trans ?_, (h c).2⟩
    rw [hargs c]
    refine Mm.ext _ _ fun i j => ?_
    unfold Slots.total
    pointwise

theorem frame_reference [Cert.Reference30Ideal.Facts] : Cert.quiescent_Reference30Ideal := fun m ρ _ =>
  (θ_run Cert.Reference30Ideal.defs _ _).mono
    (fun _ h => ⟨fun c => (h c).2, funext fun g => by obtain ⟨_, s | s⟩ := g <;> exact s.elim0⟩)
    (Cert.Reference30Ideal.Value.run (F := Ideal) m ρ)

end Cert.SumOut

end
-- ==== Proof.SumFf1.lean ====
/- The sum over the devices of the gradient of the feed-forward's first weight. -/
module

public import proofs.«01_k».proof.Defs
public import proofs.«01_k».proof.Proof.SumModel
public import proofs.«01_k».proof.Proof.Gen.Kernel31Ideal.Value
public import proofs.«01_k».proof.Proof.Gen.Reference31Ideal.Run
public import Idealize.ShloMosaic.Lib.Pipeline.ValueKit

@[expose] public section

set_option maxRecDepth 16384

noncomputable section

namespace Cert.SumFf1

open Cert.Kernel31Ideal Cert.Kernel31Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 1024, 512]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 512, 512]⟩ : Shape).Idx → EReal) (i : Fin 512) (j : Fin 512) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel31Ideal.Facts] [Cert.Reference31Ideal.Facts] : Cert.algebraic_Kernel31Ideal_Reference31Ideal := by
  intro m g m' g' _ hargs
  refine ⟨fun c => Slots.total (a0 m c), ?_, ?_⟩
  · refine (θ_run Cert.Kernel31Ideal.defs _ _).mono (fun r h c => ?_) (Cert.Kernel31Ideal.Value.run_blocks (F := Ideal) m g)
    exact ⟨(h c).1.trans (out m c), (h c).2⟩
  · refine (θ_run Cert.Reference31Ideal.defs _ _).mono (fun r h c => ?_) (Cert.Reference31Ideal.Value.run (F := Ideal) m' g')
    refine ⟨(h c).1.trans ?_, (h c).2⟩
    rw [hargs c]
    refine Mm.ext _ _ fun i j => ?_
    unfold Slots.total
    pointwise

theorem frame_reference [Cert.Reference31Ideal.Facts] : Cert.quiescent_Reference31Ideal := fun m ρ _ =>
  (θ_run Cert.Reference31Ideal.defs _ _).mono
    (fun _ h => ⟨fun c => (h c).2, funext fun g => by obtain ⟨_, s | s⟩ := g <;> exact s.elim0⟩)
    (Cert.Reference31Ideal.Value.run (F := Ideal) m ρ)

end Cert.SumFf1

end
-- ==== Proof.SumFf2.lean ====
/- The sum over the devices of the gradient of the feed-forward's second weight. -/
module

public import proofs.«01_k».proof.Defs
public import proofs.«01_k».proof.Proof.SumModel
public import proofs.«01_k».proof.Proof.Gen.Kernel32Ideal.Value
public import proofs.«01_k».proof.Proof.Gen.Reference32Ideal.Run
public import Idealize.ShloMosaic.Lib.Pipeline.ValueKit

@[expose] public section

set_option maxRecDepth 16384

noncomputable section

namespace Cert.SumFf2

open Cert.Kernel32Ideal Cert.Kernel32Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 512, 1024]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 512, 1024]⟩ : Shape).Idx → EReal) (i : Fin 512) (j : Fin 1024) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel32Ideal.Facts] [Cert.Reference32Ideal.Facts] : Cert.algebraic_Kernel32Ideal_Reference32Ideal := by
  intro m g m' g' _ hargs
  refine ⟨fun c => Slots.total (a0 m c), ?_, ?_⟩
  · refine (θ_run Cert.Kernel32Ideal.defs _ _).mono (fun r h c => ?_) (Cert.Kernel32Ideal.Value.run_blocks (F := Ideal) m g)
    exact ⟨(h c).1.trans (out m c), (h c).2⟩
  · refine (θ_run Cert.Reference32Ideal.defs _ _).mono (fun r h c => ?_) (Cert.Reference32Ideal.Value.run (F := Ideal) m' g')
    refine ⟨(h c).1.trans ?_, (h c).2⟩
    rw [hargs c]
    refine Mm.ext _ _ fun i j => ?_
    unfold Slots.total
    pointwise

theorem frame_reference [Cert.Reference32Ideal.Facts] : Cert.quiescent_Reference32Ideal := fun m ρ _ =>
  (θ_run Cert.Reference32Ideal.defs _ _).mono
    (fun _ h => ⟨fun c => (h c).2, funext fun g => by obtain ⟨_, s | s⟩ := g <;> exact s.elim0⟩)
    (Cert.Reference32Ideal.Value.run (F := Ideal) m ρ)

end Cert.SumFf2

end
-- ==== Proof.SumIn.lean ====
/- The sum over the devices of the gradient of the input projection's weight. -/
module

public import proofs.«01_k».proof.Defs
public import proofs.«01_k».proof.Proof.SumModel
public import proofs.«01_k».proof.Proof.Gen.Kernel33Ideal.Value
public import proofs.«01_k».proof.Proof.Gen.Reference33Ideal.Run
public import Idealize.ShloMosaic.Lib.Pipeline.ValueKit

@[expose] public section

set_option maxRecDepth 16384

noncomputable section

namespace Cert.SumIn

open Cert.Kernel33Ideal Cert.Kernel33Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![0, t.val, 0] ∧ win0_1.index t = ![t.val, 0] :=
  (by decide +kernel : ∀ t : Fin grid0.N, _)

/-- What the devices bring. -/
abbrev a0 : (⟨3, ![8, 1024, 1025]⟩ : Shape).Idx → EReal := m ((c.tc : Thread nD τ).loc main_arg0)

/-- The kernel's result. -/
theorem out : (dats m 0 c).arrAt 1 cfg0.N = Slots.total (a0 m c) := by
  refine (dats m 0 c).arrAt_eq_of_covers 1 _ (by decide +kernel) fun t hf y => ?_
  blk_simp
  rw [after0_1]
  frame_out
  rw [eq_ix2 y]
  have h (x0 x1 x2 x3 x4 x5 x6 x7 : (⟨3, ![1, 512, 1025]⟩ : Shape).Idx → EReal) (i : Fin 512) (j : Fin 1025) :
      k0_pay1 (F := Ideal) x0 x1 x2 x3 x4 x5 x6 x7 (ix2 i j) = x0 (ix3 0 i j) + x1 (ix3 0 i j) + x2 (ix3 0 i j) + x3 (ix3 0 i j) + x4 (ix3 0 i j) + x5 (ix3 0 i j) + x6 (ix3 0 i j) + x7 (ix3 0 i j) := by
    pointwise [k0_pay1]
  refine (h _ _ _ _ _ _ _ _ _ _).trans ?_
  unfold Slots.total
  rw [Fin.sum_univ_eight]
  blk_point [iblk, V, idx t]

theorem algebraic [Cert.Kernel33Ideal.Facts] [Cert.Reference33Ideal.Facts] : Cert.algebraic_Kernel33Ideal_Reference33Ideal := by
  intro m g m' g' _ hargs
  refine ⟨fun c => Slots.total (a0 m c), ?_, ?_⟩
  · refine (θ_run Cert.Kernel33Ideal.defs _ _).mono (fun r h c => ?_) (Cert.Kernel33Ideal.Value.run_blocks (F := Ideal) m g)
    exact ⟨(h c).1.trans (out m c), (h c).2⟩
  · refine (θ_run Cert.Reference33Ideal.defs _ _).mono (fun r h c => ?_) (Cert.Reference33Ideal.Value.run (F := Ideal) m' g')
    refine ⟨(h c).1.trans ?_, (h c).2⟩
    rw [hargs c]
    refine Mm.ext _ _ fun i j => ?_
    unfold Slots.total
    pointwise

theorem frame_reference [Cert.Reference33Ideal.Facts] : Cert.quiescent_Reference33Ideal := fun m ρ _ =>
  (θ_run Cert.Reference33Ideal.defs _ _).mono
    (fun _ h => ⟨fun c => (h c).2, funext fun g => by obtain ⟨_, s | s⟩ := g <;> exact s.elim0⟩)
    (Cert.Reference33Ideal.Value.run (F := Ideal) m ρ)

end Cert.SumIn

end
-- ==== Proof.NormModel.lean ====
/- The derivative of a norm, `x ↦ x / √(mean x² + ε)`, on one row, over the extended reals. Where the row's mean square is infinite the factor
   `1 / √…` is zero and so is the derivative, in either form; elsewhere the factor is a positive real and multiplying by it distributes over
   sums of whatever numbers. So the two forms agree at every row. -/
module

public import proofs.«01_k».proof.Proof.MmModel
public import Idealize.ShloMosaic.Lib.IdealHost

@[expose] public section

noncomputable section

namespace Norm

open Idealize.ShloMosaic

/-- The width, `1024`, the `ε` and the `-1/2`, as the programs write them. -/
abbrev width : EReal := Ideal.ofBits FTy.f32 1149239296#32
abbrev eps : EReal := Ideal.ofBits FTy.f32 897988541#32
abbrev minusHalf : EReal := Ideal.ofBits FTy.f32 3204448256#32

theorem width_eq : width = ((1024 : ℝ) : EReal) := by
  simp [Ideal.ofBits, Ideal.ieee, -EReal.coe_mul]; norm_num

theorem minusHalf_eq : minusHalf = ((-(1 / 2) : ℝ) : EReal) := by
  simp [Ideal.ofBits, Ideal.ieee, -EReal.coe_mul, -EReal.coe_neg]; norm_num

theorem eps_eq : ∃ e : ℝ, 0 < e ∧ eps = (e : EReal) :=
  ⟨8796093 / 8796093022208, by norm_num, by simp [Ideal.ofBits, Ideal.ieee, -EReal.coe_mul]; norm_num⟩

/-- The factor of a row whose squares sum to `s`. -/
def factor (s : EReal) : EReal := Ideal.rsqrt (Ideal.div s width + eps)

/-- An infinite sum of squares gives the factor zero, a finite one a positive real. -/
theorem factor_cases {s : EReal} (hs : 0 ≤ s) :
    (Ideal.div s width + eps = ⊤ ∧ factor s = 0) ∨
      ∃ q f : ℝ, 0 < q ∧ 0 < f ∧ f * f * q = 1 ∧ Ideal.div s width + eps = (q : EReal) ∧ factor s = (f : EReal) := by
  obtain ⟨e, he, hE⟩ := eps_eq
  unfold factor
  rw [hE, width_eq, Ideal.div_coe (by norm_num)]
  rcases eq_or_ne s ⊤ with rfl | h
  · left
    rw [EReal.top_mul_coe_of_pos (by norm_num), EReal.top_add_coe]
    exact ⟨rfl, rfl⟩
  · right
    obtain ⟨σ, rfl⟩ : ∃ σ : ℝ, s = σ := ⟨s.toReal, (EReal.coe_toReal h (ne_bot_of_le_ne_bot EReal.zero_ne_bot hs)).symm⟩
    have hσ : 0 ≤ σ := by exact_mod_cast hs
    have hq : 0 < σ * (1 / 1024) + e := by positivity
    have hr : 0 < Real.sqrt (σ * (1 / 1024) + e) := Real.sqrt_pos.mpr hq
    refine ⟨σ * (1 / 1024) + e, (Real.sqrt (σ * (1 / 1024) + e))⁻¹, hq, inv_pos.mpr hr, ?_, by push_cast; rfl, ?_⟩
    · rw [← mul_inv, Real.mul_self_sqrt hq.le, inv_mul_cancel₀ hq.ne']
    · rw [← EReal.coe_mul, ← EReal.coe_add, Ideal.rsqrt_coe, if_neg (not_lt.mpr hq.le), if_neg hq.ne']

theorem factor_nonneg {s : EReal} (hs : 0 ≤ s) : 0 ≤ factor s ∧ factor s ≠ ⊤ := by
  rcases factor_cases hs with ⟨_, h⟩ | ⟨_, f, _, hf, _, _, h⟩
  · rw [h]; exact ⟨le_rfl, EReal.zero_ne_top⟩
  · rw [h]; exact ⟨by exact_mod_cast hf.le, EReal.coe_ne_top f⟩

/-- A number times itself is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor that is neither negative nor `+∞` comes out of a sum. -/
theorem sum_mul {ι : Type*} (s : Finset ι) (f : ι → EReal) {r : EReal} (h0 : 0 ≤ r) (h1 : r ≠ ⊤) : ∑ k ∈ s, f k * r = (∑ k ∈ s, f k) * r := by
  classical
  induction s using Finset.induction_on with
  | empty => rw [Finset.sum_empty, Finset.sum_empty, zero_mul]
  | insert a s ha ih => rw [Finset.sum_insert ha, Finset.sum_insert ha, ih, EReal.right_distrib_of_nonneg_of_ne_top h0 h1]

/-- A number `z κ` twice, `κ` the negative of a number that is not negative. -/
theorem twice (z : EReal) {k : ℝ} (hk : 0 ≤ k) : z * ((-k : ℝ) : EReal) + z * ((-k : ℝ) : EReal) = -(z * ((k + k : ℝ) : EReal)) := by
  have h : (0 : EReal) ≤ (k : EReal) := by exact_mod_cast hk
  rw [EReal.coe_neg, mul_neg, ← neg_mul, EReal.coe_add, ← EReal.left_distrib_of_nonneg h h, neg_mul]

/-- The derivative as differentiation gives it, term by term, and as the kernel computes it; `S` is the sum of the row times its cotangent. -/
theorem derivative {s : EReal} (hs : 0 ≤ s) (v y S : EReal) :
    v * factor s + y * Ideal.div (S * (minusHalf * Ideal.div (factor s) (Ideal.div s width + eps))) width +
        Ideal.div (S * (minusHalf * Ideal.div (factor s) (Ideal.div s width + eps))) width * y =
      factor s * (v - y * factor s * Ideal.div (S * factor s) width) := by
  rcases factor_cases hs with ⟨hq, h⟩ | ⟨q, f, hq, hf, hfq, hQ, h⟩
  · rw [hq, h, Ideal.zero_div EReal.top_ne_zero, mul_zero, mul_zero, mul_zero, width_eq, Ideal.zero_div (by norm_num)]
    simp
  · rw [hQ, h, minusHalf_eq, width_eq, Ideal.div_coe hq.ne', Ideal.div_coe (by norm_num), Ideal.div_coe (by norm_num)]
    have hf' : (0 : EReal) ≤ (f : EReal) := by exact_mod_cast hf.le
    have hd : S * (((-(1 / 2) : ℝ) : EReal) * ((f : EReal) * ((1 / q : ℝ) : EReal))) * ((1 / 1024 : ℝ) : EReal) =
        S * ((-(f * f * f / 2048) : ℝ) : EReal) := by
      rw [← EReal.coe_mul, ← EReal.coe_mul, mul_assoc, ← EReal.coe_mul]
      congr 2
      have : 1 / q = f * f := by field_simp; linarith
      rw [this]; ring
    rw [hd, mul_comm (S * _) y, ← mul_assoc y S, add_assoc, twice _ (by positivity), sub_eq_add_neg,
      EReal.left_distrib_of_nonneg_of_ne_top hf' (EReal.coe_ne_top f), mul_comm v, mul_neg]
    congr 2
    rw [show ((f * f * f / 2048 + f * f * f / 2048 : ℝ) : EReal) = (f : EReal) * ((f : EReal) * ((f : EReal) * ((1 / 1024 : ℝ) : EReal))) by
      rw [← EReal.coe_mul, ← EReal.coe_mul, ← EReal.coe_mul]; congr 1; ring]
    ac_rfl

/-- The derivative along a row `y` of a norm whose cotangent times the weight is `v`, at the place where these are `y0` and `v0`. -/
def dx {n : ℕ} (y v : Fin n → EReal) (y0 v0 : EReal) : EReal :=
  factor (∑ x, y x * y x) * (v0 - y0 * factor (∑ x, y x * y x) * Ideal.div (∑ x, v x * (y x * factor (∑ x, y x * y x))) width)

/-- What a row `y` adds to the weight's derivative at the place where the row is `y0` and its cotangent `g`. -/
def dw {n : ℕ} (y : Fin n → EReal) (y0 g : EReal) : EReal := g * (y0 * factor (∑ x, y x * y x))

theorem dx_congr {n : ℕ} {y y' v v' : Fin n → EReal} {y0 y0' v0 v0' : EReal} (h : ∀ x, y x = y' x) (hv : ∀ x, v x = v' x) (h0 : y0 = y0')
    (hv0 : v0 = v0') : dx y v y0 v0 = dx y' v' y0' v0' := by
  rw [funext h, funext hv, h0, hv0]

theorem dw_congr {n : ℕ} {y y' : Fin n → EReal} {y0 y0' g g' : EReal} (h : ∀ x, y x = y' x) (h0 : y0 = y0') (hg : g = g') :
    dw y y0 g = dw y' y0' g' := by
  rw [funext h, h0, hg]

/-- The derivative as differentiation gives it is the kernel's. -/
theorem dx_eq {n : ℕ} (y v : Fin n → EReal) (y0 v0 : EReal) :
    v0 * factor (∑ x, y x * y x) +
          y0 * ∑ _x : Fin 1, Ideal.div ((∑ x, y x * v x) *
            (minusHalf * Ideal.div (factor (∑ x, y x * y x)) (Ideal.div (∑ x, y x * y x) width + eps))) width +
        (∑ _x : Fin 1, Ideal.div ((∑ x, y x * v x) *
            (minusHalf * Ideal.div (factor (∑ x, y x * y x)) (Ideal.div (∑ x, y x * y x) width + eps))) width) * y0 = dx y v y0 v0 := by
  have hs : 0 ≤ ∑ x, y x * y x := Finset.sum_nonneg fun x _ => square_nonneg _
  obtain ⟨h0, h1⟩ := factor_nonneg hs
  unfold dx
  rw [Fin.sum_univ_one, derivative hs, ← sum_mul _ _ h0 h1]
  congr 4
  exact Finset.sum_congr rfl fun x _ => by ac_rfl

end Norm

end
-- ==== Proof.NormBwd.lean ====
/- The gradient of a norm, plus what the residual adds; and of its weight. -/
module

public import proofs.«01_k».proof.Defs
public import proofs.«01_k».proof.Proof.NormModel
public import proofs.«01_k».proof.Proof.Gen.Kernel34Ideal.Value
public import proofs.«01_k».proof.Proof.Gen.Reference34Ideal.Run
public import Idealize.ShloMosaic.Lib.Pipeline.ValueKit
public import Idealize.ShloMosaic.Lib.Pipeline.ReadBack

@[expose] public section

set_option maxRecDepth 16384

noncomputable section

namespace Cert.NormBwd

open Cert.Kernel34Ideal Cert.Kernel34Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-! The norm's argument, its weight, the cotangent and what is added. -/

abbrev a0 : Mm.Arr 4096 1024 := m ((c.tc : Thread nD τ).loc main_arg0)
abbrev a1 : (⟨1, ![1024]⟩ : Shape).Idx → EReal := m ((c.tc : Thread nD τ).loc main_arg1)
abbrev a2 : Mm.Arr 4096 1024 := m ((c.tc : Thread nD τ).loc main_arg2)
abbrev a3 : Mm.Arr 4096 1024 := m ((c.tc : Thread nD τ).loc main_arg3)

theorem V0 : V m c main_v0 = shapeCast S1x1024 (a1 m c) shapeCasts_S1024_S1x1024 := by
  entry_read
  rfl

/-- The gradient of the argument, and of the weight. -/
def dxs (y : Mm.Arr 4096 1024) (w : (⟨1, ![1024]⟩ : Shape).Idx → EReal) (g a : Mm.Arr 4096 1024) : Mm.Arr 4096 1024 :=
  fun i => Norm.dx (fun x => y (ix2 (i 0) x)) (fun x => g (ix2 (i 0) x) * w (ix1 x)) (y i) (g i * w (ix1 (i 1))) + a i

def dws (y g : Mm.Arr 4096 1024) : Mm.Arr 1 1024 :=
  fun i => ∑ l : Fin 4096, Norm.dw (fun x => y (ix2 l x)) (y (ix2 l (i 1))) (g (ix2 l (i 1)))

/-- What grid point `t` adds to the weight's gradient. -/
def term (t : Fin cfg0.N) : FVec Ideal S1x1024 .f32 := k0_pay5 (iblk m c 0 t) (iblk m c 2 t)

theorem acc (t : Fin cfg0.N) (hf : (cfg0.win 5).flush t = true) (j : S1x1024.Idx) :
    (outsAt0 m c t.val t.isLt).2 j =
      ∑ s : Fin 8, term m c ⟨8 * (t.val / 8) + s.val, by have := t.isLt; have := (flush0_5 t).mp hf; omega⟩ j := by
  refine (Pipeline.eq_sum_fin_of_reset_step_apply_of_flush (fun n h => (outsAt0 m c n h).2) 8 (fun _ => 0) (term m c)
    (fun t h j => ?_) (fun t h j => ?_) t ((flush0_5 t).mp hf) j).trans (zero_add _)
  · rw [outsAt0_A m c t h (by have : t.val < 8 := t.isLt; omega)]
    frame_out
    rw [zero_add]
    rfl
  · rw [outsAt0_B m c t h (by omega)]
    frame_out
    pointwise [k0_pay1, term]

/-! The kernel's results. -/

theorem dx : (dats m 0 c).arrAt 4 cfg0.N = dxs (a0 m c) (a1 m c) (a2 m c) (a3 m c) := by
  refine (dats m 0 c).arrAt_eq_of_covers 4 _ (by decide +kernel) fun t hf y => ?_
  have h (y g a : Mm.Arr 512 1024) (w : Mm.Arr 1 1024) (i : Fin 512) (j : Fin 1024) : k0_pay4 (F := Ideal) y g w a (ix2 i j) =
      Norm.dx (fun x => y (ix2 i x)) (fun x => g (ix2 i x) * w (ix2 0 x)) (y (ix2 i j)) (g (ix2 i j) * w (ix2 0 j)) + a (ix2 i j) := by
    pointwise [k0_pay4, k0_pay3, k0_pay2, Norm.dx, Norm.factor]
  have e : (outsAt0 m c t.val t.isLt).1 = k0_pay4 (iblk m c 0 t) (iblk m c 2 t) (iblk m c 1 t) (iblk m c 3 t) := by
    by_cases h0 : t.val % 8 = 0
    · rw [outsAt0_A m c t h0 (by have : t.val < 8 := t.isLt; omega)]
      frame_out
    · rw [outsAt0_B m c t h0 (by omega)]
      frame_out
  blk_simp
  rw [after0_4, e, eq_ix2 y]
  refine (h _ _ _ _ _ _).trans (congrArg₂ (· + ·) (Norm.dx_congr (fun x => ?_) (fun x => ?_) ?_ ?_) ?_)
  · blk_point [iblk, V, idx t]
  · blk_point [iblk, V, V0, idx t]
  · blk_point [iblk, V, idx t]
  · blk_point [iblk, V, V0, idx t]
  · blk_point [iblk, V, idx t]

theorem dw : (dats m 0 c).arrAt 5 cfg0.N = dws (a0 m c) (a2 m c) := by
  refine (dats m 0 c).arrAt_eq_of_covers 5 _ (by decide +kernel) fun t hf y => ?_
  have h7 := (flush0_5 t).mp hf
  have ht := acc m c t hf y
  have h (y g : Mm.Arr 512 1024) (i : Fin 1) (j : Fin 1024) : k0_pay5 (F := Ideal) y g (ix2 i j) =
      ∑ x, Norm.dw (fun k => y (ix2 x k)) (y (ix2 x j)) (g (ix2 x j)) := by
    pointwise [k0_pay5, k0_pay3, k0_pay2, Norm.dw, Norm.factor]
  blk_simp
  rw [after0_5]
  refine ht.trans ?_
  rw [eq_ix2 y]
  unfold dws
  refine (Finset.sum_congr rfl fun s _ => h _ _ _ _).trans (Fin.sum_mul_add_congr fun s k hl => Norm.dw_congr (fun x => ?_) ?_ ?_)
  · blk_point [iblk, V, idx t, idx ⟨_, Pipeline.run_point_lt_of_flush t h7 s⟩]
  · blk_point [iblk, V, idx t, idx ⟨_, Pipeline.run_point_lt_of_flush t h7 s⟩]
  · blk_point [iblk, V, idx t, idx ⟨_, Pipeline.run_point_lt_of_flush t h7 s⟩]

theorem algebraic [Cert.Kernel34Ideal.Facts] [Cert.Reference34Ideal.Facts] : Cert.algebraic_Kernel34Ideal_Reference34Ideal := by
  intro m g m' g' _ hargs
  refine ⟨fun c => dxs (a0 m c) (a1 m c) (a2 m c) (a3 m c), fun c => dws (a0 m c) (a2 m c), ?_, ?_⟩
  · refine (θ_run Cert.Kernel34Ideal.defs _ _).mono (fun r h c => ?_) (Cert.Kernel34Ideal.Value.run_blocks (F := Ideal) m g)
    exact ⟨(h c).1.trans (dx m c), (h c).2.1.trans (dw m c), (h c).2.2⟩
  · refine (θ_run Cert.Reference34Ideal.defs _ _).mono (fun r h c => ?_) (Cert.Reference34Ideal.Value.run (F := Ideal) m' g')
    obtain ⟨h0, h1, h2, h3⟩ := hargs c
    refine ⟨(h c).1.trans ?_, (h c).2.1.trans ?_, (h c).2.2⟩
    · rw [h0, h1, h2, h3]
      clear h
      refine Mm.ext _ _ fun i j => ?_
      unfold dxs
      pointwise
      exact (congrArg (a3 m c (ix2 i j) + ·) (Norm.dx_eq (fun x => a0 m c (ix2 i x)) (fun x => a2 m c (ix2 i x) * a1 m c (ix1 x)) (a0 m c (ix2 i j)) (a2 m c (ix2 i j) * a1 m c (ix1 j)))).trans (add_comm _ _)
    · rw [h0, h2]
      clear h
      refine Mm.ext _ _ fun i j => ?_
      unfold dws Norm.dw Norm.factor
      pointwise
      rw [Fin.sum_univ_one]
      exact Finset.sum_congr rfl fun x _ => mul_comm _ _

theorem frame_reference [Cert.Reference34Ideal.Facts] : Cert.quiescent_Reference34Ideal := fun m ρ _ =>
  (θ_run Cert.Reference34Ideal.defs _ _).mono
    (fun _ h => ⟨fun c => (h c).2.2, funext fun g => by obtain ⟨_, s | s⟩ := g <;> exact s.elim0⟩)
    (Cert.Reference34Ideal.Value.run (F := Ideal) m ρ)

end Cert.NormBwd

end
-- ==== Proof.LossHead.lean ====
/- The loss head: the gradient of half the mean square error, and the loss of every lane, summed over the tokens. -/
module

public import proofs.«01_k».proof.Defs
public import proofs.«01_k».proof.Proof.NormModel
public import proofs.«01_k».proof.Proof.Gen.Kernel35Ideal.Value
public import proofs.«01_k».proof.Proof.Gen.Reference35Ideal.Run
public import Idealize.ShloMosaic.Lib.Pipeline.ValueKit

@[expose] public section

set_option maxRecDepth 16384

noncomputable section

namespace Cert.LossHead

open Cert.Kernel35Ideal Cert.Kernel35Ideal.Gen Idealize.ShloMosaic Idealize.ShloMosaic.TcCoe Idealize.SL.Sem

variable (m : (ℓ : Loc nD τ sig) → Buf (Elt Ideal) ℓ) (c : Dev nD)

/-- The blocks of every window at grid point `t`. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- `1/1024`, `1/2048` and `1/2`, as the programs write them. -/
abbrev perFeature : EReal := Ideal.ofBits FTy.f32 981467136#32
abbrev halfPerFeature : EReal := Ideal.ofBits FTy.f32 973078528#32
abbrev half : EReal := Ideal.ofBits FTy.f32 1056964608#32

theorem perFeature_eq : perFeature = ((1 / 1024 : ℝ) : EReal) := by
  simp [Ideal.ofBits, Ideal.ieee, -EReal.coe_mul]; norm_num

theorem halfPerFeature_eq : halfPerFeature = ((1 / 2048 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

theorem two_eq : Mm.two = ((2 : ℝ) : EReal) := by
  simp [Ideal.ofBits, Ideal.ieee, -EReal.coe_mul]; norm_num

/-- A nonnegative real factor comes out of a sum. -/
theorem sum_mul_coe {n : ℕ} (f : Fin n → EReal) (r : ℝ) (h : 0 ≤ r) : ∑ k, f k * (r : EReal) = (∑ k, f k) * (r : EReal) :=
  Norm.sum_mul _ _ (by exact_mod_cast h) (EReal.coe_ne_top r)

/-- The derivative of the loss at an error `e`. -/
theorem derivative (e : EReal) : Ideal.div half Norm.width * (Mm.two * e) = e * perFeature := by
  rw [perFeature_eq, half_eq, two_eq, Norm.width_eq, Ideal.div_coe (by norm_num), ← mul_assoc, ← EReal.coe_mul,
    ← EReal.coe_mul, mul_comm]
  norm_num

/-- Half the sum of quotients by the width. -/
theorem loss {n : ℕ} (f : Fin n → EReal) : half * ∑ k, Ideal.div (f k) Norm.width = (∑ k, f k) * halfPerFeature := by
  rw [halfPerFeature_eq, half_eq, Norm.width_eq]
  simp only [Ideal.div_coe (show (1024 : ℝ) ≠ 0 by norm_num)]
  rw [sum_mul_coe _ _ (by norm_num), mul_comm, mul_assoc, ← EReal.coe_mul]
  norm_num

/-! The two arguments and the two results. -/

abbrev a0 : Mm.Arr 4096 1024 := m ((c.tc : Thread nD τ).loc main_arg0)
abbrev a1 : Mm.Arr 4096 1024 := m ((c.tc : Thread nD τ).loc main_arg1)

def dys (y z : Mm.Arr 4096 1024) : Mm.Arr 4096 1024 := fun i => (y i - z i) * perFeature

def lanes (y z : Mm.Arr 4096 1024) : Mm.Arr 1 1024 :=
  fun i => (∑ l : Fin 4096, (y (ix2 l (i 1)) - z (ix2 l (i 1))) * (y (ix2 l (i 1)) - z (ix2 l (i 1)))) * halfPerFeature

/-- What grid point `t` adds to the lanes' losses. -/
def term (t : Fin cfg0.N) : FVec Ideal S1x1024 .f32 := k0_pay3 (iblk m c 0 t) (iblk m c 1 t)

theorem acc (t : Fin cfg0.N) (hf : (cfg0.win 3).flush t = true) (j : S1x1024.Idx) :
    (outsAt0 m c t.val t.isLt).2 j =
      ∑ s : Fin 8, term m c ⟨8 * (t.val / 8) + s.val, by have := t.isLt; have := (flush0_3 t).mp hf; omega⟩ j := by
  refine (Pipeline.eq_sum_fin_of_reset_step_apply_of_flush (fun n h => (outsAt0 m c n h).2) 8 (fun _ => 0) (term m c)
    (fun t h j => ?_) (fun t h j => ?_) t ((flush0_3 t).mp hf) j).trans (zero_add _)
  · rw [outsAt0_A m c t h (by have : t.val < 8 := t.isLt; omega)]
    frame_out
    rw [zero_add]
    rfl
  · rw [outsAt0_B m c t h (by omega)]
    frame_out
    pointwise [k0_pay4, term]

/-! The kernel's results. -/

theorem dy : (dats m 0 c).arrAt 2 cfg0.N = dys (a0 m c) (a1 m c) := by
  refine (dats m 0 c).arrAt_eq_of_covers 2 _ (by decide +kernel) fun t hf y => ?_
  have e : (outsAt0 m c t.val t.isLt).1 = k0_pay2 (iblk m c 0 t) (iblk m c 1 t) := by
    by_cases h0 : t.val % 8 = 0
    · rw [outsAt0_A m c t h0 (by have : t.val < 8 := t.isLt; omega)]
      frame_out
    · rw [outsAt0_B m c t h0 (by omega)]
      frame_out
  blk_simp
  rw [after0_2, e, eq_ix2 y]
  unfold dys
  pointwise [k0_pay2, k0_pay1]
  blk_point [iblk, V, idx t]

theorem lane : (dats m 0 c).arrAt 3 cfg0.N = lanes (a0 m c) (a1 m c) := by
  refine (dats m 0 c).arrAt_eq_of_covers 3 _ (by decide +kernel) fun t hf y => ?_
  have h7 := (flush0_3 t).mp hf
  have ht := acc m c t hf y
  have h (y z : Mm.Arr 512 1024) (i : Fin 1) (j : Fin 1024) : k0_pay3 (F := Ideal) y z (ix2 i j) =
      (∑ x, (y (ix2 x j) - z (ix2 x j)) * (y (ix2 x j) - z (ix2 x j))) * ((1 / 2048 : ℝ) : EReal) := by
    rw [← halfPerFeature_eq]
    pointwise [k0_pay3, k0_pay1]
  blk_simp
  rw [after0_3]
  refine ht.trans ?_
  rw [eq_ix2 y]
  unfold lanes
  rw [halfPerFeature_eq]
  refine (Finset.sum_congr rfl fun s _ => h _ _ _ _).trans ((sum_mul_coe _ _ (by norm_num)).trans
    (congrArg (· * ((1 / 2048 : ℝ) : EReal)) (Fin.sum_mul_add_congr fun s k hl => ?_)))
  blk_point [iblk, V, idx t, idx ⟨_, Pipeline.run_point_lt_of_flush t h7 s⟩]

theorem algebraic [Cert.Kernel35Ideal.Facts] [Cert.Reference35Ideal.Facts] : Cert.algebraic_Kernel35Ideal_Reference35Ideal := by
  intro m g m' g' _ hargs
  refine ⟨fun c => dys (a0 m c) (a1 m c), fun c => lanes (a0 m c) (a1 m c), ?_, ?_⟩
  · refine (θ_run Cert.Kernel35Ideal.defs _ _).mono (fun r h c => ?_) (Cert.Kernel35Ideal.Value.run_blocks (F := Ideal) m g)
    exact ⟨(h c).1.trans (dy m c), (h c).2.1.trans (lane m c), (h c).2.2⟩
  · refine (θ_run Cert.Reference35Ideal.defs _ _).mono (fun r h c => ?_) (Cert.Reference35Ideal.Value.run (F := Ideal) m' g')
    obtain ⟨h0, h1⟩ := hargs c
    refine ⟨(h c).1.trans ?_, (h c).2.1.trans ?_, (h c).2.2⟩
    · rw [h0, h1]
      clear h
      refine Mm.ext _ _ fun i j => ?_
      unfold dys
      pointwise
      exact derivative (a0 m c (ix2 i j) - a1 m c (ix2 i j))
    · rw [h0, h1]
      clear h
      refine Mm.ext _ _ fun i j => ?_
      unfold lanes
      pointwise
      exact loss fun l => (a0 m c (ix2 l j) - a1 m c (ix2 l j)) * (a0 m c (ix2 l j) - a1 m c (ix2 l j))

theorem frame_reference [Cert.Reference35Ideal.Facts] : Cert.quiescent_Reference35Ideal := fun m ρ _ =>
  (θ_run Cert.Reference35Ideal.defs _ _).mono
    (fun _ h => ⟨fun c => (h c).2.2, funext fun g => by obtain ⟨_, s | s⟩ := g <;> exact s.elim0⟩)
    (Cert.Reference35Ideal.Value.run (F := Ideal) m ρ)

end Cert.LossHead

end
-- ==== Proof.Model.lean ====
/- The gated delta rule over the extended reals, one head at a time, in the chunked form of the training step: 64 chunks of
   64 positions, a 128 × 128 state carried from chunk to chunk. `Chunk` holds what one chunk of one head reads; `vnew`,
   `outp`, `next` are its forward formulas, `states` the state before each chunk, `Chunk.of` the chunk's part of the six
   arrays. The backward formulas are in BwdModel. -/
module

public import Idealize.ShloMosaic.Lib.Pointwise

@[expose] public section

noncomputable section

namespace Delta

open Idealize.ShloMosaic

/-- A matrix of extended reals. -/
abbrev Mat (a b : ℕ) := Fin a → Fin b → EReal

/-- What one chunk of one head reads: `u`, `w`, the decayed queries and keys, the masked attention of the chunk with itself and the
    decay of the whole chunk, lane by lane. -/
structure Chunk where
  u : Mat 64 128
  w : Mat 64 128
  q : Mat 64 128
  k : Mat 64 128
  a : Mat 64 64
  g : Fin 128 → EReal

/-- The corrected values `u − w S`. -/
def vnew (x : Chunk) (s : Mat 128 128) : Mat 64 128 := fun c e => x.u c e - ∑ d, x.w c d * s d e

/-- The outputs `q S + a (u − w S)`. -/
def outp (x : Chunk) (s : Mat 128 128) : Mat 64 128 := fun c e => (∑ d, x.q c d * s d e) + ∑ r, x.a c r * vnew x s r e

/-- The next state `S g + kᵀ (u − w S)`. -/
def next (x : Chunk) (s : Mat 128 128) : Mat 128 128 := fun d e => s d e * x.g e + ∑ c, x.k c d * vnew x s c e

/-- The state before chunk `n`, from zero. -/
def states (X : ℕ → Chunk) : ℕ → Mat 128 128
  | 0 => fun _ _ => 0
  | n + 1 => next (X n) (states X n)

/-! ## A chunk's part of the arrays -/

/-- An array of 4 heads and 4096 positions. -/
abbrev Rows (r : ℕ) := (⟨3, ![4, 4096, r]⟩ : Shape).Idx → EReal
/-- An array of 4 heads, 64 chunks and 128 lanes. -/
abbrev Lanes := (⟨4, ![4, 64, 1, 128]⟩ : Shape).Idx → EReal
/-- An array of 4 heads, 64 chunks and a state each. -/
abbrev Squares := (⟨4, ![4, 64, 128, 128]⟩ : Shape).Idx → EReal

/-- Position `c` of chunk `n`. -/
def row (n : ℕ) (c : Fin 64) : Fin 4096 := ⟨(64 * n + c.val) % 4096, Nat.mod_lt _ (by decide)⟩

/-- Chunk `n`. -/
def chk (n : ℕ) : Fin 64 := ⟨n % 64, Nat.mod_lt _ (by decide)⟩

/-- Chunk `n` of head `h` of an array of rows. -/
def rowsOf {r : ℕ} (x : Rows r) (h : Fin 4) (n : ℕ) : Mat 64 r := fun c e => x (ix3 h (row n c) e)

/-- Chunk `n` of head `h` of an array of lanes. -/
def lanesOf (g : Lanes) (h : Fin 4) (n : ℕ) : Fin 128 → EReal := fun e => g (ix4 h (chk n) 0 e)

/-- Chunk `n` of head `h` of an array of states. -/
def squareOf (s : Squares) (h : Fin 4) (n : ℕ) : Mat 128 128 := fun d e => s (ix4 h (chk n) d e)

/-- What chunk `n` of head `h` reads of the six arrays. -/
def Chunk.of (u w q k : Rows 128) (a : Rows 64) (g : Lanes) (h : Fin 4) (n : ℕ) : Chunk :=
  ⟨rowsOf u h n, rowsOf w h n, rowsOf q h n, rowsOf k h n, rowsOf a h n, lanesOf g h n⟩

end Delta

end
-- ==== Proof.FwdPieces.lean ====
/- The forward scan's kernel at one grid point (four chunks of four heads): its stores, read as the chunk's formulas. The lists
   of stores that a run of the body leaves are 16 blocks of each output (head by head, chunk by chunk) and 4 of the carried
   state; `pieces6`, `pieces7` and `piecesS` name them uniformly in head and chunk. -/
module

public import proofs.«01_k».proof.Proof.Gen.Kernel2Ideal.Value
public import proofs.«01_k».proof.Proof.Model
public import Idealize.ShloMosaic.Lib.Pipeline.ReadBack

@[expose] public section

set_option maxRecDepth 16384

noncomputable section

namespace Cert.Fwd

open Cert.Kernel2Ideal Cert.Kernel2Ideal.Gen Idealize.ShloMosaic Idealize.ShloMosaic.TcCoe Idealize.SL.Sem

variable {F : FTy → Type} [FloatOps F]

/-! ## One chunk of one head, read of the point's blocks -/

theorem inbRows (h j : Fin 4) : ∀ a, (![h.val, 64 * j.val, 0] : Fin 3 → ℕ) a + S1x64x128.size a ≤ S4x256x128.size a := by
  intro a; fin_cases a <;> simp <;> omega
theorem inbAtt (h j : Fin 4) : ∀ a, (![h.val, 64 * j.val, 0] : Fin 3 → ℕ) a + S1x64x64.size a ≤ S4x256x64.size a := by
  intro a; fin_cases a <;> simp <;> omega
theorem inbLanes (h j : Fin 4) : ∀ a, (![h.val, j.val, 0, 0] : Fin 4 → ℕ) a + S1x1x1x128.size a ≤ S4x4x1x128.size a := by
  intro a; fin_cases a <;> simp <;> omega
theorem inbSquare (h j : Fin 4) : ∀ a, (![h.val, j.val, 0, 0] : Fin 4 → ℕ) a + S1x1x128x128.size a ≤ S4x4x128x128.size a := by
  intro a; fin_cases a <;> simp <;> omega
theorem inbState (h : Fin 4) : ∀ a, (![h.val, 0, 0] : Fin 3 → ℕ) a + S1x128x128.size a ≤ S4x128x128.size a := by
  intro a; fin_cases a <;> simp <;> omega

abbrev rRows (h j : Fin 4) : Rect S4x256x128 := Rect.unit ![h.val, 64 * j.val, 0] S1x64x128.size (inbRows h j)
abbrev rAtt (h j : Fin 4) : Rect S4x256x64 := Rect.unit ![h.val, 64 * j.val, 0] S1x64x64.size (inbAtt h j)
abbrev rLanes (h j : Fin 4) : Rect S4x4x1x128 := Rect.unit ![h.val, j.val, 0, 0] S1x1x1x128.size (inbLanes h j)
abbrev rSquare (h j : Fin 4) : Rect S4x4x128x128 := Rect.unit ![h.val, j.val, 0, 0] S1x1x128x128.size (inbSquare h j)
abbrev rState (h : Fin 4) : Rect S4x128x128 := Rect.unit ![h.val, 0, 0] S1x128x128.size (inbState h)

/-- The point's six input blocks. -/
structure Blocks (F : FTy → Type) where
  u : Vec F S4x256x128 .f32
  w : Vec F S4x256x128 .f32
  q : Vec F S4x256x128 .f32
  k : Vec F S4x256x128 .f32
  a : Vec F S4x256x64 .f32
  g : Vec F S4x4x1x128 .f32

/-- The corrected values of chunk `j` of head `h`, from the state `S`. -/
def vnV (B : Blocks F) (h j : Fin 4) (S : FVec F S128x128 .f32) : FVec F S64x128 .f32 :=
  k0_pay11 S (View.ld B.w (rRows h j)) (View.ld B.u (rRows h j))

/-- The outputs of chunk `j` of head `h`. -/
def outV (B : Blocks F) (h j : Fin 4) (S : FVec F S128x128 .f32) : FVec F S1x64x128 .f32 :=
  k0_pay29 (k0_pay15 S (View.ld B.q (rRows h j))) (k0_pay21 (vnV B h j S) (View.ld B.a (rAtt h j)))

/-- The state after chunk `j` of head `h`. -/
def nextV (B : Blocks F) (h j : Fin 4) (S : FVec F S128x128 .f32) : FVec F S128x128 .f32 :=
  k0_pay34 S (k0_pay25 (vnV B h j S) (View.ld B.k (rRows h j))) (View.ld B.g (rLanes h j))

/-- The state of head `h` before the point's chunk `j`, from `S0`. -/
def stV (B : Blocks F) (h : Fin 4) (S0 : FVec F S128x128 .f32) : ℕ → FVec F S128x128 .f32
  | 0 => S0
  | j + 1 => nextV B h (Fin.ofNat 4 j) (stV B h S0 j)

/-! ## The stores -/

/-- The order of the stores, the last first. -/
abbrev order : List (Fin 4 × Fin 4) :=
  [(3, 3), (2, 3), (1, 3), (0, 3), (3, 2), (2, 2), (1, 2), (0, 2), (3, 1), (2, 1), (1, 1), (0, 1), (3, 0), (2, 0), (1, 0), (0, 0)]

/-- The stores into the outputs' block: the chunk's outputs. -/
abbrev pieces6 (B : Blocks F) (S0 : Fin 4 → FVec F S128x128 .f32) : List (View.Piece (Elt F) S4x256x128 .f32) :=
  order.map fun p => ⟨rRows p.1 p.2, outV B p.1 p.2 (stV B p.1 (S0 p.1) p.2.val)⟩

/-- The stores into the states' block: the state before the chunk. -/
abbrev pieces7 (B : Blocks F) (S0 : Fin 4 → FVec F S128x128 .f32) : List (View.Piece (Elt F) S4x4x128x128 .f32) :=
  order.map fun p => ⟨rSquare p.1 p.2, k0_pay38 (stV B p.1 (S0 p.1) p.2.val)⟩

/-- The stores into the carried state: the state after the point's four chunks. -/
abbrev piecesS (B : Blocks F) (S0 : Fin 4 → FVec F S128x128 .f32) : List (View.Piece (Elt F) S4x128x128 .f32) :=
  ([3, 2, 1, 0] : List (Fin 4)).map fun h => ⟨rState h, k0_pay1 (stV B h (S0 h) 4)⟩

section Cases

variable (c : Dev nD) (i : grid0.Coords) (arg1 : Memref sig .tc .vmem S4x256x128 .f32) (harg1 : arg1.IsWhole)
  (arg2 : Memref sig .tc .vmem S4x256x128 .f32) (harg2 : arg2.IsWhole) (arg3 : Memref sig .tc .vmem S4x256x128 .f32)
  (harg3 : arg3.IsWhole) (arg4 : Memref sig .tc .vmem S4x256x128 .f32) (harg4 : arg4.IsWhole)
  (arg5 : Memref sig .tc .vmem S4x256x64 .f32) (harg5 : arg5.IsWhole) (arg6 : Memref sig .tc .vmem S4x4x1x128 .f32)
  (harg6 : arg6.IsWhole) (arg7 : Memref sig .tc .vmem S4x256x128 .f32) (harg7 : arg7.IsWhole)
  (arg8 : Memref sig .tc .vmem S4x4x128x128 .f32) (harg8 : arg8.IsWhole) (arg9 : Memref sig .tc .vmem S4x128x128 .f32)
  (harg9 : arg9.IsWhole) (x0 x1 x2 x3 : Vec F S4x256x128 .f32) (x4 : Vec F S4x256x64 .f32) (x5 : Vec F S4x4x1x128 .f32)
  (xs0 : Vec F S4x128x128 .f32)

/-- The blocks as the body's loads find them in the staging buffers. -/
abbrev staged : Blocks F :=
  ⟨arg1.view.read (Elt F) (harg1.unread x0), arg2.view.read (Elt F) (harg2.unread x1), arg3.view.read (Elt F) (harg3.unread x2),
    arg4.view.read (Elt F) (harg4.unread x3), arg5.view.read (Elt F) (harg5.unread x4), arg6.view.read (Elt F) (harg6.unread x5)⟩

theorem staged_eq : staged arg1 harg1 arg2 harg2 arg3 harg3 arg4 harg4 arg5 harg5 arg6 harg6 x0 x1 x2 x3 x4 x5
    = ⟨x0, x1, x2, x3, x4, x5⟩ := by
  unfold staged
  rw [harg1.read_unread, harg2.read_unread, harg3.read_unread, harg4.read_unread, harg5.read_unread, harg6.read_unread]

/-- The carried state of head `h` as the body's first load finds it. -/
abbrev carried (h : Fin 4) : FVec F S128x128 .f32 := k0_pay3 (View.ld xs0 (rState h))

/-- The state that the first point's fill leaves for head `h`. -/
abbrev filled (h : Fin 4) : FVec F S128x128 .f32 :=
  k0_pay3 (arg9.view.readCov [⟨Rect.unit ![0, 0, 0] S4x128x128.size inb_S4x128x128_S4x128x128_0_0_0, (k0_pay2 : FVec F S4x128x128 .f32)⟩] (rState h).toLoadRect)

theorem run_A_6 (hc0) : (kernelRun0_A c i arg1 harg1 arg2 harg2 arg3 harg3 arg4 harg4 arg5 harg5 arg6 harg6 arg7 harg7 arg8 harg8 arg9 harg9 hc0 x0 x1 x2 x3 x4 x5).1
    = pieces6 (staged arg1 harg1 arg2 harg2 arg3 harg3 arg4 harg4 arg5 harg5 arg6 harg6 x0 x1 x2 x3 x4 x5) (filled arg9) := by
  sl_kernel_rfl

theorem run_A_7 (hc0) : (kernelRun0_A c i arg1 harg1 arg2 harg2 arg3 harg3 arg4 harg4 arg5 harg5 arg6 harg6 arg7 harg7 arg8 harg8 arg9 harg9 hc0 x0 x1 x2 x3 x4 x5).2.1
    = pieces7 (staged arg1 harg1 arg2 harg2 arg3 harg3 arg4 harg4 arg5 harg5 arg6 harg6 x0 x1 x2 x3 x4 x5) (filled arg9) := by
  sl_kernel_rfl

/-- At the first point the carried state is filled with zeros before the four stores. -/
theorem run_A_S (hc0) : (kernelRun0_A c i arg1 harg1 arg2 harg2 arg3 harg3 arg4 harg4 arg5 harg5 arg6 harg6 arg7 harg7 arg8 harg8 arg9 harg9 hc0 x0 x1 x2 x3 x4 x5).2.2.1
    = piecesS (staged arg1 harg1 arg2 harg2 arg3 harg3 arg4 harg4 arg5 harg5 arg6 harg6 x0 x1 x2 x3 x4 x5) (filled arg9)
      ++ [⟨Rect.unit ![0, 0, 0] S4x128x128.size inb_S4x128x128_S4x128x128_0_0_0, (k0_pay2 : FVec F S4x128x128 .f32)⟩] := by
  sl_kernel_rfl

theorem run_B_6 (hc0) : (kernelRun0_B c i arg1 harg1 arg2 harg2 arg3 harg3 arg4 harg4 arg5 harg5 arg6 harg6 arg7 harg7 arg8 harg8 arg9 harg9 hc0 x0 x1 x2 x3 x4 x5 xs0).1
    = pieces6 (staged arg1 harg1 arg2 harg2 arg3 harg3 arg4 harg4 arg5 harg5 arg6 harg6 x0 x1 x2 x3 x4 x5)
        (carried (arg9.view.read (Elt F) (harg9.unread xs0))) := by
  sl_kernel_rfl

theorem run_B_7 (hc0) : (kernelRun0_B c i arg1 harg1 arg2 harg2 arg3 harg3 arg4 harg4 arg5 harg5 arg6 harg6 arg7 harg7 arg8 harg8 arg9 harg9 hc0 x0 x1 x2 x3 x4 x5 xs0).2.1
    = pieces7 (staged arg1 harg1 arg2 harg2 arg3 harg3 arg4 harg4 arg5 harg5 arg6 harg6 x0 x1 x2 x3 x4 x5)
        (carried (arg9.view.read (Elt F) (harg9.unread xs0))) := by
  sl_kernel_rfl

theorem run_B_S (hc0) : (kernelRun0_B c i arg1 harg1 arg2 harg2 arg3 harg3 arg4 harg4 arg5 harg5 arg6 harg6 arg7 harg7 arg8 harg8 arg9 harg9 hc0 x0 x1 x2 x3 x4 x5 xs0).2.2.1
    = piecesS (staged arg1 harg1 arg2 harg2 arg3 harg3 arg4 harg4 arg5 harg5 arg6 harg6 x0 x1 x2 x3 x4 x5)
        (carried (arg9.view.read (Elt F) (harg9.unread xs0))) := by
  sl_kernel_rfl

/-! ## The named outputs, read at an index -/

theorem filled_eq (h : Fin 4) : filled arg9 h = k0_pay3 (View.ld (k0_pay2 : FVec F S4x128x128 .f32) (rState h)) := by
  unfold filled
  rw [View.readCov_fill _ _ _ _ _ (by intro a; fin_cases a <;> rfl)]

/-- The place of position `r` of a block's 256, in its chunk. -/
abbrev inChunk (r : Fin 256) : Fin 64 := ⟨r.val % 64, Nat.mod_lt _ (by decide)⟩
/-- The chunk of position `r` of a block's 256. -/
abbrev chunkIn (r : Fin 256) : Fin 4 := ⟨r.val / 64, by omega⟩

/-- What the stores of `pieces6` leave. -/
theorem read6 {sig' : RefSig} {κ : Kind} {sp : Space} (v : View sig' κ sp S4x256x128 .f32) (f : v.ty.Contents (Elt F)) (B : Blocks F)
    (S0 : Fin 4 → FVec F S128x128 .f32) (hcov : ∀ y, ∃ p ∈ pieces6 B S0, y ∈ p.1.set) (h : Fin 4) (r : Fin 256) (e : Fin 128) :
    v.read (Elt F) (v.writes (Elt F) f (pieces6 B S0)) (ix3 h r e)
      = outV B h (chunkIn r) (stV B h (S0 h) (r.val / 64)) (ix3 0 (inChunk r) e) := by
  refine View.read_writes_apply_of_pieces v f (fun y : S4x256x128.Idx => outV B (y 0) (chunkIn (y 1)) (stV B (y 0) (S0 (y 0)) ((y 1).val / 64))
      (ix3 0 (inChunk (y 1)) (y 2))) _ ?_ _ (hcov _)
  intro p hp
  obtain ⟨⟨h, j⟩, -, rfl⟩ := List.mem_map.mp hp
  intro (x : S1x64x128.Idx)
  have x0 : (x 0).val < 1 := (x 0).isLt
  have x1 : (x 1).val < 64 := (x 1).isLt
  have e0 : ((rRows h j).emb x) 0 = h := Fin.ext (show h.val + 1 * (x 0).val = h.val by omega)
  have e1 : (((rRows h j).emb x) 1).val = 64 * j.val + 1 * (x 1).val := rfl
  have e2 : ((rRows h j).emb x) 2 = x 2 := Fin.ext (show 0 + 1 * (x 2).val = (x 2).val by omega)
  have e3 : chunkIn (((rRows h j).emb x) 1) = j := Fin.ext (by show _ / 64 = _; rw [e1]; omega)
  have e4 : inChunk (((rRows h j).emb x) 1) = x 1 := Fin.ext (by show _ % 64 = _; rw [e1]; omega)
  have e5 : (((rRows h j).emb x) 1).val / 64 = j.val := by rw [e1]; omega
  have e6 : x 0 = (0 : Fin 1) := Fin.ext (show (x 0).val = 0 by omega)
  show outV B h j _ x = _
  dsimp only
  rw [e0, e2, e3, e4, e5, ← e6]
  exact congrArg _ (eq_ix3 x)

/-- What the stores of `pieces7` leave. -/
theorem read7 {sig' : RefSig} {κ : Kind} {sp : Space} (v : View sig' κ sp S4x4x128x128 .f32) (f : v.ty.Contents (Elt F)) (B : Blocks F)
    (S0 : Fin 4 → FVec F S128x128 .f32) (hcov : ∀ y, ∃ p ∈ pieces7 B S0, y ∈ p.1.set) (h j : Fin 4) (d e : Fin 128) :
    v.read (Elt F) (v.writes (Elt F) f (pieces7 B S0)) (ix4 h j d e) = k0_pay38 (stV B h (S0 h) j.val) (ix4 0 0 d e) := by
  refine View.read_writes_apply_of_pieces v f (fun y : S4x4x128x128.Idx => k0_pay38 (stV B (y 0) (S0 (y 0)) (y 1).val)
      (ix4 0 0 (y 2) (y 3))) _ ?_ _ (hcov _)
  intro p hp
  obtain ⟨⟨h, j⟩, -, rfl⟩ := List.mem_map.mp hp
  intro (x : S1x1x128x128.Idx)
  have x0 : (x 0).val < 1 := (x 0).isLt
  have x1 : (x 1).val < 1 := (x 1).isLt
  have e0 : ((rSquare h j).emb x) 0 = h := Fin.ext (show h.val + 1 * (x 0).val = h.val by omega)
  have e1 : ((rSquare h j).emb x) 1 = j := Fin.ext (show j.val + 1 * (x 1).val = j.val by omega)
  have e2 : ((rSquare h j).emb x) 2 = x 2 := Fin.ext (show 0 + 1 * (x 2).val = (x 2).val by omega)
  have e3 : ((rSquare h j).emb x) 3 = x 3 := Fin.ext (show 0 + 1 * (x 3).val = (x 3).val by omega)
  have e6 : x 0 = (0 : Fin 1) := Fin.ext (show (x 0).val = 0 by omega)
  have e7 : x 1 = (0 : Fin 1) := Fin.ext (show (x 1).val = 0 by omega)
  show k0_pay38 (F := F) _ x = _
  dsimp only
  rw [e0, e1, e2, e3]
  have hx := eq_ix4 x
  rw [e6, e7] at hx
  exact congrArg _ hx

/-- The four heads' states cover the carried buffer. -/
theorem coverS (B : Blocks F) (S0 : Fin 4 → FVec F S128x128 .f32) (y : S4x128x128.Idx) : ∃ p ∈ piecesS B S0, y ∈ p.1.set :=
  View.cover_of_tiledL (piecesS B S0) S1x128x128.size (by sl_kernel_rfl) y

/-- What the stores of `piecesS` leave. -/
theorem readS {sig' : RefSig} {κ : Kind} {sp : Space} (v : View sig' κ sp S4x128x128 .f32) (f : v.ty.Contents (Elt F)) (B : Blocks F)
    (S0 : Fin 4 → FVec F S128x128 .f32) (h : Fin 4) (d e : Fin 128) :
    v.read (Elt F) (v.writes (Elt F) f (piecesS B S0)) (ix3 h d e) = k0_pay1 (stV B h (S0 h) 4) (ix3 0 d e) := by
  refine View.read_writes_apply_of_pieces v f (fun y : S4x128x128.Idx => k0_pay1 (stV B (y 0) (S0 (y 0)) 4)
      (ix3 0 (y 1) (y 2))) _ ?_ _ (coverS B S0 _)
  intro p hp
  obtain ⟨h, -, rfl⟩ := List.mem_map.mp hp
  intro (x : S1x128x128.Idx)
  have x0 : (x 0).val < 1 := (x 0).isLt
  have e0 : ((rState h).emb x) 0 = h := Fin.ext (show h.val + 1 * (x 0).val = h.val by omega)
  have e1 : ((rState h).emb x) 1 = x 1 := Fin.ext (show 0 + 1 * (x 1).val = (x 1).val by omega)
  have e2 : ((rState h).emb x) 2 = x 2 := Fin.ext (show 0 + 1 * (x 2).val = (x 2).val by omega)
  have e6 : x 0 = (0 : Fin 1) := Fin.ext (show (x 0).val = 0 by omega)
  dsimp only
  rw [e0, e1, e2, ← e6]
  exact congrArg _ (eq_ix3 x)

theorem out_A_6 (hc0) (h : Fin 4) (r : Fin 256) (e : Fin 128) :
    out0_A_6 c i arg1 harg1 arg2 harg2 arg3 harg3 arg4 harg4 arg5 harg5 arg6 harg6 arg7 harg7 arg8 harg8 arg9 harg9 hc0 x0 x1 x2 x3 x4 x5 (ix3 h r e)
      = outV ⟨x0, x1, x2, x3, x4, x5⟩ h (chunkIn r) (stV ⟨x0, x1, x2, x3, x4, x5⟩ h (carried k0_pay2 h) (r.val / 64)) (ix3 0 (inChunk r) e) := by
  unfold out0_A_6
  have hcov := cover0_A_6 c i arg1 harg1 arg2 harg2 arg3 harg3 arg4 harg4 arg5 harg5 arg6 harg6 arg7 harg7 arg8 harg8 arg9 harg9 hc0 x0 x1 x2 x3 x4 x5
  rw [run_A_6] at hcov ⊢
  rw [read6 _ _ _ _ hcov, staged_eq, filled_eq]

theorem out_B_6 (hc0) (h : Fin 4) (r : Fin 256) (e : Fin 128) :
    out0_B_6 c i arg1 harg1 arg2 harg2 arg3 harg3 arg4 harg4 arg5 harg5 arg6 harg6 arg7 harg7 arg8 harg8 arg9 harg9 hc0 x0 x1 x2 x3 x4 x5 xs0 (ix3 h r e)
      = outV ⟨x0, x1, x2, x3, x4, x5⟩ h (chunkIn r) (stV ⟨x0, x1, x2, x3, x4, x5⟩ h (carried xs0 h) (r.val / 64)) (ix3 0 (inChunk r) e) := by
  unfold out0_B_6
  have hcov := cover0_B_6 c i arg1 harg1 arg2 harg2 arg3 harg3 arg4 harg4 arg5 harg5 arg6 harg6 arg7 harg7 arg8 harg8 arg9 harg9 hc0 x0 x1 x2 x3 x4 x5 xs0
  rw [run_B_6] at hcov ⊢
  rw [read6 _ _ _ _ hcov, staged_eq, harg9.read_unread]

theorem out_A_7 (hc0) (h j : Fin 4) (d e : Fin 128) :
    out0_A_7 c i arg1 harg1 arg2 harg2 arg3 harg3 arg4 harg4 arg5 harg5 arg6 harg6 arg7 harg7 arg8 harg8 arg9 harg9 hc0 x0 x1 x2 x3 x4 x5 (ix4 h j d e)
      = k0_pay38 (stV ⟨x0, x1, x2, x3, x4, x5⟩ h (carried k0_pay2 h) j.val) (ix4 0 0 d e) := by
  unfold out0_A_7
  have hcov := cover0_A_7 c i arg1 harg1 arg2 harg2 arg3 harg3 arg4 harg4 arg5 harg5 arg6 harg6 arg7 harg7 arg8 harg8 arg9 harg9 hc0 x0 x1 x2 x3 x4 x5
  rw [run_A_7] at hcov ⊢
  rw [read7 _ _ _ _ hcov, staged_eq, filled_eq]

theorem out_B_7 (hc0) (h j : Fin 4) (d e : Fin 128) :
    out0_B_7 c i arg1 harg1 arg2 harg2 arg3 harg3 arg4 harg4 arg5 harg5 arg6 harg6 arg7 harg7 arg8 harg8 arg9 harg9 hc0 x0 x1 x2 x3 x4 x5 xs0 (ix4 h j d e)
      = k0_pay38 (stV ⟨x0, x1, x2, x3, x4, x5⟩ h (carried xs0 h) j.val) (ix4 0 0 d e) := by
  unfold out0_B_7
  have hcov := cover0_B_7 c i arg1 harg1 arg2 harg2 arg3 harg3 arg4 harg4 arg5 harg5 arg6 harg6 arg7 harg7 arg8 harg8 arg9 harg9 hc0 x0 x1 x2 x3 x4 x5 xs0
  rw [run_B_7] at hcov ⊢
  rw [read7 _ _ _ _ hcov, staged_eq, harg9.read_unread]

theorem sout_A (hc0) (h : Fin 4) (d e : Fin 128) :
    sout0_A_0 c i arg1 harg1 arg2 harg2 arg3 harg3 arg4 harg4 arg5 harg5 arg6 harg6 arg7 harg7 arg8 harg8 arg9 harg9 hc0 x0 x1 x2 x3 x4 x5 (ix3 h d e)
      = k0_pay1 (stV ⟨x0, x1, x2, x3, x4, x5⟩ h (carried k0_pay2 h) 4) (ix3 0 d e) := by
  unfold sout0_A_0
  rw [run_A_S, View.writes_append, readS, staged_eq, filled_eq]

theorem sout_B (hc0) (h : Fin 4) (d e : Fin 128) :
    sout0_B_0 c i arg1 harg1 arg2 harg2 arg3 harg3 arg4 harg4 arg5 harg5 arg6 harg6 arg7 harg7 arg8 harg8 arg9 harg9 hc0 x0 x1 x2 x3 x4 x5 xs0 (ix3 h d e)
      = k0_pay1 (stV ⟨x0, x1, x2, x3, x4, x5⟩ h (carried xs0 h) 4) (ix3 0 d e) := by
  unfold sout0_B_0
  rw [run_B_S, readS, staged_eq, harg9.read_unread]

end Cases

end Cert.Fwd

end
-- ==== Proof.FwdKernel.lean ====
/- What the forward scan's kernel computes over the extended reals: after each grid point the carried state is the rule's state,
   and the two arrays it writes are the rule's outputs and the states before the chunks. -/
module

public import proofs.«01_k».proof.Proof.FwdPieces
public import Idealize.ShloMosaic.Lib.Pointwise

@[expose] public section

set_option maxRecDepth 16384

noncomputable section

namespace Cert.Fwd

open Cert.Kernel2Ideal Cert.Kernel2Ideal.Gen Idealize.ShloMosaic Idealize.ShloMosaic.TcCoe Idealize.SL.Sem
open Delta

/-- A state as a matrix. -/
abbrev mat (S : FVec Ideal S128x128 .f32) : Mat 128 128 := fun d e => S (ix2 d e)

/-- What chunk `j` of head `h` reads of the point's blocks. -/
def chunkB (B : Blocks Ideal) (h j : Fin 4) : Chunk where
  u c e := View.ld B.u (rRows h j) (ix3 0 c e)
  w c e := View.ld B.w (rRows h j) (ix3 0 c e)
  q c e := View.ld B.q (rRows h j) (ix3 0 c e)
  k c e := View.ld B.k (rRows h j) (ix3 0 c e)
  a c r := View.ld B.a (rAtt h j) (ix3 0 c r)
  g e := View.ld B.g (rLanes h j) (ix4 0 0 0 e)

theorem vn_apply (S : FVec Ideal S128x128 .f32) (w u : Vec Ideal S1x64x128 .f32) (c : Fin 64) (e : Fin 128) :
    k0_pay11 S w u (ix2 c e) = u (ix3 0 c e) - ∑ d, w (ix3 0 c d) * S (ix2 d e) := by
  pointwise [k0_pay11]

theorem out_apply (S : FVec Ideal S128x128 .f32) (v : FVec Ideal S64x128 .f32) (q : Vec Ideal S1x64x128 .f32) (a : Vec Ideal S1x64x64 .f32)
    (z : Fin 1) (c : Fin 64) (e : Fin 128) :
    k0_pay29 (k0_pay15 S q) (k0_pay21 v a) (ix3 z c e)
      = (∑ d, q (ix3 0 c d) * S (ix2 d e)) + ∑ r, a (ix3 0 c r) * v (ix2 r e) := by
  pointwise [k0_pay29, k0_pay15, k0_pay21]

theorem next_apply (S : FVec Ideal S128x128 .f32) (v : FVec Ideal S64x128 .f32) (k : Vec Ideal S1x64x128 .f32) (g : Vec Ideal S1x1x1x128 .f32)
    (d e : Fin 128) :
    k0_pay34 S (k0_pay25 v k) g (ix2 d e) = S (ix2 d e) * g (ix4 0 0 0 e) + ∑ c, k (ix3 0 c d) * v (ix2 c e) := by
  pointwise [k0_pay34, k0_pay25]

theorem vnV_apply (B : Blocks Ideal) (h j : Fin 4) (S : FVec Ideal S128x128 .f32) (c : Fin 64) (e : Fin 128) :
    vnV B h j S (ix2 c e) = vnew (chunkB B h j) (mat S) c e := vn_apply _ _ _ c e

theorem outV_apply (B : Blocks Ideal) (h j : Fin 4) (S : FVec Ideal S128x128 .f32) (c : Fin 64) (e : Fin 128) :
    outV B h j S (ix3 0 c e) = outp (chunkB B h j) (mat S) c e := by
  unfold outV
  rw [out_apply]
  simp only [vnV_apply]
  rfl

theorem nextV_apply (B : Blocks Ideal) (h j : Fin 4) (S : FVec Ideal S128x128 .f32) : mat (nextV B h j S) = next (chunkB B h j) (mat S) := by
  funext d e
  show nextV B h j S (ix2 d e) = _
  unfold nextV
  rw [next_apply]
  simp only [vnV_apply]
  rfl

theorem load_apply (xs : Vec Ideal S4x128x128 .f32) (h : Fin 4) : mat (carried xs h) = fun d e => xs (ix3 h d e) := by
  funext d e
  show k0_pay3 (View.ld xs (rState h)) (ix2 d e) = _
  pointwise [k0_pay3]

theorem store_apply (S : FVec Ideal S128x128 .f32) (z : Fin 1) (d e : Fin 128) : k0_pay1 S (ix3 z d e) = S (ix2 d e) := by
  pointwise [k0_pay1]

theorem keep_apply (S : FVec Ideal S128x128 .f32) (z z' : Fin 1) (d e : Fin 128) : k0_pay38 S (ix4 z z' d e) = S (ix2 d e) := by
  pointwise [k0_pay38]

theorem fill_apply (h : Fin 4) (d e : Fin 128) : (k0_pay2 : FVec Ideal S4x128x128 .f32) (ix3 h d e) = 0 := by
  pointwise [k0_pay2]

/-- If the point's blocks hold the chunks `X n`, `X (n + 1)`, …, the states within the point are the rule's. -/
theorem stV_apply (B : Blocks Ideal) (h : Fin 4) (X : ℕ → Chunk) (n : ℕ) (hX : ∀ j : Fin 4, chunkB B h j = X (n + j.val))
    (S0 : FVec Ideal S128x128 .f32) (h0 : mat S0 = states X n) : ∀ j ≤ 4, mat (stV B h S0 j) = states X (n + j)
  | 0, _ => h0
  | j + 1, hj => by
    show mat (nextV B h (Fin.ofNat 4 j) (stV B h S0 j)) = _
    rw [nextV_apply, hX, stV_apply B h X n hX S0 h0 j (by omega)]
    have : (Fin.ofNat 4 j).val = j := Nat.mod_eq_of_lt (by omega)
    rw [this]
    rfl

/-! ## The arrays -/

variable (m : (ℓ : Loc nD τ sig) → Buf (Elt Ideal) ℓ) (c : Dev nD)

/-- The chunks of head `h` of the six argument arrays. -/
abbrev X (h : Fin 4) (n : ℕ) : Chunk :=
  Chunk.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) h n

/-- The blocks of point `t`. -/
abbrev blocksAt (t : Fin cfg0.N) : Blocks Ideal := ⟨iblk m c 0 t, iblk m c 1 t, iblk m c 2 t, iblk m c 3 t, iblk m c 4 t, iblk m c 5 t⟩

/-- The printed index maps, decided over the grid: point `t` reads block `t` of the positions, and of the chunks. -/
theorem index_rows : ∀ t : Fin cfg0.N, (∀ a, win0_0.index t a = (![0, t.val, 0] : Fin 3 → ℕ) a) ∧ (∀ a, win0_1.index t a = (![0, t.val, 0] : Fin 3 → ℕ) a)
    ∧ (∀ a, win0_2.index t a = (![0, t.val, 0] : Fin 3 → ℕ) a) ∧ (∀ a, win0_3.index t a = (![0, t.val, 0] : Fin 3 → ℕ) a)
    ∧ (∀ a, win0_4.index t a = (![0, t.val, 0] : Fin 3 → ℕ) a) ∧ (∀ a, win0_5.index t a = (![0, t.val, 0, 0] : Fin 4 → ℕ) a) :=
  (by decide +kernel : ∀ t : Fin grid0.N, _)

theorem block0 (t : Fin cfg0.N) (h j : Fin 4) (z : Fin 1) (p : Fin 64) (e : Fin 128) :
    View.ld (iblk m c 0 t) (rRows h j) (ix3 z p e)
      = (m ((c.tc : Thread nD τ).loc main_arg0) : Rows 128) (ix3 h (row (4 * t.val + j.val) p) e) := by
  obtain ⟨i0, i1, i2, i3, i4, i5⟩ := index_rows t
  have ht : t.val < 16 := lt_of_lt_of_eq t.isLt N_0
  show (m ((c.tc : Thread nD τ).loc main_arg0) : Rows 128) (((cfg0.win 0).blk t).view.emb ((rRows h j).idx (ix3 z p e))) = _
  refine congrArg (m ((c.tc : Thread nD τ).loc main_arg0) : Rows 128) (funext fun a => Fin.ext ?_)
  match a with
  | ⟨0, _⟩ => show win0_0.index t 0 * 4 + 1 * (h.val + 1 * z.val) = h.val; rw [i0 0]; show 0 * 4 + _ = _; omega
  | ⟨1, _⟩ => show win0_0.index t 1 * 256 + 1 * (64 * j.val + 1 * p.val) = (64 * (4 * t.val + j.val) + p.val) % 4096; rw [i0 1]; show t.val * 256 + _ = _; omega
  | ⟨2, _⟩ => show win0_0.index t 2 * 128 + 1 * (0 + 1 * e.val) = e.val; rw [i0 2]; show 0 * 128 + _ = _; omega

theorem block1 (t : Fin cfg0.N) (h j : Fin 4) (z : Fin 1) (p : Fin 64) (e : Fin 128) :
    View.ld (iblk m c 1 t) (rRows h j) (ix3 z p e)
      = (m ((c.tc : Thread nD τ).loc main_arg1) : Rows 128) (ix3 h (row (4 * t.val + j.val) p) e) := by
  obtain ⟨i0, i1, i2, i3, i4, i5⟩ := index_rows t
  have ht : t.val < 16 := lt_of_lt_of_eq t.isLt N_0
  show (m ((c.tc : Thread nD τ).loc main_arg1) : Rows 128) (((cfg0.win 1).blk t).view.emb ((rRows h j).idx (ix3 z p e))) = _
  refine congrArg (m ((c.tc : Thread nD τ).loc main_arg1) : Rows 128) (funext fun a => Fin.ext ?_)
  match a with
  | ⟨0, _⟩ => show win0_1.index t 0 * 4 + 1 * (h.val + 1 * z.val) = h.val; rw [i1 0]; show 0 * 4 + _ = _; omega
  | ⟨1, _⟩ => show win0_1.index t 1 * 256 + 1 * (64 * j.val + 1 * p.val) = (64 * (4 * t.val + j.val) + p.val) % 4096; rw [i1 1]; show t.val * 256 + _ = _; omega
  | ⟨2, _⟩ => show win0_1.index t 2 * 128 + 1 * (0 + 1 * e.val) = e.val; rw [i1 2]; show 0 * 128 + _ = _; omega

theorem block2 (t : Fin cfg0.N) (h j : Fin 4) (z : Fin 1) (p : Fin 64) (e : Fin 128) :
    View.ld (iblk m c 2 t) (rRows h j) (ix3 z p e)
      = (m ((c.tc : Thread nD τ).loc main_arg2) : Rows 128) (ix3 h (row (4 * t.val + j.val) p) e) := by
  obtain ⟨i0, i1, i2, i3, i4, i5⟩ := index_rows t
  have ht : t.val < 16 := lt_of_lt_of_eq t.isLt N_0
  show (m ((c.tc : Thread nD τ).loc main_arg2) : Rows 128) (((cfg0.win 2).blk t).view.emb ((rRows h j).idx (ix3 z p e))) = _
  refine congrArg (m ((c.tc : Thread nD τ).loc main_arg2) : Rows 128) (funext fun a => Fin.ext ?_)
  match a with
  | ⟨0, _⟩ => show win0_2.index t 0 * 4 + 1 * (h.val + 1 * z.val) = h.val; rw [i2 0]; show 0 * 4 + _ = _; omega
  | ⟨1, _⟩ => show win0_2.index t 1 * 256 + 1 * (64 * j.val + 1 * p.val) = (64 * (4 * t.val + j.val) + p.val) % 4096; rw [i2 1]; show t.val * 256 + _ = _; omega
  | ⟨2, _⟩ => show win0_2.index t 2 * 128 + 1 * (0 + 1 * e.val) = e.val; rw [i2 2]; show 0 * 128 + _ = _; omega

theorem block3 (t : Fin cfg0.N) (h j : Fin 4) (z : Fin 1) (p : Fin 64) (e : Fin 128) :
    View.ld (iblk m c 3 t) (rRows h j) (ix3 z p e)
      = (m ((c.tc : Thread nD τ).loc main_arg3) : Rows 128) (ix3 h (row (4 * t.val + j.val) p) e) := by
  obtain ⟨i0, i1, i2, i3, i4, i5⟩ := index_rows t
  have ht : t.val < 16 := lt_of_lt_of_eq t.isLt N_0
  show (m ((c.tc : Thread nD τ).loc main_arg3) : Rows 128) (((cfg0.win 3).blk t).view.emb ((rRows h j).idx (ix3 z p e))) = _
  refine congrArg (m ((c.tc : Thread nD τ).loc main_arg3) : Rows 128) (funext fun a => Fin.ext ?_)
  match a with
  | ⟨0, _⟩ => show win0_3.index t 0 * 4 + 1 * (h.val + 1 * z.val) = h.val; rw [i3 0]; show 0 * 4 + _ = _; omega
  | ⟨1, _⟩ => show win0_3.index t 1 * 256 + 1 * (64 * j.val + 1 * p.val) = (64 * (4 * t.val + j.val) + p.val) % 4096; rw [i3 1]; show t.val * 256 + _ = _; omega
  | ⟨2, _⟩ => show win0_3.index t 2 * 128 + 1 * (0 + 1 * e.val) = e.val; rw [i3 2]; show 0 * 128 + _ = _; omega

theorem block4 (t : Fin cfg0.N) (h j : Fin 4) (z : Fin 1) (p : Fin 64) (e : Fin 64) :
    View.ld (iblk m c 4 t) (rAtt h j) (ix3 z p e)
      = (m ((c.tc : Thread nD τ).loc main_arg4) : Rows 64) (ix3 h (row (4 * t.val + j.val) p) e) := by
  obtain ⟨i0, i1, i2, i3, i4, i5⟩ := index_rows t
  have ht : t.val < 16 := lt_of_lt_of_eq t.isLt N_0
  show (m ((c.tc : Thread nD τ).loc main_arg4) : Rows 64) (((cfg0.win 4).blk t).view.emb ((rAtt h j).idx (ix3 z p e))) = _
  refine congrArg (m ((c.tc : Thread nD τ).loc main_arg4) : Rows 64) (funext fun a => Fin.ext ?_)
  match a with
  | ⟨0, _⟩ => show win0_4.index t 0 * 4 + 1 * (h.val + 1 * z.val) = h.val; rw [i4 0]; show 0 * 4 + _ = _; omega
  | ⟨1, _⟩ => show win0_4.index t 1 * 256 + 1 * (64 * j.val + 1 * p.val) = (64 * (4 * t.val + j.val) + p.val) % 4096; rw [i4 1]; show t.val * 256 + _ = _; omega
  | ⟨2, _⟩ => show win0_4.index t 2 * 64 + 1 * (0 + 1 * e.val) = e.val; rw [i4 2]; show 0 * 64 + _ = _; omega

theorem block5 (t : Fin cfg0.N) (h j : Fin 4) (z z' : Fin 1) (e : Fin 128) :
    View.ld (iblk m c 5 t) (rLanes h j) (ix4 z z' 0 e)
      = (m ((c.tc : Thread nD τ).loc main_arg5) : Lanes) (ix4 h (chk (4 * t.val + j.val)) 0 e) := by
  obtain ⟨i0, i1, i2, i3, i4, i5⟩ := index_rows t
  have ht : t.val < 16 := lt_of_lt_of_eq t.isLt N_0
  show (m ((c.tc : Thread nD τ).loc main_arg5) : Lanes) (((cfg0.win 5).blk t).view.emb ((rLanes h j).idx (ix4 z z' 0 e))) = _
  refine congrArg (m ((c.tc : Thread nD τ).loc main_arg5) : Lanes) (funext fun a => Fin.ext ?_)
  match a with
  | ⟨0, _⟩ => show win0_5.index t 0 * 4 + 1 * (h.val + 1 * z.val) = h.val; rw [i5 0]; show 0 * 4 + _ = _; omega
  | ⟨1, _⟩ => show win0_5.index t 1 * 4 + 1 * (j.val + 1 * z'.val) = (4 * t.val + j.val) % 64; rw [i5 1]; show t.val * 4 + _ = _; omega
  | ⟨2, _⟩ => show win0_5.index t 2 * 1 + 1 * (0 + 1 * 0) = 0; rw [i5 2]; rfl
  | ⟨3, _⟩ => show win0_5.index t 3 * 128 + 1 * (0 + 1 * e.val) = e.val; rw [i5 3]; show 0 * 128 + _ = _; omega

theorem chunk_at (t : Fin cfg0.N) (h j : Fin 4) : chunkB (blocksAt m c t) h j = X m c h (4 * t.val + j.val) := by
  unfold chunkB X Chunk.of
  congr 1
  · funext p e; exact block0 m c t h j 0 p e
  · funext p e; exact block1 m c t h j 0 p e
  · funext p e; exact block2 m c t h j 0 p e
  · funext p e; exact block3 m c t h j 0 p e
  · funext p e; exact block4 m c t h j 0 p e
  · funext e; exact block5 m c t h j 0 0 e

/-- The carried state that point `t` starts from: the zeros of the first point's fill, or what the point before left. -/
theorem start_first (h : Fin 4) : mat (carried (k0_pay2 : FVec Ideal S4x128x128 .f32) h) = states (X m c h) 0 := by
  rw [load_apply]
  funext d e
  exact fill_apply h d e

/-- THE CARRIED STATE after point `n` is the rule's after `4 (n + 1)` chunks. -/
theorem carried_after (n : ℕ) (hn : n < cfg0.N) (h : Fin 4) (d e : Fin 128) :
    (outsAt0 m c n hn).2.2 (ix3 h d e) = states (X m c h) (4 * (n + 1)) d e := by
  induction n generalizing h d e with
  | zero =>
    rw [outsAt0_A m c ⟨0, hn⟩ (Nat.zero_mod _)]
    dsimp only
    rw [sout_A, store_apply]
    exact congrFun (congrFun (stV_apply (blocksAt m c ⟨0, hn⟩) h (X m c h) 0 (fun j => by rw [chunk_at]; exact congrArg (X m c h) (by show 4 * 0 + _ = _; omega)) _ (start_first m c h) 4 (le_refl _)) d) e
  | succ n ih =>
    have hN : n + 1 < 16 := lt_of_lt_of_eq hn N_0
    rw [outsAt0_B m c ⟨n + 1, hn⟩ (by show ¬(n + 1) % 16 = 0; omega)]
    dsimp only
    rw [sout_B, store_apply]
    refine congrFun (congrFun (stV_apply (blocksAt m c ⟨n + 1, hn⟩) h (X m c h) (4 * (n + 1)) (fun j => by rw [chunk_at]) _ ?_ 4 (le_refl _)) d) e
    rw [load_apply]
    funext d e
    exact ih (Nat.lt_of_succ_lt hn) h d e

/-- THE OUTPUTS' BLOCK after point `n`: the rule's outputs of the point's four chunks. -/
theorem outputs_after (n : ℕ) (hn : n < cfg0.N) (h : Fin 4) (r : Fin 256) (e : Fin 128) :
    (outsAt0 m c n hn).1 (ix3 h r e)
      = outp (X m c h (4 * n + r.val / 64)) (states (X m c h) (4 * n + r.val / 64)) (inChunk r) e := by
  have hr : r.val / 64 ≤ 4 := by omega
  cases n with
  | zero =>
    rw [outsAt0_A m c ⟨0, hn⟩ (Nat.zero_mod _)]
    dsimp only
    rw [out_A_6, outV_apply, stV_apply (blocksAt m c ⟨0, hn⟩) h (X m c h) 0 (fun j => by rw [chunk_at]; exact congrArg (X m c h) (by show 4 * 0 + _ = _; omega)) _ (start_first m c h) _ hr,
      chunk_at m c ⟨0, hn⟩]
  | succ n =>
    have hN : n + 1 < 16 := lt_of_lt_of_eq hn N_0
    rw [outsAt0_B m c ⟨n + 1, hn⟩ (by show ¬(n + 1) % 16 = 0; omega)]
    dsimp only
    rw [out_B_6, outV_apply, stV_apply (blocksAt m c ⟨n + 1, hn⟩) h (X m c h) (4 * (n + 1)) (fun j => by rw [chunk_at]) _ ?_ _ hr,
      chunk_at m c ⟨n + 1, hn⟩]
    rw [load_apply]
    funext d e
    exact carried_after m c n (Nat.lt_of_succ_lt hn) h d e

/-- THE STATES' BLOCK after point `n`: the rule's states before the point's four chunks. -/
theorem states_after (n : ℕ) (hn : n < cfg0.N) (h j : Fin 4) (d e : Fin 128) :
    (outsAt0 m c n hn).2.1 (ix4 h j d e) = states (X m c h) (4 * n + j.val) d e := by
  have hj : j.val ≤ 4 := by omega
  cases n with
  | zero =>
    rw [outsAt0_A m c ⟨0, hn⟩ (Nat.zero_mod _)]
    dsimp only
    rw [out_A_7, keep_apply]
    exact congrFun (congrFun (stV_apply (blocksAt m c ⟨0, hn⟩) h (X m c h) 0 (fun j => by rw [chunk_at]; exact congrArg (X m c h) (by show 4 * 0 + _ = _; omega)) _ (start_first m c h) _ hj) d) e
  | succ n =>
    have hN : n + 1 < 16 := lt_of_lt_of_eq hn N_0
    rw [outsAt0_B m c ⟨n + 1, hn⟩ (by show ¬(n + 1) % 16 = 0; omega)]
    dsimp only
    rw [out_B_7, keep_apply]
    refine congrFun (congrFun (stV_apply (blocksAt m c ⟨n + 1, hn⟩) h (X m c h) (4 * (n + 1)) (fun j => by rw [chunk_at]) _ ?_ _ hj) d) e
    rw [load_apply]
    funext d e
    exact carried_after m c n (Nat.lt_of_succ_lt hn) h d e

open Cert.Kernel2Ideal.Value

/-- THE OUTPUTS. -/
theorem G6_apply (h : Fin 4) (i : Fin 4096) (e : Fin 128) :
    (G6 m c : Rows 128) (ix3 h i e)
      = outp (X m c h (i.val / 64)) (states (X m c h) (i.val / 64)) ⟨i.val % 64, Nat.mod_lt _ (by decide)⟩ e := by
  have hp : pt6Of (ix3 h i e) = i.val / 256 := by
    show 16 * (h.val / 4 - 0) + 1 * (i.val / 256 - 0) + 1 * (e.val / 128 - 0) = _
    omega
  have hN : i.val / 256 < cfg0.N := lt_of_lt_of_eq (by omega) N_0.symm
  unfold G6
  rw [dif_pos (by rw [hp]; exact hN), ← outsAt0_sweep m c _ (by rw [hp]; exact hN)]
  have hl : loc6Of (ix3 h i e) = ix3 h ⟨i.val % 256, Nat.mod_lt _ (by decide)⟩ e := by
    funext a; apply Fin.ext
    match a with
    | ⟨0, _⟩ => show h.val % 4 = h.val; omega
    | ⟨1, _⟩ => rfl
    | ⟨2, _⟩ => show e.val % 128 = e.val; omega
  have hs : 4 * (i.val / 256) + i.val % 256 / 64 = i.val / 64 := by omega
  rw [hl, outputs_after, hp]
  dsimp only
  rw [hs]
  exact congrArg (fun c' => outp _ _ c' e) (Fin.ext (show i.val % 256 % 64 = i.val % 64 by omega))

/-- THE STATES. -/
theorem G7_apply (h : Fin 4) (n : Fin 64) (d e : Fin 128) : (G7 m c : Squares) (ix4 h n d e) = states (X m c h) n.val d e := by
  have hp : pt7Of (ix4 h n d e) = n.val / 4 := by
    show 16 * (h.val / 4 - 0) + 1 * (n.val / 4 - 0) + 1 * (d.val / 128 - 0) + 1 * (e.val / 128 - 0) = _
    omega
  have hN : n.val / 4 < cfg0.N := lt_of_lt_of_eq (by omega) N_0.symm
  unfold G7
  rw [dif_pos (by rw [hp]; exact hN), ← outsAt0_sweep m c _ (by rw [hp]; exact hN)]
  have hl : loc7Of (ix4 h n d e) = ix4 h ⟨n.val % 4, Nat.mod_lt _ (by decide)⟩ d e := by
    funext a; apply Fin.ext
    match a with
    | ⟨0, _⟩ => show h.val % 4 = h.val; omega
    | ⟨1, _⟩ => rfl
    | ⟨2, _⟩ => show d.val % 128 = d.val; omega
    | ⟨3, _⟩ => show e.val % 128 = e.val; omega
  have hs : 4 * (n.val / 4) + n.val % 4 = n.val := by omega
  rw [hl, states_after, hp]
  dsimp only
  rw [hs]

end Cert.Fwd

end
-- ==== Proof.Slices.lean ====
/- What a loop over chunks does with its arrays, at one index: it reads chunk `n` by a dynamic slice along the first axis and writes
   chunk `n` of a stack by a dynamic update. -/
module

public import Idealize.ShloMosaic.Lib.Pointwise
public import Idealize.ShloMosaic.Lib.DynamicIndex

@[expose] public section

noncomputable section

namespace Delta

open Idealize.ShloMosaic

/-- The starts `(n, 0, 0, 0)`. -/
def StartsAt (start : Fin 4 → Int) (n : ℕ) : Prop := ∀ a : Fin 4, start a = ((![n, 0, 0, 0] : Fin 4 → ℕ) a : Int)

/-- The starts a loop reads off its counter: the counter's number, then zeros. -/
theorem startsAt_of_word {n : ℕ} (hn : n < 64) (w : BitVec 32) (hw : w = BitVec.ofNat 32 n) (start : Fin 4 → Int)
    (h0 : start 0 = w.toInt) (h1 : start 1 = 0) (h2 : start 2 = 0) (h3 : start 3 = 0) : StartsAt start n := by
  intro a
  match a with
  | ⟨0, _⟩ => exact h0.trans (by rw [hw, BitVec.toInt_eq_toNat_cond, BitVec.toNat_ofNat]; simp only [Matrix.cons_val_zero, Fin.zero_eta]; omega)
  | ⟨1, _⟩ => exact h1
  | ⟨2, _⟩ => exact h2
  | ⟨3, _⟩ => exact h3

variable {B C D : ℕ} {α : Type}

/-- A slice of chunk `n`. -/
theorem slice_chunk (x : (⟨4, ![64, B, C, D]⟩ : Shape).Idx → α) {n : ℕ} (hn : n < 64) (start : Fin 4 → Int) (hs : StartsAt start n)
    (h : (⟨4, ![64, B, C, D]⟩ : Shape).Slices (fun _ => 0) ⟨4, ![1, B, C, D]⟩) (z : Fin 1) (b : Fin B) (c : Fin C) (d : Fin D) :
    Host.dynamicSlice ⟨4, ![1, B, C, D]⟩ x start h (ix4 z b c d) = x (ix4 ⟨n, hn⟩ b c d) := by
  rw [Host.dynamicSlice_apply]
  refine congrArg x (funext fun a => Fin.ext ?_)
  match a with
  | ⟨0, _⟩ =>
    show Host.clampedStart _ _ h.1 start 0 + z.val = n
    rw [Host.clampedStart_of_le h.1 start 0 n (hs 0) (by show n + 1 ≤ 64; omega)]; omega
  | ⟨1, _⟩ =>
    show Host.clampedStart _ _ h.1 start 1 + b.val = b.val
    rw [Host.clampedStart_of_le h.1 start 1 0 (hs 1) (by show 0 + B ≤ B; omega)]; omega
  | ⟨2, _⟩ =>
    show Host.clampedStart _ _ h.1 start 2 + c.val = c.val
    rw [Host.clampedStart_of_le h.1 start 2 0 (hs 2) (by show 0 + C ≤ C; omega)]; omega
  | ⟨3, _⟩ =>
    show Host.clampedStart _ _ h.1 start 3 + d.val = d.val
    rw [Host.clampedStart_of_le h.1 start 3 0 (hs 3) (by show 0 + D ≤ D; omega)]; omega

/-- An update of chunk `n`. -/
theorem update_chunk (x : (⟨4, ![64, B, C, D]⟩ : Shape).Idx → α) (y : (⟨4, ![1, B, C, D]⟩ : Shape).Idx → α) {n : ℕ} (hn : n < 64)
    (start : Fin 4 → Int) (hs : StartsAt start n) (h : (⟨4, ![64, B, C, D]⟩ : Shape).Slices (fun _ => 0) ⟨4, ![1, B, C, D]⟩)
    (i : Fin 64) (b : Fin B) (c : Fin C) (d : Fin D) :
    Host.dynamicUpdateSlice x y start h (ix4 i b c d) = if i.val = n then y (ix4 0 b c d) else x (ix4 i b c d) := by
  have e0 : Host.clampedStart ⟨4, ![64, B, C, D]⟩ ⟨4, ![1, B, C, D]⟩ h.1 start 0 = n :=
    Host.clampedStart_of_le h.1 start 0 n (hs 0) (by show n + 1 ≤ 64; omega)
  have e1 : Host.clampedStart ⟨4, ![64, B, C, D]⟩ ⟨4, ![1, B, C, D]⟩ h.1 start 1 = 0 :=
    Host.clampedStart_of_le h.1 start 1 0 (hs 1) (by show 0 + B ≤ B; omega)
  have e2 : Host.clampedStart ⟨4, ![64, B, C, D]⟩ ⟨4, ![1, B, C, D]⟩ h.1 start 2 = 0 :=
    Host.clampedStart_of_le h.1 start 2 0 (hs 2) (by show 0 + C ≤ C; omega)
  have e3 : Host.clampedStart ⟨4, ![64, B, C, D]⟩ ⟨4, ![1, B, C, D]⟩ h.1 start 3 = 0 :=
    Host.clampedStart_of_le h.1 start 3 0 (hs 3) (by show 0 + D ≤ D; omega)
  rw [Host.dynamicUpdateSlice_apply]
  by_cases hi : i.val = n
  · rw [if_pos hi, dif_pos]
    · refine congrArg y (funext fun a => Fin.ext ?_)
      match a with
      | ⟨0, _⟩ =>
        show i.val - Host.clampedStart _ _ h.1 start 0 = 0
        rw [e0]; omega
      | ⟨1, _⟩ =>
        show b.val - Host.clampedStart _ _ h.1 start 1 = b.val
        rw [e1]; omega
      | ⟨2, _⟩ =>
        show c.val - Host.clampedStart _ _ h.1 start 2 = c.val
        rw [e2]; omega
      | ⟨3, _⟩ =>
        show d.val - Host.clampedStart _ _ h.1 start 3 = d.val
        rw [e3]; omega
    · intro a
      match a with
      | ⟨0, _⟩ =>
        show Host.clampedStart _ _ h.1 start 0 ≤ i.val ∧ i.val < Host.clampedStart _ _ h.1 start 0 + 1
        rw [e0]; omega
      | ⟨1, _⟩ =>
        show Host.clampedStart _ _ h.1 start 1 ≤ b.val ∧ b.val < Host.clampedStart _ _ h.1 start 1 + B
        rw [e1]; have := b.isLt; omega
      | ⟨2, _⟩ =>
        show Host.clampedStart _ _ h.1 start 2 ≤ c.val ∧ c.val < Host.clampedStart _ _ h.1 start 2 + C
        rw [e2]; have := c.isLt; omega
      | ⟨3, _⟩ =>
        show Host.clampedStart _ _ h.1 start 3 ≤ d.val ∧ d.val < Host.clampedStart _ _ h.1 start 3 + D
        rw [e3]; have := d.isLt; omega
  · rw [if_neg hi, dif_neg]
    intro hin
    have h0 : Host.clampedStart _ _ h.1 start 0 ≤ i.val ∧ i.val < Host.clampedStart _ _ h.1 start 0 + 1 := hin 0
    rw [e0] at h0
    omega

end Delta

end
-- ==== Proof.FwdRef.lean ====
/- What the forward scan's reference computes over the extended reals: before trip `k` of its loop the carried state is the rule's
   state `k`, and chunks 0 … k − 1 of its two stacks hold the outputs and the states. -/
module

public import proofs.«01_k».proof.Proof.Gen.Reference2Ideal.Run
public import proofs.«01_k».proof.Proof.Slices
public import proofs.«01_k».proof.Proof.Model

@[expose] public section

set_option maxRecDepth 16384

noncomputable section

namespace Cert.FwdRef

open Cert.Reference2Ideal Cert.Reference2Ideal.Gen Cert.Reference2Ideal.Value Idealize.ShloMosaic Idealize.ShloMosaic.TcCoe Idealize.SL.Sem
open Idealize.ShloMosaic.StableHlo Idealize.ShloMosaic.Tactic Delta

/-- The contents of a trip's start. -/
abbrev Vals := Valuation τ sig (Elt Ideal)

abbrev rU (V : Vals) : FVec Ideal S64x4x64x128 .f32 := V (Proc.devRef .tc main_v14_0)
abbrev rW (V : Vals) : FVec Ideal S64x4x64x128 .f32 := V (Proc.devRef .tc main_v14_1)
abbrev rQ (V : Vals) : FVec Ideal S64x4x64x128 .f32 := V (Proc.devRef .tc main_v14_2)
abbrev rK (V : Vals) : FVec Ideal S64x4x64x128 .f32 := V (Proc.devRef .tc main_v14_3)
abbrev rA (V : Vals) : FVec Ideal S64x4x64x64 .f32 := V (Proc.devRef .tc main_v14_4)
abbrev rG (V : Vals) : FVec Ideal S64x4x1x128 .f32 := V (Proc.devRef .tc main_v14_5)
abbrev rN (V : Vals) : IVec S_ 32 := V (Proc.devRef .tc main_v14_6)
abbrev rS (V : Vals) : FVec Ideal S4x128x128 .f32 := V (Proc.devRef .tc main_v14_7)
abbrev rO (V : Vals) : FVec Ideal S64x4x64x128 .f32 := V (Proc.devRef .tc main_v14_8)
abbrev rSs (V : Vals) : FVec Ideal S64x4x128x128 .f32 := V (Proc.devRef .tc main_v14_9)

/-- A slice of chunk `n`, read without its first axis: of rows of 128, of rows of 64, of lanes. -/
theorem take1 (x : FVec Ideal S64x4x64x128 .f32) {n : ℕ} (hn : n < 64) (start : Fin 4 → Int) (hs : StartsAt start n)
    (h : Fin 4) (c : Fin 64) (e : Fin 128) :
    shapeCast S4x64x128 (Host.dynamicSlice S1x4x64x128 x start sliceFits_S64x4x64x128_S1x4x64x128) shapeCasts_S1x4x64x128_S4x64x128 (ix3 h c e)
      = x (ix4 ⟨n, hn⟩ h c e) := by
  refine Eq.trans ?_ (slice_chunk x hn start hs sliceFits_S64x4x64x128_S1x4x64x128 0 h c e)
  generalize Host.dynamicSlice S1x4x64x128 x start sliceFits_S64x4x64x128_S1x4x64x128 = y
  pointwise

theorem take2 (x : FVec Ideal S64x4x64x64 .f32) {n : ℕ} (hn : n < 64) (start : Fin 4 → Int) (hs : StartsAt start n)
    (h : Fin 4) (c : Fin 64) (e : Fin 64) :
    shapeCast S4x64x64 (Host.dynamicSlice S1x4x64x64 x start sliceFits_S64x4x64x64_S1x4x64x64) shapeCasts_S1x4x64x64_S4x64x64 (ix3 h c e)
      = x (ix4 ⟨n, hn⟩ h c e) := by
  refine Eq.trans ?_ (slice_chunk x hn start hs sliceFits_S64x4x64x64_S1x4x64x64 0 h c e)
  generalize Host.dynamicSlice S1x4x64x64 x start sliceFits_S64x4x64x64_S1x4x64x64 = y
  pointwise

theorem take3 (x : FVec Ideal S64x4x1x128 .f32) {n : ℕ} (hn : n < 64) (start : Fin 4 → Int) (hs : StartsAt start n)
    (h : Fin 4) (z : Fin 1) (e : Fin 128) :
    shapeCast S4x1x128 (Host.dynamicSlice S1x4x1x128 x start sliceFits_S64x4x1x128_S1x4x1x128) shapeCasts_S1x4x1x128_S4x1x128 (ix3 h z e)
      = x (ix4 ⟨n, hn⟩ h 0 e) := by
  refine Eq.trans ?_ (slice_chunk x hn start hs sliceFits_S64x4x1x128_S1x4x1x128 0 h 0 e)
  generalize Host.dynamicSlice S1x4x1x128 x start sliceFits_S64x4x1x128_S1x4x1x128 = y
  pointwise

/-! The trip's three formulas, of any arrays whose head `h` is known. -/

theorem vn_formula (u w : FVec Ideal S4x64x128 .f32) (S : FVec Ideal S4x128x128 .f32) (h : Fin 4) (U W : Mat 64 128)
    (hu : ∀ c e, u (ix3 h c e) = U c e) (hw : ∀ c e, w (ix3 h c e) = W c e) (c : Fin 64) (e : Fin 128) :
    subf u (Host.dotGeneral dot_S4x64x128_S4x128x128_S4x64x128_2_1_1_2_0_0 none w S) (ix3 h c e)
      = U c e - ∑ d, W c d * S (ix3 h d e) := by
  pointwise [hu, hw]

theorem next_formula (S : FVec Ideal S4x128x128 .f32) (g : FVec Ideal S4x1x128 .f32) (k v : FVec Ideal S4x64x128 .f32) (h : Fin 4)
    (G : Fin 128 → EReal) (K N : Mat 64 128) (hg : ∀ e, g (ix3 h 0 e) = G e) (hk : ∀ c e, k (ix3 h c e) = K c e)
    (hv : ∀ c e, v (ix3 h c e) = N c e) (d e : Fin 128) :
    addf (mulf S (broadcastInDim S4x128x128 ![0, 1, 2] bcast_S4x1x128_S4x128x128_0_1_2 g))
      (Host.dotGeneral dot_S4x64x128_S4x64x128_S4x128x128_1_1_2_2_0_0 none k v) (ix3 h d e)
      = S (ix3 h d e) * G e + ∑ c, K c d * N c e := by
  pointwise [hg, hk, hv]

theorem out_formula (S : FVec Ideal S4x128x128 .f32) (q v : FVec Ideal S4x64x128 .f32) (a : FVec Ideal S4x64x64 .f32) (h : Fin 4)
    (Q N : Mat 64 128) (A : Mat 64 64) (hq : ∀ c e, q (ix3 h c e) = Q c e) (ha : ∀ c e, a (ix3 h c e) = A c e)
    (hv : ∀ c e, v (ix3 h c e) = N c e) (z : Fin 1) (c : Fin 64) (e : Fin 128) :
    broadcastInDim S1x4x64x128 ![1, 2, 3] bcast_S4x64x128_S1x4x64x128_1_2_3
      (addf (Host.dotGeneral dot_S4x64x128_S4x128x128_S4x64x128_2_1_1_2_0_0 none q S)
        (Host.dotGeneral dot_S4x64x64_S4x64x128_S4x64x128_2_1_1_2_0_0 none a v)) (ix4 z h c e)
      = (∑ d, Q c d * S (ix3 h d e)) + ∑ r, A c r * N r e := by
  pointwise [hq, ha, hv]

theorem keep_formula (S : FVec Ideal S4x128x128 .f32) (z : Fin 1) (h : Fin 4) (d e : Fin 128) :
    broadcastInDim S1x4x128x128 ![1, 2, 3] bcast_S4x128x128_S1x4x128x128_1_2_3 S (ix4 z h d e) = S (ix3 h d e) := by
  pointwise

/-- What chunk `n` of head `h` reads of a trip's arrays. -/
def chunkR (V : Vals) (h : Fin 4) (n : Fin 64) : Chunk where
  u c e := rU V (ix4 n h c e)
  w c e := rW V (ix4 n h c e)
  q c e := rQ V (ix4 n h c e)
  k c e := rK V (ix4 n h c e)
  a c r := rA V (ix4 n h c r)
  g e := rG V (ix4 n h 0 e)

/-- Head `h` of a carried state. -/
abbrev matR (S : FVec Ideal S4x128x128 .f32) (h : Fin 4) : Mat 128 128 := fun d e => S (ix3 h d e)

section Trip

variable (V : Vals) (n : ℕ) (hn : n < 64) (hc : rN V = fun _ => BitVec.ofNat 32 n)
include hn hc

theorem starts : StartsAt (fun k => (((![rN V, constantI S_ 32 0#32, constantI S_ 32 0#32, constantI S_ 32 0#32] : Fin 4 → (⟨S_, .i32⟩ : BufTy).Contents (Elt Ideal))) k (Shape.Idx.first h_S_)).toInt) n :=
  startsAt_of_word hn _ (congrFun hc (Shape.Idx.first h_S_)) _ rfl rfl rfl rfl

theorem vn_trip (h : Fin 4) (c : Fin 64) (e : Fin 128) :
    (res_main_while0b_v25 V : FVec Ideal S4x64x128 .f32) (ix3 h c e) = vnew (chunkR V h ⟨n, hn⟩) (matR (rS V) h) c e := by
  have hs := starts V n hn hc
  unfold res_main_while0b_v25
  exact vn_formula _ _ _ h _ _ (take1 (rU V) hn _ hs h) (take1 (rW V) hn _ hs h) c e

theorem next_trip (h : Fin 4) : matR (step_main_v14_7 V) h = next (chunkR V h ⟨n, hn⟩) (matR (rS V) h) := by
  have hs := starts V n hn hc
  funext d e
  unfold matR step_main_v14_7
  exact next_formula _ _ _ _ h _ _ _ (take3 (rG V) hn _ hs h 0) (take1 (rK V) hn _ hs h) (vn_trip V n hn hc h) d e

theorem o_trip (i : Fin 64) (h : Fin 4) (c : Fin 64) (e : Fin 128) :
    (step_main_v14_8 V : FVec Ideal S64x4x64x128 .f32) (ix4 i h c e)
      = if i.val = n then outp (chunkR V h ⟨n, hn⟩) (matR (rS V) h) c e else rO V (ix4 i h c e) := by
  have hs := starts V n hn hc
  unfold step_main_v14_8
  refine (update_chunk _ _ hn _ hs _ i h c e).trans ?_
  refine if_congr Iff.rfl ?_ rfl
  exact out_formula _ _ _ _ h _ _ _ (take1 (rQ V) hn _ hs h) (take2 (rA V) hn _ hs h) (vn_trip V n hn hc h) 0 c e

theorem s_trip (i : Fin 64) (h : Fin 4) (d e : Fin 128) :
    (step_main_v14_9 V : FVec Ideal S64x4x128x128 .f32) (ix4 i h d e)
      = if i.val = n then matR (rS V) h d e else rSs V (ix4 i h d e) := by
  have hs := starts V n hn hc
  unfold step_main_v14_9
  refine (update_chunk _ _ hn _ hs _ i h d e).trans ?_
  exact if_congr Iff.rfl (keep_formula _ 0 h d e) rfl

end Trip

/-! ## The trips -/

variable (m : (ℓ : Loc nD τ sig) → Buf (Elt Ideal) ℓ) (c : Dev nD)

/-- What chunk `n` of head `h` reads of the arguments. -/
abbrev X (h : Fin 4) (n : ℕ) : Chunk :=
  Chunk.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) h n

/-- The contents before trip `k`. -/
abbrev at_ (k : ℕ) : Vals := STEP^[k] (entryContents preI m c)

theorem unrows_formula (x : Rows 128) (n : Fin 64) (h : Fin 4) (p : Fin 64) (e : Fin 128) :
    transpose S64x4x64x128 [1, 0, 2, 3] (shapeCast S4x64x64x128 (x : FVec Ideal S4x4096x128 .f32) shapeCasts_S4x4096x128_S4x64x64x128)
      transposes_S4x64x64x128_S64x4x64x128_1_0_2_3 (ix4 n h p e) = rowsOf x h n.val p e := by
  pointwise [rowsOf, row]
  exact congrArg (fun i => x (ix3 h i e)) (Fin.ext (by show n.val * 64 + p.val = (64 * n.val + p.val) % 4096; omega))

theorem unatt_formula (x : Rows 64) (n : Fin 64) (h : Fin 4) (p : Fin 64) (e : Fin 64) :
    transpose S64x4x64x64 [1, 0, 2, 3] (shapeCast S4x64x64x64 (x : FVec Ideal S4x4096x64 .f32) shapeCasts_S4x4096x64_S4x64x64x64)
      transposes_S4x64x64x64_S64x4x64x64_1_0_2_3 (ix4 n h p e) = rowsOf x h n.val p e := by
  pointwise [rowsOf, row]
  exact congrArg (fun i => x (ix3 h i e)) (Fin.ext (by show n.val * 64 + p.val = (64 * n.val + p.val) % 4096; omega))

theorem unlanes_formula (x : Lanes) (n : Fin 64) (h : Fin 4) (e : Fin 128) :
    transpose S64x4x1x128 [1, 0, 2, 3] (x : FVec Ideal S4x64x1x128 .f32) transposes_S4x64x1x128_S64x4x1x128_1_0_2_3 (ix4 n h 0 e)
      = lanesOf x h n.val e := by
  pointwise [lanesOf, chk]
  exact congrArg (fun i => x (ix4 h i 0 e)) (Fin.ext (by show n.val = n.val % 64; omega))

theorem entry0 (h : Fin 4) (n p : Fin 64) (e : Fin 128) :
    rU (at_ m c 0) (ix4 n h p e) = rowsOf (m ((c.tc : Thread nD τ).loc main_arg0)) h n.val p e := by
  refine Eq.trans (congrFun (?_ : rU (at_ m c 0) = transpose S64x4x64x128 [1, 0, 2, 3] (shapeCast S4x64x64x128
    (m ((c.tc : Thread nD τ).loc main_arg0) : FVec Ideal S4x4096x128 .f32) shapeCasts_S4x4096x128_S4x64x64x128)
    transposes_S4x64x64x128_S64x4x64x128_1_0_2_3) _) (unrows_formula _ n h p e)
  show entryContents preI m c (Proc.devRef .tc main_v14_0) = _
  simp only [entryContents, afterL_cons, afterL_nil]
  after_reads_simp
  rfl

theorem entry1 (h : Fin 4) (n p : Fin 64) (e : Fin 128) :
    rW (at_ m c 0) (ix4 n h p e) = rowsOf (m ((c.tc : Thread nD τ).loc main_arg1)) h n.val p e := by
  refine Eq.trans (congrFun (?_ : rW (at_ m c 0) = transpose S64x4x64x128 [1, 0, 2, 3] (shapeCast S4x64x64x128
    (m ((c.tc : Thread nD τ).loc main_arg1) : FVec Ideal S4x4096x128 .f32) shapeCasts_S4x4096x128_S4x64x64x128)
    transposes_S4x64x64x128_S64x4x64x128_1_0_2_3) _) (unrows_formula _ n h p e)
  show entryContents preI m c (Proc.devRef .tc main_v14_1) = _
  simp only [entryContents, afterL_cons, afterL_nil]
  after_reads_simp
  rfl

theorem entry2 (h : Fin 4) (n p : Fin 64) (e : Fin 128) :
    rQ (at_ m c 0) (ix4 n h p e) = rowsOf (m ((c.tc : Thread nD τ).loc main_arg2)) h n.val p e := by
  refine Eq.trans (congrFun (?_ : rQ (at_ m c 0) = transpose S64x4x64x128 [1, 0, 2, 3] (shapeCast S4x64x64x128
    (m ((c.tc : Thread nD τ).loc main_arg2) : FVec Ideal S4x4096x128 .f32) shapeCasts_S4x4096x128_S4x64x64x128)
    transposes_S4x64x64x128_S64x4x64x128_1_0_2_3) _) (unrows_formula _ n h p e)
  show entryContents preI m c (Proc.devRef .tc main_v14_2) = _
  simp only [entryContents, afterL_cons, afterL_nil]
  after_reads_simp
  rfl

theorem entry3 (h : Fin 4) (n p : Fin 64) (e : Fin 128) :
    rK (at_ m c 0) (ix4 n h p e) = rowsOf (m ((c.tc : Thread nD τ).loc main_arg3)) h n.val p e := by
  refine Eq.trans (congrFun (?_ : rK (at_ m c 0) = transpose S64x4x64x128 [1, 0, 2, 3] (shapeCast S4x64x64x128
    (m ((c.tc : Thread nD τ).loc main_arg3) : FVec Ideal S4x4096x128 .f32) shapeCasts_S4x4096x128_S4x64x64x128)
    transposes_S4x64x64x128_S64x4x64x128_1_0_2_3) _) (unrows_formula _ n h p e)
  show entryContents preI m c (Proc.devRef .tc main_v14_3) = _
  simp only [entryContents, afterL_cons, afterL_nil]
  after_reads_simp
  rfl

theorem entry4 (h : Fin 4) (n p r : Fin 64) :
    rA (at_ m c 0) (ix4 n h p r) = rowsOf (m ((c.tc : Thread nD τ).loc main_arg4)) h n.val p r := by
  refine Eq.trans (congrFun (?_ : rA (at_ m c 0) = transpose S64x4x64x64 [1, 0, 2, 3] (shapeCast S4x64x64x64
    (m ((c.tc : Thread nD τ).loc main_arg4) : FVec Ideal S4x4096x64 .f32) shapeCasts_S4x4096x64_S4x64x64x64)
    transposes_S4x64x64x64_S64x4x64x64_1_0_2_3) _) (unatt_formula _ n h p r)
  show entryContents preI m c (Proc.devRef .tc main_v14_4) = _
  simp only [entryContents, afterL_cons, afterL_nil]
  after_reads_simp
  rfl

theorem entry5 (h : Fin 4) (n : Fin 64) (e : Fin 128) :
    rG (at_ m c 0) (ix4 n h 0 e) = lanesOf (m ((c.tc : Thread nD τ).loc main_arg5)) h n.val e := by
  refine Eq.trans (congrFun (?_ : rG (at_ m c 0) = transpose S64x4x1x128 [1, 0, 2, 3]
    (m ((c.tc : Thread nD τ).loc main_arg5) : FVec Ideal S4x64x1x128 .f32) transposes_S4x64x1x128_S64x4x1x128_1_0_2_3) _)
    (unlanes_formula _ n h e)
  show entryContents preI m c (Proc.devRef .tc main_v14_5) = _
  simp only [entryContents, afterL_cons, afterL_nil]
  after_reads_simp
  rfl

theorem chunk_entry (h : Fin 4) (n : Fin 64) : chunkR (at_ m c 0) h n = X m c h n.val := by
  unfold chunkR X Chunk.of
  congr 1
  · funext p e; exact entry0 m c h n p e
  · funext p e; exact entry1 m c h n p e
  · funext p e; exact entry2 m c h n p e
  · funext p e; exact entry3 m c h n p e
  · funext p e; exact entry4 m c h n p e
  · funext e; exact entry5 m c h n e

theorem counter_entry : rN (at_ m c 0) = fun _ => BitVec.ofNat 32 0 := by
  show entryContents preI m c (Proc.devRef .tc main_v14_6) = _
  simp only [entryContents, afterL_cons, afterL_nil]
  after_reads_simp
  rfl

theorem state_entry (h : Fin 4) : matR (rS (at_ m c 0)) h = states (X m c h) 0 := by
  have e : rS (at_ m c 0) = broadcastInDim S4x128x128 ![] bcast_S_S4x128x128 (constant S_ .f32 0x00000000#32) := by
    show entryContents preI m c (Proc.devRef .tc main_v14_7) = _
    simp only [entryContents, afterL_cons, afterL_nil]
    after_reads_simp
    rfl
  rw [e]
  funext d e
  show broadcastInDim S4x128x128 ![] bcast_S_S4x128x128 (constant (F := Ideal) S_ .f32 0x00000000#32) (ix3 h d e) = (0 : EReal)
  pointwise

theorem chunk_trip (V : Vals) (h : Fin 4) (n : Fin 64) : chunkR (STEP V) h n = chunkR V h n := by
  unfold chunkR rU rW rQ rK rA rG
  rw [STEP_main_v14_0, STEP_main_v14_1, STEP_main_v14_2, STEP_main_v14_3, STEP_main_v14_4, STEP_main_v14_5]

/-- THE INVARIANT of the loop. -/
structure Inv (k : ℕ) (V : Vals) : Prop where
  counter : rN V = fun _ => BitVec.ofNat 32 k
  chunks : ∀ h (n : Fin 64), chunkR V h n = X m c h n.val
  state : ∀ h, matR (rS V) h = states (X m c h) k
  outs : ∀ (i : Fin 64), i.val < k → ∀ h d e, rO V (ix4 i h d e) = outp (X m c h i.val) (states (X m c h) i.val) d e
  kept : ∀ (i : Fin 64), i.val < k → ∀ h d e, rSs V (ix4 i h d e) = states (X m c h) i.val d e

theorem inv_step (k : ℕ) (hk : k < 64) (V : Vals) (H : Inv m c k V) : Inv m c (k + 1) (STEP V) where
  counter := by
    unfold rN
    rw [STEP_main_v14_6]
    funext i
    show rN V i + 1#32 = _
    rw [H.counter, BitVec.ofNat_add]
  chunks h n := (chunk_trip V h n).trans (H.chunks h n)
  state h := by
    unfold rS
    rw [STEP_main_v14_7]
    refine (next_trip V k hk H.counter h).trans ?_
    rw [H.chunks, H.state]
    rfl
  outs i hi h d e := by
    unfold rO
    rw [STEP_main_v14_8]
    refine (o_trip V k hk H.counter i h d e).trans ?_
    by_cases he : i.val = k
    · rw [if_pos he, H.chunks, H.state, he]
    · rw [if_neg he]; exact H.outs i (by omega) h d e
  kept i hi h d e := by
    unfold rSs
    rw [STEP_main_v14_9]
    refine (s_trip V k hk H.counter i h d e).trans ?_
    by_cases he : i.val = k
    · rw [if_pos he, H.state, he]
    · rw [if_neg he]; exact H.kept i (by omega) h d e

theorem inv (k : ℕ) (hk : k ≤ 64) : Inv m c k (at_ m c k) := by
  induction k with
  | zero => exact ⟨counter_entry m c, chunk_entry m c, state_entry m c, fun i hi => absurd hi (Nat.not_lt_zero _), fun i hi => absurd hi (Nat.not_lt_zero _)⟩
  | succ k ih =>
    unfold at_
    rw [Function.iterate_succ_apply']
    exact inv_step m c k (by omega) _ (ih (by omega))

/-! ## The results -/

theorem unchunk_formula (y : FVec Ideal S64x4x64x128 .f32) (h : Fin 4) (i : Fin 4096) (e : Fin 128) :
    shapeCast S4x4096x128 (transpose S4x64x64x128 [1, 0, 2, 3] y transposes_S64x4x64x128_S4x64x64x128_1_0_2_3) shapeCasts_S4x64x64x128_S4x4096x128 (ix3 h i e)
      = y (ix4 ⟨i.val / 64, by omega⟩ h ⟨i.val % 64, Nat.mod_lt _ (by decide)⟩ e) := by
  pointwise

theorem swap_formula (y : FVec Ideal S64x4x128x128 .f32) (h : Fin 4) (n : Fin 64) (d e : Fin 128) :
    transpose S4x64x128x128 [1, 0, 2, 3] y transposes_S64x4x128x128_S4x64x128x128_1_0_2_3 (ix4 h n d e) = y (ix4 n h d e) := by
  pointwise

/-- THE OUTPUTS. -/
theorem out16_apply (h : Fin 4) (i : Fin 4096) (e : Fin 128) :
    (out_main_v16 (at_ m c 64) : Rows 128) (ix3 h i e)
      = outp (X m c h (i.val / 64)) (states (X m c h) (i.val / 64)) ⟨i.val % 64, Nat.mod_lt _ (by decide)⟩ e := by
  unfold out_main_v16
  refine (unchunk_formula _ h i e).trans ?_
  exact (inv m c 64 le_rfl).outs ⟨i.val / 64, by omega⟩ (by show i.val / 64 < 64; omega) h _ e

/-- THE STATES. -/
theorem out17_apply (h : Fin 4) (n : Fin 64) (d e : Fin 128) :
    (out_main_v17 (at_ m c 64) : Squares) (ix4 h n d e) = states (X m c h) n.val d e := by
  unfold out_main_v17
  refine (swap_formula _ h n d e).trans ?_
  exact (inv m c 64 le_rfl).kept n n.isLt h d e

end Cert.FwdRef

end
-- ==== Proof.FwdClaim.lean ====
/- The forward scan's value claim: kernel and reference compute the same outputs and states. -/
module

public import proofs.«01_k».proof.Defs
public import proofs.«01_k».proof.Proof.FwdKernel
public import proofs.«01_k».proof.Proof.FwdRef

@[expose] public section

set_option maxRecDepth 16384

noncomputable section

namespace Cert.FwdClaim

open Idealize.ShloMosaic Idealize.ShloMosaic.TcCoe Idealize.ShloMosaic.StableHlo Idealize.SL.Sem Delta

/-- Two arrays of rows that agree at every head, position and lane are equal. -/
theorem rows_ext {r : ℕ} (x y : Rows r) (h : ∀ (a : Fin 4) (i : Fin 4096) (e : Fin r), x (ix3 a i e) = y (ix3 a i e)) : x = y := by
  funext i
  have e : i = ix3 (i 0) (i 1) (i 2) := by
    funext a
    match a with
    | ⟨0, _⟩ => rfl
    | ⟨1, _⟩ => rfl
    | ⟨2, _⟩ => rfl
  rw [e]; exact h _ _ _

/-- Two arrays of states that agree everywhere are equal. -/
theorem squares_ext (x y : Squares) (h : ∀ (a : Fin 4) (n : Fin 64) (d e : Fin 128), x (ix4 a n d e) = y (ix4 a n d e)) : x = y := by
  funext i
  have e : i = ix4 (i 0) (i 1) (i 2) (i 3) := by
    funext a
    match a with
    | ⟨0, _⟩ => rfl
    | ⟨1, _⟩ => rfl
    | ⟨2, _⟩ => rfl
    | ⟨3, _⟩ => rfl
  rw [e]; exact h _ _ _ _

theorem algebraic [Cert.Kernel2Ideal.Facts] [Cert.Reference2Ideal.Facts] : Cert.algebraic_Kernel2Ideal_Reference2Ideal := by
  intro m g m' g' _ hargs
  have hX : ∀ (c : Dev Cert.Kernel2Ideal.nD) h, Cert.FwdRef.X m' c h = Cert.Fwd.X m c h := by
    intro c h
    obtain ⟨h0, h1, h2, h3, h4, h5⟩ := hargs c
    funext n
    unfold Cert.FwdRef.X Cert.Fwd.X
    rw [h0, h1, h2, h3, h4, h5]
  refine ⟨fun c => Cert.Kernel2Ideal.Value.G6 m c, fun c => Cert.Kernel2Ideal.Value.G7 m c, ?_, ?_⟩
  · exact Cert.Kernel2Ideal.Value.run (F := Ideal) m g
  · refine (θ_run Cert.Reference2Ideal.defs _ _).mono (fun r h c => ?_) (Cert.Reference2Ideal.Value.run (F := Ideal) m' g')
    obtain ⟨ho, hs, hk⟩ := h c
    refine ⟨ho.trans ?_, hs.trans ?_, hk⟩
    · refine rows_ext _ _ fun a i e => ?_
      refine (Cert.FwdRef.out16_apply m' c a i e).trans ?_
      rw [hX]
      exact (Cert.Fwd.G6_apply m c a i e).symm
    · refine squares_ext _ _ fun a n d e => ?_
      refine (Cert.FwdRef.out17_apply m' c a n d e).trans ?_
      rw [hX]
      exact (Cert.Fwd.G7_apply m c a n d e).symm

/-- The reference declares no semaphore. -/
theorem no_cell (g : GSem Cert.Reference2Ideal.nD Cert.Reference2Ideal.τ Cert.Reference2Ideal.sig) : False := by
  obtain ⟨_, s | s⟩ := g
  · exact s.elim0
  · exact s.elim0

theorem frame_reference [Cert.Reference2Ideal.Facts] : Cert.quiescent_Reference2Ideal := fun m ρ _ => by
  refine (θ_run Cert.Reference2Ideal.defs _ _).mono (fun r h => ?_) (Cert.Reference2Ideal.Value.run (F := Ideal) m ρ)
  exact ⟨fun c => (h c).2.2, funext fun g => (no_cell g).elim⟩

end Cert.FwdClaim

end
-- ==== Proof.BwdPieces.lean ====
/- The backward scan's kernel at one grid point (four chunks of four heads, the last chunk first): its stores, read as the chunk's
   formulas. The lists of stores that a run of the body leaves are 16 blocks of each of the six outputs (head by head, chunk by
   chunk) and 4 of the carried gradient; they are named here uniformly in head and chunk. -/
module

public import proofs.«01_k».proof.Proof.Gen.KernelIdeal.Value
public import Idealize.ShloMosaic.Lib.Pipeline.ReadBack
public import Idealize.ShloMosaic.Lib.Pointwise

@[expose] public section

set_option maxRecDepth 16384

noncomputable section

namespace Cert.Bwd

open Cert.KernelIdeal Cert.KernelIdeal.Gen Idealize.ShloMosaic Idealize.ShloMosaic.TcCoe Idealize.SL.Sem

variable {F : FTy → Type} [FloatOps F]

/-! ## One chunk of one head, read of the point's blocks -/

theorem inbRows (h j : Fin 4) : ∀ a, (![h.val, 64 * j.val, 0] : Fin 3 → ℕ) a + S1x64x128.size a ≤ S4x256x128.size a := by
  intro a; fin_cases a <;> simp <;> omega
theorem inbAtt (h j : Fin 4) : ∀ a, (![h.val, 64 * j.val, 0] : Fin 3 → ℕ) a + S1x64x64.size a ≤ S4x256x64.size a := by
  intro a; fin_cases a <;> simp <;> omega
theorem inbLanes (h j : Fin 4) : ∀ a, (![h.val, j.val, 0, 0] : Fin 4 → ℕ) a + S1x1x1x128.size a ≤ S4x4x1x128.size a := by
  intro a; fin_cases a <;> simp <;> omega
theorem inbSquare (h j : Fin 4) : ∀ a, (![h.val, j.val, 0, 0] : Fin 4 → ℕ) a + S1x1x128x128.size a ≤ S4x4x128x128.size a := by
  intro a; fin_cases a <;> simp <;> omega
theorem inbState (h : Fin 4) : ∀ a, (![h.val, 0, 0] : Fin 3 → ℕ) a + S1x128x128.size a ≤ S4x128x128.size a := by
  intro a; fin_cases a <;> simp <;> omega

abbrev rRows (h j : Fin 4) : Rect S4x256x128 := Rect.unit ![h.val, 64 * j.val, 0] S1x64x128.size (inbRows h j)
abbrev rAtt (h j : Fin 4) : Rect S4x256x64 := Rect.unit ![h.val, 64 * j.val, 0] S1x64x64.size (inbAtt h j)
abbrev rLanes (h j : Fin 4) : Rect S4x4x1x128 := Rect.unit ![h.val, j.val, 0, 0] S1x1x1x128.size (inbLanes h j)
abbrev rSquare (h j : Fin 4) : Rect S4x4x128x128 := Rect.unit ![h.val, j.val, 0, 0] S1x1x128x128.size (inbSquare h j)
abbrev rState (h : Fin 4) : Rect S4x128x128 := Rect.unit ![h.val, 0, 0] S1x128x128.size (inbState h)

/-- The point's eight input blocks: the forward scan's six arguments, the saved states and the cotangent of the outputs. -/
structure Blocks (F : FTy → Type) where
  u : Vec F S4x256x128 .f32
  w : Vec F S4x256x128 .f32
  q : Vec F S4x256x128 .f32
  k : Vec F S4x256x128 .f32
  a : Vec F S4x256x64 .f32
  g : Vec F S4x4x1x128 .f32
  s : Vec F S4x4x128x128 .f32
  y : Vec F S4x256x128 .f32

section Chunk

variable (B : Blocks F) (h j : Fin 4) (D : FVec F S128x128 .f32)

/-- The saved state before the chunk. -/
def sV : FVec F S128x128 .f32 := k0_pay9 (View.ld B.s (rSquare h j))

/-- The cotangent of the chunk's outputs. -/
def yV : FVec F S64x128 .f32 := k0_pay13 (View.ld B.y (rRows h j))

/-- The chunk's corrected values. -/
def vnV : FVec F S64x128 .f32 := k0_pay24 (sV B h j) (View.ld B.w (rRows h j)) (View.ld B.u (rRows h j))

/-- The gradient of the corrected values, from the gradient `D` of the state after the chunk. -/
def dvV : FVec F S64x128 .f32 := k0_pay35 D (k0_pay29 (yV B h j) (View.ld B.a (rAtt h j))) (k0_pay33 (View.ld B.k (rRows h j)))

/-- The blocks the chunk stores: the gradients of `u`, `w`, `q`, `k`, `a` and `g`. -/
def duV : FVec F S1x64x128 .f32 := k0_pay69 (dvV B h j D)
def dwV : FVec F S1x64x128 .f32 :=
  k0_pay70 (k0_pay39 D (sV B h j) (k0_pay29 (yV B h j) (View.ld B.a (rAtt h j))) (k0_pay33 (View.ld B.k (rRows h j))))
def dqV : FVec F S1x64x128 .f32 := k0_pay71 (k0_pay43 (sV B h j) (yV B h j))
def dkV : FVec F S1x64x128 .f32 := k0_pay72 (k0_pay49 D (vnV B h j))
def daV : FVec F S1x64x64 .f32 :=
  k0_pay74 (k0_pay73 (iota .tc S64x64 32 [0] iota_S64x64_d0_w32) (iota .tc S64x64 32 [1] iota_S64x64_d1_w32) (k0_pay53 (yV B h j) (vnV B h j)))
def dgV : FVec F S1x1x1x128 .f32 := k0_pay75 D (sV B h j)

/-- The gradient of the state before the chunk. -/
def backV : FVec F S128x128 .f32 :=
  k0_pay95 D (k0_pay59 (yV B h j) (View.ld B.q (rRows h j))) (k0_pay65 (k0_pay17 (View.ld B.w (rRows h j))) (dvV B h j D)) (View.ld B.g (rLanes h j))

end Chunk

/-- The gradient of the state of head `h` after the point's last `i` chunks were walked back, from `D0`. -/
def stV (B : Blocks F) (h : Fin 4) (D0 : FVec F S128x128 .f32) : ℕ → FVec F S128x128 .f32
  | 0 => D0
  | i + 1 => backV B h (Fin.ofNat 4 (3 - i)) (stV B h D0 i)

/-! ## The stores -/

/-- The order of the stores, the last first. -/
abbrev order : List (Fin 4 × Fin 4) :=
  [(3, 0), (2, 0), (1, 0), (0, 0), (3, 1), (2, 1), (1, 1), (0, 1), (3, 2), (2, 2), (1, 2), (0, 2), (3, 3), (2, 3), (1, 3), (0, 3)]

/-- Stores of one block of rows for each chunk of each head. -/
abbrev piecesRows (P : Fin 4 → Fin 4 → FVec F S1x64x128 .f32) : List (View.Piece (Elt F) S4x256x128 .f32) :=
  order.map fun p => ⟨rRows p.1 p.2, P p.1 p.2⟩
abbrev piecesAtt (P : Fin 4 → Fin 4 → FVec F S1x64x64 .f32) : List (View.Piece (Elt F) S4x256x64 .f32) :=
  order.map fun p => ⟨rAtt p.1 p.2, P p.1 p.2⟩
abbrev piecesLanes (P : Fin 4 → Fin 4 → FVec F S1x1x1x128 .f32) : List (View.Piece (Elt F) S4x4x1x128 .f32) :=
  order.map fun p => ⟨rLanes p.1 p.2, P p.1 p.2⟩

/-- The stores into the carried gradient: after the point's four chunks. -/
abbrev piecesS (B : Blocks F) (D0 : Fin 4 → FVec F S128x128 .f32) : List (View.Piece (Elt F) S4x128x128 .f32) :=
  ([3, 2, 1, 0] : List (Fin 4)).map fun h => ⟨rState h, k0_pay1 (stV B h (D0 h) 4)⟩

/-- The gradient of the state after chunk `j` of the point. -/
abbrev before (B : Blocks F) (D0 : Fin 4 → FVec F S128x128 .f32) (h j : Fin 4) : FVec F S128x128 .f32 := stV B h (D0 h) (3 - j.val)

section Cases

variable (c : Dev nD) (i : grid0.Coords)
  (arg1 : Memref sig .tc .vmem S4x256x128 .f32) (harg1 : arg1.IsWhole)
  (arg2 : Memref sig .tc .vmem S4x256x128 .f32) (harg2 : arg2.IsWhole)
  (arg3 : Memref sig .tc .vmem S4x256x128 .f32) (harg3 : arg3.IsWhole)
  (arg4 : Memref sig .tc .vmem S4x256x128 .f32) (harg4 : arg4.IsWhole)
  (arg5 : Memref sig .tc .vmem S4x256x64 .f32) (harg5 : arg5.IsWhole)
  (arg6 : Memref sig .tc .vmem S4x4x1x128 .f32) (harg6 : arg6.IsWhole)
  (arg7 : Memref sig .tc .vmem S4x4x128x128 .f32) (harg7 : arg7.IsWhole)
  (arg8 : Memref sig .tc .vmem S4x256x128 .f32) (harg8 : arg8.IsWhole)
  (arg9 : Memref sig .tc .vmem S4x256x128 .f32) (harg9 : arg9.IsWhole)
  (arg10 : Memref sig .tc .vmem S4x256x128 .f32) (harg10 : arg10.IsWhole)
  (arg11 : Memref sig .tc .vmem S4x256x128 .f32) (harg11 : arg11.IsWhole)
  (arg12 : Memref sig .tc .vmem S4x256x128 .f32) (harg12 : arg12.IsWhole)
  (arg13 : Memref sig .tc .vmem S4x256x64 .f32) (harg13 : arg13.IsWhole)
  (arg14 : Memref sig .tc .vmem S4x4x1x128 .f32) (harg14 : arg14.IsWhole)
  (arg15 : Memref sig .tc .vmem S4x128x128 .f32) (harg15 : arg15.IsWhole)
  (x0 : Vec F S4x256x128 .f32)
  (x1 : Vec F S4x256x128 .f32)
  (x2 : Vec F S4x256x128 .f32)
  (x3 : Vec F S4x256x128 .f32)
  (x4 : Vec F S4x256x64 .f32)
  (x5 : Vec F S4x4x1x128 .f32)
  (x6 : Vec F S4x4x128x128 .f32)
  (x7 : Vec F S4x256x128 .f32)
  (xs0 : Vec F S4x128x128 .f32)

/-- The blocks as the body's loads find them in the staging buffers. -/
abbrev staged : Blocks F :=
  ⟨arg1.view.read (Elt F) (harg1.unread x0),
    arg2.view.read (Elt F) (harg2.unread x1),
    arg3.view.read (Elt F) (harg3.unread x2),
    arg4.view.read (Elt F) (harg4.unread x3),
    arg5.view.read (Elt F) (harg5.unread x4),
    arg6.view.read (Elt F) (harg6.unread x5),
    arg7.view.read (Elt F) (harg7.unread x6),
    arg8.view.read (Elt F) (harg8.unread x7)⟩

theorem staged_eq : staged arg1 harg1 arg2 harg2 arg3 harg3 arg4 harg4 arg5 harg5 arg6 harg6 arg7 harg7 arg8 harg8 x0 x1 x2 x3 x4 x5 x6 x7
    = ⟨x0, x1, x2, x3, x4, x5, x6, x7⟩ := by
  unfold staged
  rw [harg1.read_unread, harg2.read_unread, harg3.read_unread, harg4.read_unread, harg5.read_unread, harg6.read_unread, harg7.read_unread, harg8.read_unread]

/-- The carried gradient of head `h` as the body's first load finds it. -/
abbrev carried (h : Fin 4) : FVec F S128x128 .f32 := k0_pay5 (View.ld xs0 (rState h))

/-- The gradient that the first point's fill leaves for head `h`. -/
abbrev filled (h : Fin 4) : FVec F S128x128 .f32 :=
  k0_pay5 (arg15.view.readCov [⟨Rect.unit ![0, 0, 0] S4x128x128.size inb_S4x128x128_S4x128x128_0_0_0, (k0_pay4 : FVec F S4x128x128 .f32)⟩] (rState h).toLoadRect)

theorem run_A_8 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1
    = piecesRows fun h j => duV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (filled arg15) h j) := by
  sl_kernel_rfl

theorem run_A_9 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1
    = piecesRows fun h j => dwV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (filled arg15) h j) := by
  sl_kernel_rfl

theorem run_A_10 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1
    = piecesRows fun h j => dqV (staged arg1 harg1 arg2 harg2 arg3 harg3 arg4 harg4 arg5 harg5 arg6 harg6 arg7 harg7 arg8 harg8 x0 x1 x2 x3 x4 x5 x6 x7) h j := by
  sl_kernel_rfl

theorem run_A_11 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1
    = piecesRows fun h j => dkV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (filled arg15) h j) := by
  sl_kernel_rfl

theorem run_A_12 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1
    = piecesAtt fun h j => daV (staged arg1 harg1 arg2 harg2 arg3 harg3 arg4 harg4 arg5 harg5 arg6 harg6 arg7 harg7 arg8 harg8 x0 x1 x2 x3 x4 x5 x6 x7) h j := by
  sl_kernel_rfl

theorem run_A_13 (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1
    = piecesLanes fun h j => dgV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (filled arg15) h j) := by
  sl_kernel_rfl

theorem run_A_S (hc0) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1
    = piecesS (staged arg1 harg1 arg2 harg2 arg3 harg3 arg4 harg4 arg5 harg5 arg6 harg6 arg7 harg7 arg8 harg8 x0 x1 x2 x3 x4 x5 x6 x7) (filled arg15)
      ++ [⟨Rect.unit ![0, 0, 0] S4x128x128.size inb_S4x128x128_S4x128x128_0_0_0, (k0_pay4 : FVec F S4x128x128 .f32)⟩] := by
  sl_kernel_rfl

theorem run_B_8 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1
    = piecesRows fun h j => duV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (carried (arg15.view.read (Elt F) (harg15.unread xs0))) h j) := by
  sl_kernel_rfl

theorem run_B_9 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1
    = piecesRows fun h j => dwV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (carried (arg15.view.read (Elt F) (harg15.unread xs0))) h j) := by
  sl_kernel_rfl

theorem run_B_10 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1
    = piecesRows fun h j => dqV (staged arg1 harg1 arg2 harg2 arg3 harg3 arg4 harg4 arg5 harg5 arg6 harg6 arg7 harg7 arg8 harg8 x0 x1 x2 x3 x4 x5 x6 x7) h j := by
  sl_kernel_rfl

theorem run_B_11 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1
    = piecesRows fun h j => dkV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (carried (arg15.view.read (Elt F) (harg15.unread xs0))) h j) := by
  sl_kernel_rfl

theorem run_B_12 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1
    = piecesAtt fun h j => daV (staged arg1 harg1 arg2 harg2 arg3 harg3 arg4 harg4 arg5 harg5 arg6 harg6 arg7 harg7 arg8 harg8 x0 x1 x2 x3 x4 x5 x6 x7) h j := by
  sl_kernel_rfl

theorem run_B_13 (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1
    = piecesLanes fun h j => dgV (staged arg1 harg1 arg2 harg2 arg3 harg3 arg4 harg4 arg5 harg5 arg6 harg6 arg7 harg7 arg8 harg8 x0 x1 x2 x3 x4 x5 x6 x7) h j (before (staged arg1 harg1 arg2 harg2 arg3 harg3 arg4 harg4 arg5 harg5 arg6 harg6 arg7 harg7 arg8 harg8 x0 x1 x2 x3 x4 x5 x6 x7) (carried (arg15.view.read (Elt F) (harg15.unread xs0))) h j) := by
  sl_kernel_rfl

theorem run_B_S (hc0) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1
    = piecesS (staged arg1 harg1 arg2 harg2 arg3 harg3 arg4 harg4 arg5 harg5 arg6 harg6 arg7 harg7 arg8 harg8 x0 x1 x2 x3 x4 x5 x6 x7) (carried (arg15.view.read (Elt F) (harg15.unread xs0))) := by
  sl_kernel_rfl

/-! ## The named outputs, read at an index -/

theorem filled_eq (h : Fin 4) : filled arg15 h = k0_pay5 (View.ld (k0_pay4 : FVec F S4x128x128 .f32) (rState h)) := by
  unfold filled
  rw [View.readCov_fill _ _ _ _ _ (by intro a; fin_cases a <;> rfl)]

theorem filled_carried : filled arg15 = carried (k0_pay4 : FVec F S4x128x128 .f32) := funext fun h => filled_eq arg15 h

/-- The place of position `r` of a block's 256, in its chunk. -/
abbrev inChunk (r : Fin 256) : Fin 64 := ⟨r.val % 64, Nat.mod_lt _ (by decide)⟩
/-- The chunk of position `r` of a block's 256. -/
abbrev chunkIn (r : Fin 256) : Fin 4 := ⟨r.val / 64, by omega⟩

/-- What stores of blocks of rows leave. -/
theorem readRows {sig' : RefSig} {κ : Kind} {sp : Space} (v : View sig' κ sp S4x256x128 .f32) (f : v.ty.Contents (Elt F))
    (P : Fin 4 → Fin 4 → FVec F S1x64x128 .f32) (hcov : ∀ y, ∃ p ∈ piecesRows P, y ∈ p.1.set) (h : Fin 4) (r : Fin 256) (e : Fin 128) :
    v.read (Elt F) (v.writes (Elt F) f (piecesRows P)) (ix3 h r e) = P h (chunkIn r) (ix3 0 (inChunk r) e) := by
  refine View.read_writes_apply_of_pieces v f (fun y : S4x256x128.Idx => P (y 0) (chunkIn (y 1)) (ix3 0 (inChunk (y 1)) (y 2))) _ ?_ _ (hcov _)
  intro p hp
  obtain ⟨⟨h, j⟩, -, rfl⟩ := List.mem_map.mp hp
  intro (x : S1x64x128.Idx)
  have x0 : (x 0).val < 1 := (x 0).isLt
  have x1 : (x 1).val < 64 := (x 1).isLt
  have e0 : ((rRows h j).emb x) 0 = h := Fin.ext (show h.val + 1 * (x 0).val = h.val by omega)
  have e1 : (((rRows h j).emb x) 1).val = 64 * j.val + 1 * (x 1).val := rfl
  have e2 : ((rRows h j).emb x) 2 = x 2 := Fin.ext (show 0 + 1 * (x 2).val = (x 2).val by omega)
  have e3 : chunkIn (((rRows h j).emb x) 1) = j := Fin.ext (by show _ / 64 = _; rw [e1]; omega)
  have e4 : inChunk (((rRows h j).emb x) 1) = x 1 := Fin.ext (by show _ % 64 = _; rw [e1]; omega)
  have e6 : x 0 = (0 : Fin 1) := Fin.ext (show (x 0).val = 0 by omega)
  show P h j x = _
  dsimp only
  rw [e0, e2, e3, e4, ← e6]
  exact congrArg _ (eq_ix3 x)

/-- What stores of blocks of the attention leave. -/
theorem readAtt {sig' : RefSig} {κ : Kind} {sp : Space} (v : View sig' κ sp S4x256x64 .f32) (f : v.ty.Contents (Elt F))
    (P : Fin 4 → Fin 4 → FVec F S1x64x64 .f32) (hcov : ∀ y, ∃ p ∈ piecesAtt P, y ∈ p.1.set) (h : Fin 4) (r : Fin 256) (e : Fin 64) :
    v.read (Elt F) (v.writes (Elt F) f (piecesAtt P)) (ix3 h r e) = P h (chunkIn r) (ix3 0 (inChunk r) e) := by
  refine View.read_writes_apply_of_pieces v f (fun y : S4x256x64.Idx => P (y 0) (chunkIn (y 1)) (ix3 0 (inChunk (y 1)) (y 2))) _ ?_ _ (hcov _)
  intro p hp
  obtain ⟨⟨h, j⟩, -, rfl⟩ := List.mem_map.mp hp
  intro (x : S1x64x64.Idx)
  have x0 : (x 0).val < 1 := (x 0).isLt
  have x1 : (x 1).val < 64 := (x 1).isLt
  have e0 : ((rAtt h j).emb x) 0 = h := Fin.ext (show h.val + 1 * (x 0).val = h.val by omega)
  have e1 : (((rAtt h j).emb x) 1).val = 64 * j.val + 1 * (x 1).val := rfl
  have e2 : ((rAtt h j).emb x) 2 = x 2 := Fin.ext (show 0 + 1 * (x 2).val = (x 2).val by omega)
  have e3 : chunkIn (((rAtt h j).emb x) 1) = j := Fin.ext (by show _ / 64 = _; rw [e1]; omega)
  have e4 : inChunk (((rAtt h j).emb x) 1) = x 1 := Fin.ext (by show _ % 64 = _; rw [e1]; omega)
  have e6 : x 0 = (0 : Fin 1) := Fin.ext (show (x 0).val = 0 by omega)
  show P h j x = _
  dsimp only
  rw [e0, e2, e3, e4, ← e6]
  exact congrArg _ (eq_ix3 x)

/-- What stores of blocks of lanes leave. -/
theorem readLanes {sig' : RefSig} {κ : Kind} {sp : Space} (v : View sig' κ sp S4x4x1x128 .f32) (f : v.ty.Contents (Elt F))
    (P : Fin 4 → Fin 4 → FVec F S1x1x1x128 .f32) (hcov : ∀ y, ∃ p ∈ piecesLanes P, y ∈ p.1.set) (h j : Fin 4) (e : Fin 128) :
    v.read (Elt F) (v.writes (Elt F) f (piecesLanes P)) (ix4 h j 0 e) = P h j (ix4 0 0 0 e) := by
  refine View.read_writes_apply_of_pieces v f (fun y : S4x4x1x128.Idx => P (y 0) (y 1) (ix4 0 0 0 (y 3))) _ ?_ _ (hcov _)
  intro p hp
  obtain ⟨⟨h, j⟩, -, rfl⟩ := List.mem_map.mp hp
  intro (x : S1x1x1x128.Idx)
  have x0 : (x 0).val < 1 := (x 0).isLt
  have x1 : (x 1).val < 1 := (x 1).isLt
  have x2 : (x 2).val < 1 := (x 2).isLt
  have e0 : ((rLanes h j).emb x) 0 = h := Fin.ext (show h.val + 1 * (x 0).val = h.val by omega)
  have e1 : ((rLanes h j).emb x) 1 = j := Fin.ext (show j.val + 1 * (x 1).val = j.val by omega)
  have e3 : ((rLanes h j).emb x) 3 = x 3 := Fin.ext (show 0 + 1 * (x 3).val = (x 3).val by omega)
  have e6 : x 0 = (0 : Fin 1) := Fin.ext (show (x 0).val = 0 by omega)
  have e7 : x 1 = (0 : Fin 1) := Fin.ext (show (x 1).val = 0 by omega)
  have e8 : x 2 = (0 : Fin 1) := Fin.ext (show (x 2).val = 0 by omega)
  show P h j x = _
  dsimp only
  rw [e0, e1, e3]
  have hx := eq_ix4 x
  rw [e6, e7, e8] at hx
  exact congrArg _ hx

/-- The four heads' gradients cover the carried buffer. -/
theorem coverS (B : Blocks F) (D0 : Fin 4 → FVec F S128x128 .f32) (y : S4x128x128.Idx) : ∃ p ∈ piecesS B D0, y ∈ p.1.set :=
  View.cover_of_tiledL (piecesS B D0) S1x128x128.size (by sl_kernel_rfl) y

/-- What the stores of `piecesS` leave. -/
theorem readS {sig' : RefSig} {κ : Kind} {sp : Space} (v : View sig' κ sp S4x128x128 .f32) (f : v.ty.Contents (Elt F)) (B : Blocks F)
    (D0 : Fin 4 → FVec F S128x128 .f32) (h : Fin 4) (d e : Fin 128) :
    v.read (Elt F) (v.writes (Elt F) f (piecesS B D0)) (ix3 h d e) = k0_pay1 (stV B h (D0 h) 4) (ix3 0 d e) := by
  refine View.read_writes_apply_of_pieces v f (fun y : S4x128x128.Idx => k0_pay1 (stV B (y 0) (D0 (y 0)) 4)
      (ix3 0 (y 1) (y 2))) _ ?_ _ (coverS B D0 _)
  intro p hp
  obtain ⟨h, -, rfl⟩ := List.mem_map.mp hp
  intro (x : S1x128x128.Idx)
  have x0 : (x 0).val < 1 := (x 0).isLt
  have e0 : ((rState h).emb x) 0 = h := Fin.ext (show h.val + 1 * (x 0).val = h.val by omega)
  have e1 : ((rState h).emb x) 1 = x 1 := Fin.ext (show 0 + 1 * (x 1).val = (x 1).val by omega)
  have e2 : ((rState h).emb x) 2 = x 2 := Fin.ext (show 0 + 1 * (x 2).val = (x 2).val by omega)
  have e6 : x 0 = (0 : Fin 1) := Fin.ext (show (x 0).val = 0 by omega)
  dsimp only
  rw [e0, e1, e2, ← e6]
  exact congrArg _ (eq_ix3 x)

theorem out_A_8 (hc0) (h : Fin 4) (r : Fin 256) (e : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h r e)
      = duV ⟨x0, x1, x2, x3, x4, x5, x6, x7⟩ h (chunkIn r) (before ⟨x0, x1, x2, x3, x4, x5, x6, x7⟩ (carried k0_pay4) h (chunkIn r)) (ix3 0 (inChunk r) e) := by
  unfold out0_A_8
  have hcov := cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_8] at hcov ⊢
  rw [readRows _ _ _ hcov, staged_eq, filled_carried]

theorem out_A_9 (hc0) (h : Fin 4) (r : Fin 256) (e : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h r e)
      = dwV ⟨x0, x1, x2, x3, x4, x5, x6, x7⟩ h (chunkIn r) (before ⟨x0, x1, x2, x3, x4, x5, x6, x7⟩ (carried k0_pay4) h (chunkIn r)) (ix3 0 (inChunk r) e) := by
  unfold out0_A_9
  have hcov := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_9] at hcov ⊢
  rw [readRows _ _ _ hcov, staged_eq, filled_carried]

theorem out_A_10 (hc0) (h : Fin 4) (r : Fin 256) (e : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h r e)
      = dqV ⟨x0, x1, x2, x3, x4, x5, x6, x7⟩ h (chunkIn r) (ix3 0 (inChunk r) e) := by
  unfold out0_A_10
  have hcov := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_10] at hcov ⊢
  rw [readRows _ _ _ hcov, staged_eq]

theorem out_A_11 (hc0) (h : Fin 4) (r : Fin 256) (e : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h r e)
      = dkV ⟨x0, x1, x2, x3, x4, x5, x6, x7⟩ h (chunkIn r) (before ⟨x0, x1, x2, x3, x4, x5, x6, x7⟩ (carried k0_pay4) h (chunkIn r)) (ix3 0 (inChunk r) e) := by
  unfold out0_A_11
  have hcov := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_11] at hcov ⊢
  rw [readRows _ _ _ hcov, staged_eq, filled_carried]

theorem out_A_12 (hc0) (h : Fin 4) (r : Fin 256) (e : Fin 64) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h r e)
      = daV ⟨x0, x1, x2, x3, x4, x5, x6, x7⟩ h (chunkIn r) (ix3 0 (inChunk r) e) := by
  unfold out0_A_12
  have hcov := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_12] at hcov ⊢
  rw [readAtt _ _ _ hcov, staged_eq]

theorem out_A_13 (hc0) (h j : Fin 4) (e : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix4 h j 0 e)
      = dgV ⟨x0, x1, x2, x3, x4, x5, x6, x7⟩ h j (before ⟨x0, x1, x2, x3, x4, x5, x6, x7⟩ (carried k0_pay4) h j) (ix4 0 0 0 e) := by
  unfold out0_A_13
  have hcov := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
  rw [run_A_13] at hcov ⊢
  rw [readLanes _ _ _ hcov, staged_eq, filled_carried]

theorem sout_A (hc0) (h : Fin 4) (d e : Fin 128) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 h d e)
      = k0_pay1 (stV ⟨x0, x1, x2, x3, x4, x5, x6, x7⟩ h ((carried k0_pay4) h) 4) (ix3 0 d e) := by
  unfold sout0_A_0
  rw [run_A_S, View.writes_append, readS, staged_eq, filled_carried]

theorem out_B_8 (hc0) (h : Fin 4) (r : Fin 256) (e : Fin 128) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h r e)
      = duV ⟨x0, x1, x2, x3, x4, x5, x6, x7⟩ h (chunkIn r) (before ⟨x0, x1, x2, x3, x4, x5, x6, x7⟩ (carried xs0) h (chunkIn r)) (ix3 0 (inChunk r) e) := by
  unfold out0_B_8
  have hcov := cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_8] at hcov ⊢
  rw [readRows _ _ _ hcov, staged_eq, harg15.read_unread]

theorem out_B_9 (hc0) (h : Fin 4) (r : Fin 256) (e : Fin 128) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h r e)
      = dwV ⟨x0, x1, x2, x3, x4, x5, x6, x7⟩ h (chunkIn r) (before ⟨x0, x1, x2, x3, x4, x5, x6, x7⟩ (carried xs0) h (chunkIn r)) (ix3 0 (inChunk r) e) := by
  unfold out0_B_9
  have hcov := cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_9] at hcov ⊢
  rw [readRows _ _ _ hcov, staged_eq, harg15.read_unread]

theorem out_B_10 (hc0) (h : Fin 4) (r : Fin 256) (e : Fin 128) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h r e)
      = dqV ⟨x0, x1, x2, x3, x4, x5, x6, x7⟩ h (chunkIn r) (ix3 0 (inChunk r) e) := by
  unfold out0_B_10
  have hcov := cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_10] at hcov ⊢
  rw [readRows _ _ _ hcov, staged_eq]

theorem out_B_11 (hc0) (h : Fin 4) (r : Fin 256) (e : Fin 128) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h r e)
      = dkV ⟨x0, x1, x2, x3, x4, x5, x6, x7⟩ h (chunkIn r) (before ⟨x0, x1, x2, x3, x4, x5, x6, x7⟩ (carried xs0) h (chunkIn r)) (ix3 0 (inChunk r) e) := by
  unfold out0_B_11
  have hcov := cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_11] at hcov ⊢
  rw [readRows _ _ _ hcov, staged_eq, harg15.read_unread]

theorem out_B_12 (hc0) (h : Fin 4) (r : Fin 256) (e : Fin 64) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h r e)
      = daV ⟨x0, x1, x2, x3, x4, x5, x6, x7⟩ h (chunkIn r) (ix3 0 (inChunk r) e) := by
  unfold out0_B_12
  have hcov := cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_12] at hcov ⊢
  rw [readAtt _ _ _ hcov, staged_eq]

theorem out_B_13 (hc0) (h j : Fin 4) (e : Fin 128) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix4 h j 0 e)
      = dgV ⟨x0, x1, x2, x3, x4, x5, x6, x7⟩ h j (before ⟨x0, x1, x2, x3, x4, x5, x6, x7⟩ (carried xs0) h j) (ix4 0 0 0 e) := by
  unfold out0_B_13
  have hcov := cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
  rw [run_B_13] at hcov ⊢
  rw [readLanes _ _ _ hcov, staged_eq, harg15.read_unread]

theorem sout_B (hc0) (h : Fin 4) (d e : Fin 128) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 (ix3 h d e)
      = k0_pay1 (stV ⟨x0, x1, x2, x3, x4, x5, x6, x7⟩ h ((carried xs0) h) 4) (ix3 0 d e) := by
  unfold sout0_B_0
  rw [run_B_S, readS, staged_eq, harg15.read_unread]

end Cases

end Cert.Bwd

end
-- ==== Proof.BwdModel.lean ====
/- The backward pass of the gated delta rule over the extended reals, one chunk of one head at a time, from the saved states.
   `Back` holds what one chunk reads. Its gradients are written twice: as the kernel subtracts (`gradW`, `back`), and as the
   derivative of the chunk's formulas adds the negated gradient of the corrected values (`gradW'`, `back'`). The two agree where
   every number is finite: `walk_eq`. -/
module

public import proofs.«01_k».proof.Proof.Model

@[expose] public section

noncomputable section

namespace Delta

open Idealize.ShloMosaic

/-- What the backward pass of one chunk of one head reads: the chunk's forward arguments, the state before it and the cotangent of its
    outputs. -/
structure Back where
  u : Mat 64 128
  w : Mat 64 128
  q : Mat 64 128
  k : Mat 64 128
  a : Mat 64 64
  g : Fin 128 → EReal
  s : Mat 128 128
  y : Mat 64 128

/-- The corrected values `u − w S`. -/
def kept (x : Back) : Mat 64 128 := fun c e => x.u c e - ∑ d, x.w c d * x.s d e

/-- The gradient of the corrected values, which is that of `u`: `aᵀ y + k D`, where `D` is the gradient of the state after the chunk. -/
def gradU (x : Back) (D : Mat 128 128) : Mat 64 128 := fun c e => (∑ r, x.a r c * x.y r e) + ∑ d, x.k c d * D d e

/-- The gradient of `w`, as the kernel writes it and as the derivative does. -/
def gradW (x : Back) (D : Mat 128 128) : Mat 64 128 := fun c d => -∑ e, gradU x D c e * x.s d e
def gradW' (x : Back) (D : Mat 128 128) : Mat 64 128 := fun c d => ∑ e, -gradU x D c e * x.s d e

/-- The gradients of `q`, `k` and of the decay; that of the attention before its mask. -/
def gradQ (x : Back) : Mat 64 128 := fun c d => ∑ e, x.y c e * x.s d e
def gradK (x : Back) (D : Mat 128 128) : Mat 64 128 := fun c d => ∑ e, kept x c e * D d e
def gradA (x : Back) : Mat 64 64 := fun c r => ∑ e, x.y c e * kept x r e
def gradG (x : Back) (D : Mat 128 128) : Fin 128 → EReal := fun e => ∑ d, D d e * x.s d e

/-- The gradient of the attention: zero above the diagonal. -/
def gradAm (x : Back) : Mat 64 64 := fun c r => if r.val ≤ c.val then gradA x c r else 0

/-- The gradient of the state before the chunk, as the kernel writes it and as the derivative does. -/
def back (x : Back) (D : Mat 128 128) : Mat 128 128 :=
  fun d e => ((∑ c, x.q c d * x.y c e) + D d e * x.g e) - ∑ c, x.w c d * gradU x D c e
def back' (x : Back) (D : Mat 128 128) : Mat 128 128 :=
  fun d e => (D d e * x.g e + ∑ c, x.y c e * x.q c d) + ∑ c, -gradU x D c e * x.w c d

/-- The gradient of the state after the last `i` of 64 chunks were walked back, from zero. -/
def walk (X : ℕ → Back) : ℕ → Mat 128 128
  | 0 => fun _ _ => 0
  | i + 1 => back (X (63 - i)) (walk X i)
def walk' (X : ℕ → Back) : ℕ → Mat 128 128
  | 0 => fun _ _ => 0
  | i + 1 => back' (X (63 - i)) (walk' X i)

/-- What chunk `n` of head `h` reads of the eight arrays. -/
def Back.of (u w q k : Rows 128) (a : Rows 64) (g : Lanes) (s : Squares) (y : Rows 128) (h : Fin 4) (n : ℕ) : Back :=
  ⟨rowsOf u h n, rowsOf w h n, rowsOf q h n, rowsOf k h n, rowsOf a h n, lanesOf g h n, squareOf s h n, rowsOf y h n⟩

/-! ## Finite numbers -/

/-- A number that is neither infinity. -/
def Fin' (x : EReal) : Prop := x ≠ ⊥ ∧ x ≠ ⊤

theorem Fin'.coe (r : ℝ) : Fin' (r : EReal) := ⟨EReal.coe_ne_bot r, EReal.coe_ne_top r⟩

theorem Fin'.lift {x : EReal} (h : Fin' x) : ∃ r : ℝ, x = r := ⟨x.toReal, (EReal.coe_toReal h.2 h.1).symm⟩

theorem Fin'.add {x y : EReal} (hx : Fin' x) (hy : Fin' y) : Fin' (x + y) := by
  obtain ⟨a, rfl⟩ := hx.lift
  obtain ⟨b, rfl⟩ := hy.lift
  exact Fin'.coe (a + b)

theorem Fin'.mul {x y : EReal} (hx : Fin' x) (hy : Fin' y) : Fin' (x * y) := by
  obtain ⟨a, rfl⟩ := hx.lift
  obtain ⟨b, rfl⟩ := hy.lift
  exact Fin'.coe (a * b)

theorem Fin'.neg {x : EReal} (hx : Fin' x) : Fin' (-x) := by
  obtain ⟨a, rfl⟩ := hx.lift
  exact Fin'.coe (-a)

theorem Fin'.sub {x y : EReal} (hx : Fin' x) (hy : Fin' y) : Fin' (x - y) := by
  rw [sub_eq_add_neg]; exact hx.add hy.neg

theorem Fin'.sum {ι : Type*} (s : Finset ι) {f : ι → EReal} (h : ∀ i, Fin' (f i)) : Fin' (∑ i ∈ s, f i) := by
  classical
  induction s using Finset.induction_on with
  | empty => rw [Finset.sum_empty]; exact Fin'.coe 0
  | insert i s hi ih => rw [Finset.sum_insert hi]; exact (h i).add ih

/-- The sum of negated finite numbers. -/
theorem sum_neg {ι : Type*} (s : Finset ι) {f : ι → EReal} (h : ∀ i, Fin' (f i)) : ∑ i ∈ s, -f i = -∑ i ∈ s, f i := by
  classical
  induction s using Finset.induction_on with
  | empty => simp
  | insert i s hi ih =>
    rw [Finset.sum_insert hi, Finset.sum_insert hi, ih, EReal.neg_add (.inl (h i).1) (.inl (h i).2), sub_eq_add_neg]

/-- A chunk all of whose numbers are finite. -/
structure Back.Finite (x : Back) : Prop where
  u : ∀ c e, Fin' (x.u c e)
  w : ∀ c e, Fin' (x.w c e)
  q : ∀ c e, Fin' (x.q c e)
  k : ∀ c e, Fin' (x.k c e)
  a : ∀ c e, Fin' (x.a c e)
  g : ∀ e, Fin' (x.g e)
  s : ∀ c e, Fin' (x.s c e)
  y : ∀ c e, Fin' (x.y c e)

section

variable {x : Back} (hx : x.Finite) {D : Mat 128 128} (hD : ∀ d e, Fin' (D d e))
include hx hD

theorem gradU_finite (c : Fin 64) (e : Fin 128) : Fin' (gradU x D c e) :=
  (Fin'.sum _ fun r => (hx.a r c).mul (hx.y r e)).add (Fin'.sum _ fun d => (hx.k c d).mul (hD d e))

theorem back_finite (d e : Fin 128) : Fin' (back x D d e) :=
  ((Fin'.sum _ fun c => (hx.q c d).mul (hx.y c e)).add ((hD d e).mul (hx.g e))).sub
    (Fin'.sum _ fun c => (hx.w c d).mul (gradU_finite hx hD c e))

theorem gradW_eq : gradW x D = gradW' x D := by
  funext c d
  unfold gradW gradW'
  rw [← sum_neg _ fun e => (gradU_finite hx hD c e).mul (hx.s d e)]
  exact Finset.sum_congr rfl fun e _ => (EReal.neg_mul _ _).symm

theorem back_eq : back x D = back' x D := by
  funext d e
  unfold back back'
  rw [sub_eq_add_neg, ← sum_neg _ fun c => (hx.w c d).mul (gradU_finite hx hD c e)]
  congr 1
  · rw [add_comm]
    exact congrArg _ (Finset.sum_congr rfl fun c _ => mul_comm _ _)
  · exact Finset.sum_congr rfl fun c _ => by rw [mul_comm, EReal.neg_mul]

end

theorem walk_finite {X : ℕ → Back} (hX : ∀ n, (X n).Finite) : ∀ i d e, Fin' (walk X i d e)
  | 0, _, _ => Fin'.coe 0
  | i + 1, d, e => back_finite (hX _) (walk_finite hX i) d e

/-- Over finite numbers the kernel's walk is the derivative's. -/
theorem walk_eq {X : ℕ → Back} (hX : ∀ n, (X n).Finite) : ∀ i, walk X i = walk' X i
  | 0 => rfl
  | i + 1 => by
    show back (X (63 - i)) (walk X i) = back' (X (63 - i)) (walk' X i)
    rw [← walk_eq hX i, back_eq (hX _) (walk_finite hX i)]

end Delta

end
-- ==== Proof.BwdKernel.lean ====
/- What the backward scan's kernel computes over the extended reals: after each grid point the carried gradient is the walk's, and
   the six arrays it writes are the chunks' gradients. Point `t` reads and writes block `15 − t`. -/
module

public import proofs.«01_k».proof.Proof.BwdPieces
public import proofs.«01_k».proof.Proof.BwdModel
public import Idealize.ShloMosaic.Lib.Pointwise

@[expose] public section

set_option maxRecDepth 16384

noncomputable section

namespace Cert.Bwd

open Cert.KernelIdeal Cert.KernelIdeal.Gen Idealize.ShloMosaic Idealize.ShloMosaic.TcCoe Idealize.SL.Sem
open Delta

/-- A square array as a matrix. -/
abbrev mat (S : FVec Ideal S128x128 .f32) : Mat 128 128 := fun d e => S (ix2 d e)

/-- What chunk `j` of head `h` reads of the point's blocks. -/
def chunkB (B : Blocks Ideal) (h j : Fin 4) : Back where
  u c e := View.ld B.u (rRows h j) (ix3 0 c e)
  w c e := View.ld B.w (rRows h j) (ix3 0 c e)
  q c e := View.ld B.q (rRows h j) (ix3 0 c e)
  k c e := View.ld B.k (rRows h j) (ix3 0 c e)
  a c r := View.ld B.a (rAtt h j) (ix3 0 c r)
  g e := View.ld B.g (rLanes h j) (ix4 0 0 0 e)
  s d e := View.ld B.s (rSquare h j) (ix4 0 0 d e)
  y c e := View.ld B.y (rRows h j) (ix3 0 c e)

/-! ## The stored formulas, of any loaded arrays -/

theorem s_formula (s : Vec Ideal S1x1x128x128 .f32) (d e : Fin 128) : k0_pay9 s (ix2 d e) = s (ix4 0 0 d e) := by
  pointwise [k0_pay9]

theorem y_formula (y : Vec Ideal S1x64x128 .f32) (c : Fin 64) (e : Fin 128) : k0_pay13 y (ix2 c e) = y (ix3 0 c e) := by
  pointwise [k0_pay13]

theorem vn_formula (S : FVec Ideal S128x128 .f32) (w u : Vec Ideal S1x64x128 .f32) (c : Fin 64) (e : Fin 128) :
    k0_pay24 S w u (ix2 c e) = u (ix3 0 c e) - ∑ d, w (ix3 0 c d) * S (ix2 d e) := by
  pointwise [k0_pay24, k0_pay17]

theorem dv_formula (D : FVec Ideal S128x128 .f32) (y : FVec Ideal S64x128 .f32) (a : Vec Ideal S1x64x64 .f32) (k : Vec Ideal S1x64x128 .f32)
    (c : Fin 64) (e : Fin 128) :
    k0_pay35 D (k0_pay29 y a) (k0_pay33 k) (ix2 c e)
      = (∑ r, a (ix3 0 r c) * y (ix2 r e)) + ∑ d, k (ix3 0 c d) * D (ix2 d e) := by
  pointwise [k0_pay35, k0_pay29, k0_pay33]

theorem du_formula (v : FVec Ideal S64x128 .f32) (z : Fin 1) (c : Fin 64) (e : Fin 128) : k0_pay69 v (ix3 z c e) = v (ix2 c e) := by
  pointwise [k0_pay69]

/-- The product that `w`'s gradient negates reads the gradient of the corrected values. -/
theorem dvS_formula (D S : FVec Ideal S128x128 .f32) (p k : FVec Ideal S64x128 .f32) (c : Fin 64) (d : Fin 128) :
    k0_pay39 D S p k (ix2 c d) = ∑ e, k0_pay35 D p k (ix2 c e) * S (ix2 d e) := by
  unfold k0_pay39
  generalize k0_pay35 D p k = v
  pointwise

theorem dw_formula (v : FVec Ideal S64x128 .f32) (z : Fin 1) (c : Fin 64) (d : Fin 128) : k0_pay70 v (ix3 z c d) = -v (ix2 c d) := by
  have : k0_pay70 v (ix3 z c d) = 0 - v (ix2 c d) := by pointwise [k0_pay70]
  rw [this, zero_sub]

theorem dq_formula (S : FVec Ideal S128x128 .f32) (y : FVec Ideal S64x128 .f32) (z : Fin 1) (c : Fin 64) (d : Fin 128) :
    k0_pay71 (k0_pay43 S y) (ix3 z c d) = ∑ e, y (ix2 c e) * S (ix2 d e) := by
  pointwise [k0_pay71, k0_pay43]

theorem dk_formula (D : FVec Ideal S128x128 .f32) (v : FVec Ideal S64x128 .f32) (z : Fin 1) (c : Fin 64) (d : Fin 128) :
    k0_pay72 (k0_pay49 D v) (ix3 z c d) = ∑ e, v (ix2 c e) * D (ix2 d e) := by
  pointwise [k0_pay72, k0_pay49]

/-- The comparison of two positions of a chunk, over their words. -/
theorem sge_word : ∀ a b : Fin 64,
    IntOp.cmpi .sge (BitVec.ofNat 32 a.val) (BitVec.ofNat 32 b.val) = if b.val ≤ a.val then 1#1 else 0#1 := by
  decide +kernel

theorem select_sge (a b : Fin 64) (x y : EReal) :
    Scalar.select (IntOp.cmpi .sge (BitVec.ofNat 32 a.val) (BitVec.ofNat 32 b.val)) x y = if b.val ≤ a.val then x else y := by
  rw [sge_word]
  split <;> rfl

theorem da_formula (y v : FVec Ideal S64x128 .f32) (z : Fin 1) (c r : Fin 64) :
    k0_pay74 (k0_pay73 (iota .tc S64x64 32 [0] iota_S64x64_d0_w32) (iota .tc S64x64 32 [1] iota_S64x64_d1_w32) (k0_pay53 y v)) (ix3 z c r)
      = if r.val ≤ c.val then ∑ e, y (ix2 c e) * v (ix2 r e) else 0 := by
  pointwise [k0_pay74, k0_pay73, k0_pay53]
  exact select_sge c r _ _

theorem dg_formula (D S : FVec Ideal S128x128 .f32) (e : Fin 128) :
    k0_pay75 D S (ix4 0 0 0 e) = ∑ d, D (ix2 d e) * S (ix2 d e) := by
  pointwise [k0_pay75]

theorem back_formula (D : FVec Ideal S128x128 .f32) (y v : FVec Ideal S64x128 .f32) (q w : Vec Ideal S1x64x128 .f32)
    (g : Vec Ideal S1x1x1x128 .f32) (d e : Fin 128) :
    k0_pay95 D (k0_pay59 y q) (k0_pay65 (k0_pay17 w) v) g (ix2 d e)
      = ((∑ c, q (ix3 0 c d) * y (ix2 c e)) + D (ix2 d e) * g (ix4 0 0 0 e)) - ∑ c, w (ix3 0 c d) * v (ix2 c e) := by
  pointwise [k0_pay95, k0_pay59, k0_pay65, k0_pay17]

theorem store_formula (S : FVec Ideal S128x128 .f32) (z : Fin 1) (d e : Fin 128) : k0_pay1 S (ix3 z d e) = S (ix2 d e) := by
  pointwise [k0_pay1]

theorem fill_formula (h : Fin 4) (d e : Fin 128) : (k0_pay4 : FVec Ideal S4x128x128 .f32) (ix3 h d e) = 0 := by
  pointwise [k0_pay4]

/-! ## The stored blocks -/

section Chunk

variable (B : Blocks Ideal) (h j : Fin 4) (D : FVec Ideal S128x128 .f32)

theorem sV_apply (d e : Fin 128) : sV B h j (ix2 d e) = (chunkB B h j).s d e := s_formula _ d e

theorem yV_apply (c : Fin 64) (e : Fin 128) : yV B h j (ix2 c e) = (chunkB B h j).y c e := y_formula _ c e

theorem vnV_apply (c : Fin 64) (e : Fin 128) : vnV B h j (ix2 c e) = kept (chunkB B h j) c e := by
  unfold vnV
  rw [vn_formula]
  simp only [sV_apply]
  rfl

theorem dvV_apply (c : Fin 64) (e : Fin 128) : dvV B h j D (ix2 c e) = gradU (chunkB B h j) (mat D) c e := by
  unfold dvV
  rw [dv_formula]
  simp only [yV_apply]
  rfl

theorem duV_apply (c : Fin 64) (e : Fin 128) : duV B h j D (ix3 0 c e) = gradU (chunkB B h j) (mat D) c e := by
  unfold duV
  rw [du_formula, dvV_apply]

theorem dwV_apply (c : Fin 64) (d : Fin 128) : dwV B h j D (ix3 0 c d) = gradW (chunkB B h j) (mat D) c d := by
  unfold dwV
  rw [dw_formula, dvS_formula]
  refine congrArg Neg.neg (Finset.sum_congr rfl fun e _ => ?_)
  rw [sV_apply]
  exact congrArg (· * _) (dvV_apply B h j D c e)

theorem dqV_apply (c : Fin 64) (d : Fin 128) : dqV B h j (ix3 0 c d) = gradQ (chunkB B h j) c d := by
  unfold dqV
  rw [dq_formula]
  simp only [sV_apply, yV_apply]
  rfl

theorem dkV_apply (c : Fin 64) (d : Fin 128) : dkV B h j D (ix3 0 c d) = gradK (chunkB B h j) (mat D) c d := by
  unfold dkV
  rw [dk_formula]
  simp only [vnV_apply]
  rfl

theorem daV_apply (c r : Fin 64) : daV B h j (ix3 0 c r) = gradAm (chunkB B h j) c r := by
  unfold daV
  rw [da_formula]
  simp only [vnV_apply, yV_apply]
  rfl

theorem dgV_apply (e : Fin 128) : dgV B h j D (ix4 0 0 0 e) = gradG (chunkB B h j) (mat D) e := by
  unfold dgV
  rw [dg_formula]
  simp only [sV_apply]
  rfl

theorem backV_apply : mat (backV B h j D) = back (chunkB B h j) (mat D) := by
  funext d e
  show backV B h j D (ix2 d e) = _
  unfold backV
  rw [back_formula]
  simp only [yV_apply, dvV_apply]
  rfl

end Chunk

theorem load_apply (xs : Vec Ideal S4x128x128 .f32) (h : Fin 4) : mat (carried xs h) = fun d e => xs (ix3 h d e) := by
  funext d e
  show k0_pay5 (View.ld xs (rState h)) (ix2 d e) = _
  pointwise [k0_pay5]

/-- If the point's blocks hold the chunks `X (63 − n)`, `X (62 − n)`, … from the last back, the gradients within the point are the walk's. -/
theorem stV_apply (B : Blocks Ideal) (h : Fin 4) (X : ℕ → Back) (n : ℕ) (hX : ∀ j : Fin 4, chunkB B h j = X (60 - n + j.val)) (hn : n ≤ 60)
    (D0 : FVec Ideal S128x128 .f32) (h0 : mat D0 = walk X n) : ∀ i ≤ 4, mat (stV B h D0 i) = walk X (n + i)
  | 0, _ => h0
  | i + 1, hi => by
    show mat (backV B h (Fin.ofNat 4 (3 - i)) (stV B h D0 i)) = back (X (63 - (n + i))) (walk X (n + i))
    rw [backV_apply, hX, stV_apply B h X n hX hn D0 h0 i (by omega)]
    have : (Fin.ofNat 4 (3 - i)).val = 3 - i := Nat.mod_eq_of_lt (by omega)
    rw [this]
    have e : 60 - n + (3 - i) = 63 - (n + i) := by omega
    rw [e]

/-! ## The arrays -/

variable (m : (ℓ : Loc nD τ sig) → Buf (Elt Ideal) ℓ) (c : Dev nD)

/-- What the backward pass of chunk `n` of head `h` reads of the eight argument arrays. -/
abbrev X (h : Fin 4) (n : ℕ) : Back :=
  Back.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) h n

/-- The blocks of point `t`. -/
abbrev blocksAt (t : Fin cfg0.N) : Blocks Ideal :=
  ⟨iblk m c 0 t, iblk m c 1 t, iblk m c 2 t, iblk m c 3 t, iblk m c 4 t, iblk m c 5 t, iblk m c 6 t, iblk m c 7 t⟩

/-! The printed index maps, decided over the grid: point `t` takes block `15 − t` of the positions, and of the chunks. -/

theorem index0 : ∀ t : Fin cfg0.N, ∀ a, win0_0.index t a = (![0, 15 - t.val, 0] : Fin 3 → ℕ) a :=
  (by decide +kernel : ∀ t : Fin grid0.N, _)
theorem index1 : ∀ t : Fin cfg0.N, ∀ a, win0_1.index t a = (![0, 15 - t.val, 0] : Fin 3 → ℕ) a :=
  (by decide +kernel : ∀ t : Fin grid0.N, _)
theorem index2 : ∀ t : Fin cfg0.N, ∀ a, win0_2.index t a = (![0, 15 - t.val, 0] : Fin 3 → ℕ) a :=
  (by decide +kernel : ∀ t : Fin grid0.N, _)
theorem index3 : ∀ t : Fin cfg0.N, ∀ a, win0_3.index t a = (![0, 15 - t.val, 0] : Fin 3 → ℕ) a :=
  (by decide +kernel : ∀ t : Fin grid0.N, _)
theorem index4 : ∀ t : Fin cfg0.N, ∀ a, win0_4.index t a = (![0, 15 - t.val, 0] : Fin 3 → ℕ) a :=
  (by decide +kernel : ∀ t : Fin grid0.N, _)
theorem index5 : ∀ t : Fin cfg0.N, ∀ a, win0_5.index t a = (![0, 15 - t.val, 0, 0] : Fin 4 → ℕ) a :=
  (by decide +kernel : ∀ t : Fin grid0.N, _)
theorem index6 : ∀ t : Fin cfg0.N, ∀ a, win0_6.index t a = (![0, 15 - t.val, 0, 0] : Fin 4 → ℕ) a :=
  (by decide +kernel : ∀ t : Fin grid0.N, _)
theorem index7 : ∀ t : Fin cfg0.N, ∀ a, win0_7.index t a = (![0, 15 - t.val, 0] : Fin 3 → ℕ) a :=
  (by decide +kernel : ∀ t : Fin grid0.N, _)
theorem index8 : ∀ t : Fin cfg0.N, ∀ a, win0_8.index t a = (![0, 15 - t.val, 0] : Fin 3 → ℕ) a :=
  (by decide +kernel : ∀ t : Fin grid0.N, _)
theorem index9 : ∀ t : Fin cfg0.N, ∀ a, win0_9.index t a = (![0, 15 - t.val, 0] : Fin 3 → ℕ) a :=
  (by decide +kernel : ∀ t : Fin grid0.N, _)
theorem index10 : ∀ t : Fin cfg0.N, ∀ a, win0_10.index t a = (![0, 15 - t.val, 0] : Fin 3 → ℕ) a :=
  (by decide +kernel : ∀ t : Fin grid0.N, _)
theorem index11 : ∀ t : Fin cfg0.N, ∀ a, win0_11.index t a = (![0, 15 - t.val, 0] : Fin 3 → ℕ) a :=
  (by decide +kernel : ∀ t : Fin grid0.N, _)
theorem index12 : ∀ t : Fin cfg0.N, ∀ a, win0_12.index t a = (![0, 15 - t.val, 0] : Fin 3 → ℕ) a :=
  (by decide +kernel : ∀ t : Fin grid0.N, _)
theorem index13 : ∀ t : Fin cfg0.N, ∀ a, win0_13.index t a = (![0, 15 - t.val, 0, 0] : Fin 4 → ℕ) a :=
  (by decide +kernel : ∀ t : Fin grid0.N, _)

theorem block0 (t : Fin cfg0.N) (h j : Fin 4) (z : Fin 1) (p : Fin 64) (e : Fin 128) :
    View.ld (iblk m c 0 t) (rRows h j) (ix3 z p e)
      = (m ((c.tc : Thread nD τ).loc main_arg0) : Rows 128) (ix3 h (row (60 - 4 * t.val + j.val) p) e) := by
  have ht : t.val < 16 := lt_of_lt_of_eq t.isLt N_0
  show (m ((c.tc : Thread nD τ).loc main_arg0) : Rows 128) (((cfg0.win 0).blk t).view.emb ((rRows h j).idx (ix3 z p e))) = _
  refine congrArg (m ((c.tc : Thread nD τ).loc main_arg0) : Rows 128) (funext fun a => Fin.ext ?_)
  match a with
  | ⟨0, _⟩ => show win0_0.index t 0 * 4 + 1 * (h.val + 1 * z.val) = h.val; rw [index0 t 0]; show 0 * 4 + _ = _; omega
  | ⟨1, _⟩ => show win0_0.index t 1 * 256 + 1 * (64 * j.val + 1 * p.val) = (64 * (60 - 4 * t.val + j.val) + p.val) % 4096; rw [index0 t 1]; show (15 - t.val) * 256 + _ = _; omega
  | ⟨2, _⟩ => show win0_0.index t 2 * 128 + 1 * (0 + 1 * e.val) = e.val; rw [index0 t 2]; show 0 * 128 + _ = _; omega

theorem block1 (t : Fin cfg0.N) (h j : Fin 4) (z : Fin 1) (p : Fin 64) (e : Fin 128) :
    View.ld (iblk m c 1 t) (rRows h j) (ix3 z p e)
      = (m ((c.tc : Thread nD τ).loc main_arg1) : Rows 128) (ix3 h (row (60 - 4 * t.val + j.val) p) e) := by
  have ht : t.val < 16 := lt_of_lt_of_eq t.isLt N_0
  show (m ((c.tc : Thread nD τ).loc main_arg1) : Rows 128) (((cfg0.win 1).blk t).view.emb ((rRows h j).idx (ix3 z p e))) = _
  refine congrArg (m ((c.tc : Thread nD τ).loc main_arg1) : Rows 128) (funext fun a => Fin.ext ?_)
  match a with
  | ⟨0, _⟩ => show win0_1.index t 0 * 4 + 1 * (h.val + 1 * z.val) = h.val; rw [index1 t 0]; show 0 * 4 + _ = _; omega
  | ⟨1, _⟩ => show win0_1.index t 1 * 256 + 1 * (64 * j.val + 1 * p.val) = (64 * (60 - 4 * t.val + j.val) + p.val) % 4096; rw [index1 t 1]; show (15 - t.val) * 256 + _ = _; omega
  | ⟨2, _⟩ => show win0_1.index t 2 * 128 + 1 * (0 + 1 * e.val) = e.val; rw [index1 t 2]; show 0 * 128 + _ = _; omega

theorem block2 (t : Fin cfg0.N) (h j : Fin 4) (z : Fin 1) (p : Fin 64) (e : Fin 128) :
    View.ld (iblk m c 2 t) (rRows h j) (ix3 z p e)
      = (m ((c.tc : Thread nD τ).loc main_arg2) : Rows 128) (ix3 h (row (60 - 4 * t.val + j.val) p) e) := by
  have ht : t.val < 16 := lt_of_lt_of_eq t.isLt N_0
  show (m ((c.tc : Thread nD τ).loc main_arg2) : Rows 128) (((cfg0.win 2).blk t).view.emb ((rRows h j).idx (ix3 z p e))) = _
  refine congrArg (m ((c.tc : Thread nD τ).loc main_arg2) : Rows 128) (funext fun a => Fin.ext ?_)
  match a with
  | ⟨0, _⟩ => show win0_2.index t 0 * 4 + 1 * (h.val + 1 * z.val) = h.val; rw [index2 t 0]; show 0 * 4 + _ = _; omega
  | ⟨1, _⟩ => show win0_2.index t 1 * 256 + 1 * (64 * j.val + 1 * p.val) = (64 * (60 - 4 * t.val + j.val) + p.val) % 4096; rw [index2 t 1]; show (15 - t.val) * 256 + _ = _; omega
  | ⟨2, _⟩ => show win0_2.index t 2 * 128 + 1 * (0 + 1 * e.val) = e.val; rw [index2 t 2]; show 0 * 128 + _ = _; omega

theorem block3 (t : Fin cfg0.N) (h j : Fin 4) (z : Fin 1) (p : Fin 64) (e : Fin 128) :
    View.ld (iblk m c 3 t) (rRows h j) (ix3 z p e)
      = (m ((c.tc : Thread nD τ).loc main_arg3) : Rows 128) (ix3 h (row (60 - 4 * t.val + j.val) p) e) := by
  have ht : t.val < 16 := lt_of_lt_of_eq t.isLt N_0
  show (m ((c.tc : Thread nD τ).loc main_arg3) : Rows 128) (((cfg0.win 3).blk t).view.emb ((rRows h j).idx (ix3 z p e))) = _
  refine congrArg (m ((c.tc : Thread nD τ).loc main_arg3) : Rows 128) (funext fun a => Fin.ext ?_)
  match a with
  | ⟨0, _⟩ => show win0_3.index t 0 * 4 + 1 * (h.val + 1 * z.val) = h.val; rw [index3 t 0]; show 0 * 4 + _ = _; omega
  | ⟨1, _⟩ => show win0_3.index t 1 * 256 + 1 * (64 * j.val + 1 * p.val) = (64 * (60 - 4 * t.val + j.val) + p.val) % 4096; rw [index3 t 1]; show (15 - t.val) * 256 + _ = _; omega
  | ⟨2, _⟩ => show win0_3.index t 2 * 128 + 1 * (0 + 1 * e.val) = e.val; rw [index3 t 2]; show 0 * 128 + _ = _; omega

theorem block7 (t : Fin cfg0.N) (h j : Fin 4) (z : Fin 1) (p : Fin 64) (e : Fin 128) :
    View.ld (iblk m c 7 t) (rRows h j) (ix3 z p e)
      = (m ((c.tc : Thread nD τ).loc main_arg7) : Rows 128) (ix3 h (row (60 - 4 * t.val + j.val) p) e) := by
  have ht : t.val < 16 := lt_of_lt_of_eq t.isLt N_0
  show (m ((c.tc : Thread nD τ).loc main_arg7) : Rows 128) (((cfg0.win 7).blk t).view.emb ((rRows h j).idx (ix3 z p e))) = _
  refine congrArg (m ((c.tc : Thread nD τ).loc main_arg7) : Rows 128) (funext fun a => Fin.ext ?_)
  match a with
  | ⟨0, _⟩ => show win0_7.index t 0 * 4 + 1 * (h.val + 1 * z.val) = h.val; rw [index7 t 0]; show 0 * 4 + _ = _; omega
  | ⟨1, _⟩ => show win0_7.index t 1 * 256 + 1 * (64 * j.val + 1 * p.val) = (64 * (60 - 4 * t.val + j.val) + p.val) % 4096; rw [index7 t 1]; show (15 - t.val) * 256 + _ = _; omega
  | ⟨2, _⟩ => show win0_7.index t 2 * 128 + 1 * (0 + 1 * e.val) = e.val; rw [index7 t 2]; show 0 * 128 + _ = _; omega

theorem block4 (t : Fin cfg0.N) (h j : Fin 4) (z : Fin 1) (p : Fin 64) (e : Fin 64) :
    View.ld (iblk m c 4 t) (rAtt h j) (ix3 z p e)
      = (m ((c.tc : Thread nD τ).loc main_arg4) : Rows 64) (ix3 h (row (60 - 4 * t.val + j.val) p) e) := by
  have ht : t.val < 16 := lt_of_lt_of_eq t.isLt N_0
  show (m ((c.tc : Thread nD τ).loc main_arg4) : Rows 64) (((cfg0.win 4).blk t).view.emb ((rAtt h j).idx (ix3 z p e))) = _
  refine congrArg (m ((c.tc : Thread nD τ).loc main_arg4) : Rows 64) (funext fun a => Fin.ext ?_)
  match a with
  | ⟨0, _⟩ => show win0_4.index t 0 * 4 + 1 * (h.val + 1 * z.val) = h.val; rw [index4 t 0]; show 0 * 4 + _ = _; omega
  | ⟨1, _⟩ => show win0_4.index t 1 * 256 + 1 * (64 * j.val + 1 * p.val) = (64 * (60 - 4 * t.val + j.val) + p.val) % 4096; rw [index4 t 1]; show (15 - t.val) * 256 + _ = _; omega
  | ⟨2, _⟩ => show win0_4.index t 2 * 64 + 1 * (0 + 1 * e.val) = e.val; rw [index4 t 2]; show 0 * 64 + _ = _; omega

theorem block5 (t : Fin cfg0.N) (h j : Fin 4) (z z' : Fin 1) (e : Fin 128) :
    View.ld (iblk m c 5 t) (rLanes h j) (ix4 z z' 0 e)
      = (m ((c.tc : Thread nD τ).loc main_arg5) : Lanes) (ix4 h (chk (60 - 4 * t.val + j.val)) 0 e) := by
  have ht : t.val < 16 := lt_of_lt_of_eq t.isLt N_0
  show (m ((c.tc : Thread nD τ).loc main_arg5) : Lanes) (((cfg0.win 5).blk t).view.emb ((rLanes h j).idx (ix4 z z' 0 e))) = _
  refine congrArg (m ((c.tc : Thread nD τ).loc main_arg5) : Lanes) (funext fun a => Fin.ext ?_)
  match a with
  | ⟨0, _⟩ => show win0_5.index t 0 * 4 + 1 * (h.val + 1 * z.val) = h.val; rw [index5 t 0]; show 0 * 4 + _ = _; omega
  | ⟨1, _⟩ => show win0_5.index t 1 * 4 + 1 * (j.val + 1 * z'.val) = (60 - 4 * t.val + j.val) % 64; rw [index5 t 1]; show (15 - t.val) * 4 + _ = _; omega
  | ⟨2, _⟩ => show win0_5.index t 2 * 1 + 1 * (0 + 1 * 0) = 0; rw [index5 t 2]; rfl
  | ⟨3, _⟩ => show win0_5.index t 3 * 128 + 1 * (0 + 1 * e.val) = e.val; rw [index5 t 3]; show 0 * 128 + _ = _; omega

theorem block6 (t : Fin cfg0.N) (h j : Fin 4) (z z' : Fin 1) (d e : Fin 128) :
    View.ld (iblk m c 6 t) (rSquare h j) (ix4 z z' d e)
      = (m ((c.tc : Thread nD τ).loc main_arg6) : Squares) (ix4 h (chk (60 - 4 * t.val + j.val)) d e) := by
  have ht : t.val < 16 := lt_of_lt_of_eq t.isLt N_0
  show (m ((c.tc : Thread nD τ).loc main_arg6) : Squares) (((cfg0.win 6).blk t).view.emb ((rSquare h j).idx (ix4 z z' d e))) = _
  refine congrArg (m ((c.tc : Thread nD τ).loc main_arg6) : Squares) (funext fun a => Fin.ext ?_)
  match a with
  | ⟨0, _⟩ => show win0_6.index t 0 * 4 + 1 * (h.val + 1 * z.val) = h.val; rw [index6 t 0]; show 0 * 4 + _ = _; omega
  | ⟨1, _⟩ => show win0_6.index t 1 * 4 + 1 * (j.val + 1 * z'.val) = (60 - 4 * t.val + j.val) % 64; rw [index6 t 1]; show (15 - t.val) * 4 + _ = _; omega
  | ⟨2, _⟩ => show win0_6.index t 2 * 128 + 1 * (0 + 1 * d.val) = d.val; rw [index6 t 2]; show 0 * 128 + _ = _; omega
  | ⟨3, _⟩ => show win0_6.index t 3 * 128 + 1 * (0 + 1 * e.val) = e.val; rw [index6 t 3]; show 0 * 128 + _ = _; omega

theorem chunk_at (t : Fin cfg0.N) (h j : Fin 4) : chunkB (blocksAt m c t) h j = X m c h (60 - 4 * t.val + j.val) := by
  unfold chunkB X Back.of
  congr 1
  · funext p e; exact block0 m c t h j 0 p e
  · funext p e; exact block1 m c t h j 0 p e
  · funext p e; exact block2 m c t h j 0 p e
  · funext p e; exact block3 m c t h j 0 p e
  · funext p e; exact block4 m c t h j 0 p e
  · funext e; exact block5 m c t h j 0 0 e
  · funext d e; exact block6 m c t h j 0 0 d e
  · funext p e; exact block7 m c t h j 0 p e

/-- The carried gradient that the first point starts from: the zeros of its fill. -/
theorem start_first (h : Fin 4) : mat (carried (k0_pay4 : FVec Ideal S4x128x128 .f32) h) = walk (X m c h) 0 := by
  rw [load_apply]
  funext d e
  exact fill_formula h d e

/-- THE CARRIED GRADIENT after point `n` is the walk's after `4 (n + 1)` chunks. -/
theorem carried_after (n : ℕ) (hn : n < cfg0.N) (h : Fin 4) (d e : Fin 128) :
    (outsAt0 m c n hn).2.2.2.2.2.2 (ix3 h d e) = walk (X m c h) (4 * (n + 1)) d e := by
  induction n generalizing h d e with
  | zero =>
    rw [outsAt0_A m c ⟨0, hn⟩ (Nat.zero_mod _)]
    dsimp only
    rw [sout_A, store_formula]
    exact congrFun (congrFun (stV_apply (blocksAt m c ⟨0, hn⟩) h (X m c h) 0 (fun j => chunk_at m c ⟨0, hn⟩ h j) (by omega) _ (start_first m c h) 4 (le_refl _)) d) e
  | succ n ih =>
    have hN : n + 1 < 16 := lt_of_lt_of_eq hn N_0
    rw [outsAt0_B m c ⟨n + 1, hn⟩ (by show ¬(n + 1) % 16 = 0; omega)]
    dsimp only
    rw [sout_B, store_formula]
    refine congrFun (congrFun (stV_apply (blocksAt m c ⟨n + 1, hn⟩) h (X m c h) (4 * (n + 1)) (fun j => chunk_at m c ⟨n + 1, hn⟩ h j) (by omega) _ ?_ 4 (le_refl _)) d) e
    rw [load_apply]
    funext d e
    exact ih (Nat.lt_of_succ_lt hn) h d e

/-- The gradient that point `n` starts from: after a point before it, the walk's. -/
theorem start_next (n : ℕ) (hn : n + 1 < cfg0.N) (h : Fin 4) :
    mat (carried ((outsAt0 m c n (Nat.lt_of_succ_lt hn)).2.2.2.2.2.2) h) = walk (X m c h) (4 * (n + 1)) := by
  rw [load_apply]
  funext d e
  exact carried_after m c n _ h d e

/-- The gradient of the state after chunk `j` of a point's four: the walk's. -/
theorem before_first (hn : 0 < cfg0.N) (h j : Fin 4) :
    mat (before (blocksAt m c ⟨0, hn⟩) (carried (k0_pay4 : FVec Ideal S4x128x128 .f32)) h j) = walk (X m c h) (63 - (60 - 4 * 0 + j.val)) :=
  (stV_apply (blocksAt m c ⟨0, hn⟩) h (X m c h) 0 (fun j => chunk_at m c ⟨0, hn⟩ h j) (by omega) _ (start_first m c h) (3 - j.val) (by omega)).trans
    (congrArg (walk (X m c h)) (by omega))

theorem before_next (n : ℕ) (hn : n + 1 < cfg0.N) (h j : Fin 4) :
    mat (before (blocksAt m c ⟨n + 1, hn⟩) (carried ((outsAt0 m c n (Nat.lt_of_succ_lt hn)).2.2.2.2.2.2)) h j)
      = walk (X m c h) (63 - (60 - 4 * (n + 1) + j.val)) := by
  have hN : n + 1 < 16 := lt_of_lt_of_eq hn N_0
  exact (stV_apply (blocksAt m c ⟨n + 1, hn⟩) h (X m c h) (4 * (n + 1)) (fun j => chunk_at m c ⟨n + 1, hn⟩ h j) (by omega) _ (start_next m c n hn h) (3 - j.val) (by omega)).trans
    (congrArg (walk (X m c h)) (by omega))

/-! ## The blocks after point `n` -/

theorem du_after (n : ℕ) (hn : n < cfg0.N) (h : Fin 4) (r : Fin 256) (e : Fin 128) :
    (outsAt0 m c n hn).1 (ix3 h r e) = gradU (X m c h (60 - 4 * n + r.val / 64)) (walk (X m c h) (63 - (60 - 4 * n + r.val / 64))) (inChunk r) e := by
  cases n with
  | zero =>
    rw [outsAt0_A m c ⟨0, hn⟩ (Nat.zero_mod _)]
    dsimp only
    rw [out_A_8, duV_apply, chunk_at m c ⟨0, hn⟩]
    exact congrArg (fun D => gradU _ D (inChunk r) e) (before_first m c hn h _)
  | succ n =>
    have hN : n + 1 < 16 := lt_of_lt_of_eq hn N_0
    rw [outsAt0_B m c ⟨n + 1, hn⟩ (by show ¬(n + 1) % 16 = 0; omega)]
    dsimp only
    rw [out_B_8, duV_apply, chunk_at m c ⟨n + 1, hn⟩]
    exact congrArg (fun D => gradU _ D (inChunk r) e) (before_next m c n hn h _)

theorem dw_after (n : ℕ) (hn : n < cfg0.N) (h : Fin 4) (r : Fin 256) (e : Fin 128) :
    (outsAt0 m c n hn).2.1 (ix3 h r e) = gradW (X m c h (60 - 4 * n + r.val / 64)) (walk (X m c h) (63 - (60 - 4 * n + r.val / 64))) (inChunk r) e := by
  cases n with
  | zero =>
    rw [outsAt0_A m c ⟨0, hn⟩ (Nat.zero_mod _)]
    dsimp only
    rw [out_A_9, dwV_apply, chunk_at m c ⟨0, hn⟩]
    exact congrArg (fun D => gradW _ D (inChunk r) e) (before_first m c hn h _)
  | succ n =>
    have hN : n + 1 < 16 := lt_of_lt_of_eq hn N_0
    rw [outsAt0_B m c ⟨n + 1, hn⟩ (by show ¬(n + 1) % 16 = 0; omega)]
    dsimp only
    rw [out_B_9, dwV_apply, chunk_at m c ⟨n + 1, hn⟩]
    exact congrArg (fun D => gradW _ D (inChunk r) e) (before_next m c n hn h _)

theorem dq_after (n : ℕ) (hn : n < cfg0.N) (h : Fin 4) (r : Fin 256) (e : Fin 128) :
    (outsAt0 m c n hn).2.2.1 (ix3 h r e) = gradQ (X m c h (60 - 4 * n + r.val / 64)) (inChunk r) e := by
  cases n with
  | zero =>
    rw [outsAt0_A m c ⟨0, hn⟩ (Nat.zero_mod _)]
    dsimp only
    rw [out_A_10, dqV_apply, chunk_at m c ⟨0, hn⟩]
  | succ n =>
    have hN : n + 1 < 16 := lt_of_lt_of_eq hn N_0
    rw [outsAt0_B m c ⟨n + 1, hn⟩ (by show ¬(n + 1) % 16 = 0; omega)]
    dsimp only
    rw [out_B_10, dqV_apply, chunk_at m c ⟨n + 1, hn⟩]

theorem dk_after (n : ℕ) (hn : n < cfg0.N) (h : Fin 4) (r : Fin 256) (e : Fin 128) :
    (outsAt0 m c n hn).2.2.2.1 (ix3 h r e) = gradK (X m c h (60 - 4 * n + r.val / 64)) (walk (X m c h) (63 - (60 - 4 * n + r.val / 64))) (inChunk r) e := by
  cases n with
  | zero =>
    rw [outsAt0_A m c ⟨0, hn⟩ (Nat.zero_mod _)]
    dsimp only
    rw [out_A_11, dkV_apply, chunk_at m c ⟨0, hn⟩]
    exact congrArg (fun D => gradK _ D (inChunk r) e) (before_first m c hn h _)
  | succ n =>
    have hN : n + 1 < 16 := lt_of_lt_of_eq hn N_0
    rw [outsAt0_B m c ⟨n + 1, hn⟩ (by show ¬(n + 1) % 16 = 0; omega)]
    dsimp only
    rw [out_B_11, dkV_apply, chunk_at m c ⟨n + 1, hn⟩]
    exact congrArg (fun D => gradK _ D (inChunk r) e) (before_next m c n hn h _)

theorem da_after (n : ℕ) (hn : n < cfg0.N) (h : Fin 4) (r : Fin 256) (e : Fin 64) :
    (outsAt0 m c n hn).2.2.2.2.1 (ix3 h r e) = gradAm (X m c h (60 - 4 * n + r.val / 64)) (inChunk r) e := by
  cases n with
  | zero =>
    rw [outsAt0_A m c ⟨0, hn⟩ (Nat.zero_mod _)]
    dsimp only
    rw [out_A_12, daV_apply, chunk_at m c ⟨0, hn⟩]
  | succ n =>
    have hN : n + 1 < 16 := lt_of_lt_of_eq hn N_0
    rw [outsAt0_B m c ⟨n + 1, hn⟩ (by show ¬(n + 1) % 16 = 0; omega)]
    dsimp only
    rw [out_B_12, daV_apply, chunk_at m c ⟨n + 1, hn⟩]

theorem dg_after (n : ℕ) (hn : n < cfg0.N) (h j : Fin 4) (e : Fin 128) :
    (outsAt0 m c n hn).2.2.2.2.2.1 (ix4 h j 0 e) = gradG (X m c h (60 - 4 * n + j.val)) (walk (X m c h) (63 - (60 - 4 * n + j.val))) e := by
  cases n with
  | zero =>
    rw [outsAt0_A m c ⟨0, hn⟩ (Nat.zero_mod _)]
    dsimp only
    rw [out_A_13, dgV_apply, chunk_at m c ⟨0, hn⟩]
    exact congrArg (fun D => gradG _ D e) (before_first m c hn h _)
  | succ n =>
    have hN : n + 1 < 16 := lt_of_lt_of_eq hn N_0
    rw [outsAt0_B m c ⟨n + 1, hn⟩ (by show ¬(n + 1) % 16 = 0; omega)]
    dsimp only
    rw [out_B_13, dgV_apply, chunk_at m c ⟨n + 1, hn⟩]
    exact congrArg (fun D => gradG _ D e) (before_next m c n hn h _)

open Cert.KernelIdeal.Value

/-! ## The six arrays after the run -/

/-- Chunk `n` of 64 is in block `n / 4`, which point `15 − n / 4` writes. -/
theorem point_lt (n : ℕ) : 15 - n / 4 < cfg0.N := lt_of_lt_of_eq (by omega) N_0.symm

theorem du_apply (h : Fin 4) (i : Fin 4096) (e : Fin 128) :
    ((dats m 0 c).arrAt 8 cfg0.N : Rows 128) (ix3 h i e) = gradU (X m c h (i.val / 64)) (walk (X m c h) (63 - (i.val / 64))) ⟨i.val % 64, Nat.mod_lt _ (by decide)⟩ e := by
  have hp := point_lt (i.val / 64)
  have hb := congrFun (blocks8 m c ⟨15 - (i.val / 64) / 4, hp⟩ ((by decide +kernel : ∀ t : Fin grid0.N, (cfg0.win 8).flush t = true) _)) (ix3 h ⟨i.val % 256, Nat.mod_lt _ (by decide)⟩ e)
  rw [flushed8] at hb
  have hi : ((cfg0.win 8).blk ⟨15 - (i.val / 64) / 4, hp⟩).view.emb (ix3 h ⟨i.val % 256, Nat.mod_lt _ (by decide)⟩ e) = (ix3 h i e) := by
    funext a; apply Fin.ext
    match a with
    | ⟨0, _⟩ => show win0_8.index _ 0 * 4 + 1 * h.val = h.val; rw [index8 _ 0]; show 0 * 4 + _ = _; omega
    | ⟨1, _⟩ => show win0_8.index _ 1 * 256 + 1 * (i.val % 256) = i.val; rw [index8 _ 1]; show (15 - (15 - i.val / 64 / 4)) * 256 + _ = _; omega
    | ⟨2, _⟩ => show win0_8.index _ 2 * 128 + 1 * e.val = e.val; rw [index8 _ 2]; show 0 * 128 + _ = _; omega
  rw [← hi]
  refine hb.trans ?_
  refine (du_after m c _ hp h _ e).trans ?_
  have hs : 60 - 4 * (15 - i.val / 64 / 4) + i.val % 256 / 64 = i.val / 64 := by omega
  dsimp only
  rw [hs]
  exact congrArg (fun c' => gradU _ _ c' e) (Fin.ext (show i.val % 256 % 64 = i.val % 64 by omega))

theorem dw_apply (h : Fin 4) (i : Fin 4096) (e : Fin 128) :
    ((dats m 0 c).arrAt 9 cfg0.N : Rows 128) (ix3 h i e) = gradW (X m c h (i.val / 64)) (walk (X m c h) (63 - (i.val / 64))) ⟨i.val % 64, Nat.mod_lt _ (by decide)⟩ e := by
  have hp := point_lt (i.val / 64)
  have hb := congrFun (blocks9 m c ⟨15 - (i.val / 64) / 4, hp⟩ ((by decide +kernel : ∀ t : Fin grid0.N, (cfg0.win 9).flush t = true) _)) (ix3 h ⟨i.val % 256, Nat.mod_lt _ (by decide)⟩ e)
  rw [flushed9] at hb
  have hi : ((cfg0.win 9).blk ⟨15 - (i.val / 64) / 4, hp⟩).view.emb (ix3 h ⟨i.val % 256, Nat.mod_lt _ (by decide)⟩ e) = (ix3 h i e) := by
    funext a; apply Fin.ext
    match a with
    | ⟨0, _⟩ => show win0_9.index _ 0 * 4 + 1 * h.val = h.val; rw [index9 _ 0]; show 0 * 4 + _ = _; omega
    | ⟨1, _⟩ => show win0_9.index _ 1 * 256 + 1 * (i.val % 256) = i.val; rw [index9 _ 1]; show (15 - (15 - i.val / 64 / 4)) * 256 + _ = _; omega
    | ⟨2, _⟩ => show win0_9.index _ 2 * 128 + 1 * e.val = e.val; rw [index9 _ 2]; show 0 * 128 + _ = _; omega
  rw [← hi]
  refine hb.trans ?_
  refine (dw_after m c _ hp h _ e).trans ?_
  have hs : 60 - 4 * (15 - i.val / 64 / 4) + i.val % 256 / 64 = i.val / 64 := by omega
  dsimp only
  rw [hs]
  exact congrArg (fun c' => gradW _ _ c' e) (Fin.ext (show i.val % 256 % 64 = i.val % 64 by omega))

theorem dq_apply (h : Fin 4) (i : Fin 4096) (e : Fin 128) :
    ((dats m 0 c).arrAt 10 cfg0.N : Rows 128) (ix3 h i e) = gradQ (X m c h (i.val / 64)) ⟨i.val % 64, Nat.mod_lt _ (by decide)⟩ e := by
  have hp := point_lt (i.val / 64)
  have hb := congrFun (blocks10 m c ⟨15 - (i.val / 64) / 4, hp⟩ ((by decide +kernel : ∀ t : Fin grid0.N, (cfg0.win 10).flush t = true) _)) (ix3 h ⟨i.val % 256, Nat.mod_lt _ (by decide)⟩ e)
  rw [flushed10] at hb
  have hi : ((cfg0.win 10).blk ⟨15 - (i.val / 64) / 4, hp⟩).view.emb (ix3 h ⟨i.val % 256, Nat.mod_lt _ (by decide)⟩ e) = (ix3 h i e) := by
    funext a; apply Fin.ext
    match a with
    | ⟨0, _⟩ => show win0_10.index _ 0 * 4 + 1 * h.val = h.val; rw [index10 _ 0]; show 0 * 4 + _ = _; omega
    | ⟨1, _⟩ => show win0_10.index _ 1 * 256 + 1 * (i.val % 256) = i.val; rw [index10 _ 1]; show (15 - (15 - i.val / 64 / 4)) * 256 + _ = _; omega
    | ⟨2, _⟩ => show win0_10.index _ 2 * 128 + 1 * e.val = e.val; rw [index10 _ 2]; show 0 * 128 + _ = _; omega
  rw [← hi]
  refine hb.trans ?_
  refine (dq_after m c _ hp h _ e).trans ?_
  have hs : 60 - 4 * (15 - i.val / 64 / 4) + i.val % 256 / 64 = i.val / 64 := by omega
  dsimp only
  rw [hs]
  exact congrArg (fun c' => gradQ _ c' e) (Fin.ext (show i.val % 256 % 64 = i.val % 64 by omega))

theorem dk_apply (h : Fin 4) (i : Fin 4096) (e : Fin 128) :
    ((dats m 0 c).arrAt 11 cfg0.N : Rows 128) (ix3 h i e) = gradK (X m c h (i.val / 64)) (walk (X m c h) (63 - (i.val / 64))) ⟨i.val % 64, Nat.mod_lt _ (by decide)⟩ e := by
  have hp := point_lt (i.val / 64)
  have hb := congrFun (blocks11 m c ⟨15 - (i.val / 64) / 4, hp⟩ ((by decide +kernel : ∀ t : Fin grid0.N, (cfg0.win 11).flush t = true) _)) (ix3 h ⟨i.val % 256, Nat.mod_lt _ (by decide)⟩ e)
  rw [flushed11] at hb
  have hi : ((cfg0.win 11).blk ⟨15 - (i.val / 64) / 4, hp⟩).view.emb (ix3 h ⟨i.val % 256, Nat.mod_lt _ (by decide)⟩ e) = (ix3 h i e) := by
    funext a; apply Fin.ext
    match a with
    | ⟨0, _⟩ => show win0_11.index _ 0 * 4 + 1 * h.val = h.val; rw [index11 _ 0]; show 0 * 4 + _ = _; omega
    | ⟨1, _⟩ => show win0_11.index _ 1 * 256 + 1 * (i.val % 256) = i.val; rw [index11 _ 1]; show (15 - (15 - i.val / 64 / 4)) * 256 + _ = _; omega
    | ⟨2, _⟩ => show win0_11.index _ 2 * 128 + 1 * e.val = e.val; rw [index11 _ 2]; show 0 * 128 + _ = _; omega
  rw [← hi]
  refine hb.trans ?_
  refine (dk_after m c _ hp h _ e).trans ?_
  have hs : 60 - 4 * (15 - i.val / 64 / 4) + i.val % 256 / 64 = i.val / 64 := by omega
  dsimp only
  rw [hs]
  exact congrArg (fun c' => gradK _ _ c' e) (Fin.ext (show i.val % 256 % 64 = i.val % 64 by omega))

theorem da_apply (h : Fin 4) (i : Fin 4096) (e : Fin 64) :
    ((dats m 0 c).arrAt 12 cfg0.N : Rows 64) (ix3 h i e) = gradAm (X m c h (i.val / 64)) ⟨i.val % 64, Nat.mod_lt _ (by decide)⟩ e := by
  have hp := point_lt (i.val / 64)
  have hb := congrFun (blocks12 m c ⟨15 - (i.val / 64) / 4, hp⟩ ((by decide +kernel : ∀ t : Fin grid0.N, (cfg0.win 12).flush t = true) _)) (ix3 h ⟨i.val % 256, Nat.mod_lt _ (by decide)⟩ e)
  rw [flushed12] at hb
  have hi : ((cfg0.win 12).blk ⟨15 - (i.val / 64) / 4, hp⟩).view.emb (ix3 h ⟨i.val % 256, Nat.mod_lt _ (by decide)⟩ e) = (ix3 h i e) := by
    funext a; apply Fin.ext
    match a with
    | ⟨0, _⟩ => show win0_12.index _ 0 * 4 + 1 * h.val = h.val; rw [index12 _ 0]; show 0 * 4 + _ = _; omega
    | ⟨1, _⟩ => show win0_12.index _ 1 * 256 + 1 * (i.val % 256) = i.val; rw [index12 _ 1]; show (15 - (15 - i.val / 64 / 4)) * 256 + _ = _; omega
    | ⟨2, _⟩ => show win0_12.index _ 2 * 64 + 1 * e.val = e.val; rw [index12 _ 2]; show 0 * 64 + _ = _; omega
  rw [← hi]
  refine hb.trans ?_
  refine (da_after m c _ hp h _ e).trans ?_
  have hs : 60 - 4 * (15 - i.val / 64 / 4) + i.val % 256 / 64 = i.val / 64 := by omega
  dsimp only
  rw [hs]
  exact congrArg (fun c' => gradAm _ c' e) (Fin.ext (show i.val % 256 % 64 = i.val % 64 by omega))

theorem dg_apply (h : Fin 4) (n : Fin 64) (e : Fin 128) :
    ((dats m 0 c).arrAt 13 cfg0.N : Lanes) (ix4 h n 0 e) = gradG (X m c h n.val) (walk (X m c h) (63 - n.val)) e := by
  have hp := point_lt (n.val)
  have hb := congrFun (blocks13 m c ⟨15 - (n.val) / 4, hp⟩ ((by decide +kernel : ∀ t : Fin grid0.N, (cfg0.win 13).flush t = true) _)) (ix4 h ⟨n.val % 4, Nat.mod_lt _ (by decide)⟩ 0 e)
  rw [flushed13] at hb
  have hi : ((cfg0.win 13).blk ⟨15 - (n.val) / 4, hp⟩).view.emb (ix4 h ⟨n.val % 4, Nat.mod_lt _ (by decide)⟩ 0 e) = (ix4 h n 0 e) := by
    funext a; apply Fin.ext
    match a with
    | ⟨0, _⟩ => show win0_13.index _ 0 * 4 + 1 * h.val = h.val; rw [index13 _ 0]; show 0 * 4 + _ = _; omega
    | ⟨1, _⟩ => show win0_13.index _ 1 * 4 + 1 * (n.val % 4) = n.val; rw [index13 _ 1]; show (15 - (15 - n.val / 4)) * 4 + _ = _; omega
    | ⟨2, _⟩ => show win0_13.index _ 2 * 1 + 1 * 0 = 0; rw [index13 _ 2]; rfl
    | ⟨3, _⟩ => show win0_13.index _ 3 * 128 + 1 * e.val = e.val; rw [index13 _ 3]; show 0 * 128 + _ = _; omega
  rw [← hi]
  refine hb.trans ?_
  refine (dg_after m c _ hp h _ e).trans ?_
  have hs : 60 - 4 * (15 - n.val / 4) + n.val % 4 = n.val := by omega
  dsimp only
  rw [hs]

end Cert.Bwd

end
-- ==== Proof.BwdRef.lean ====
/- What the backward scan's reference computes over the extended reals: before trip `k` of its loop the carried gradient is the walk's
   after `k` chunks from the last one back, and chunks 64 − k … 63 of its six stacks hold their gradients. -/
module

public import proofs.«01_k».proof.Proof.Gen.ReferenceIdeal.Run
public import proofs.«01_k».proof.Proof.Slices
public import proofs.«01_k».proof.Proof.BwdModel

@[expose] public section

set_option maxRecDepth 16384

noncomputable section

namespace Cert.BwdRef

open Cert.ReferenceIdeal Cert.ReferenceIdeal.Gen Cert.ReferenceIdeal.Value Idealize.ShloMosaic Idealize.ShloMosaic.TcCoe Idealize.SL.Sem
open Idealize.ShloMosaic.StableHlo Idealize.ShloMosaic.Tactic Delta

/-- The contents of a trip's start. -/
abbrev Vals := Valuation τ sig (Elt Ideal)

abbrev rSt (V : Vals) : FVec Ideal S64x4x128x128 .f32 := V (Proc.devRef .tc main_v21_0)
abbrev rU (V : Vals) : FVec Ideal S64x4x64x128 .f32 := V (Proc.devRef .tc main_v21_1)
abbrev rW (V : Vals) : FVec Ideal S64x4x64x128 .f32 := V (Proc.devRef .tc main_v21_2)
abbrev rQ (V : Vals) : FVec Ideal S64x4x64x128 .f32 := V (Proc.devRef .tc main_v21_3)
abbrev rK (V : Vals) : FVec Ideal S64x4x64x128 .f32 := V (Proc.devRef .tc main_v21_4)
abbrev rA (V : Vals) : FVec Ideal S64x4x64x64 .f32 := V (Proc.devRef .tc main_v21_5)
abbrev rG (V : Vals) : FVec Ideal S64x4x1x128 .f32 := V (Proc.devRef .tc main_v21_6)
abbrev rY (V : Vals) : FVec Ideal S64x4x64x128 .f32 := V (Proc.devRef .tc main_v21_7)
abbrev rN (V : Vals) : IVec S_ 32 := V (Proc.devRef .tc main_v21_8)
abbrev rD (V : Vals) : FVec Ideal S4x128x128 .f32 := V (Proc.devRef .tc main_v21_9)
abbrev rdU (V : Vals) : FVec Ideal S64x4x64x128 .f32 := V (Proc.devRef .tc main_v21_10)
abbrev rdW (V : Vals) : FVec Ideal S64x4x64x128 .f32 := V (Proc.devRef .tc main_v21_11)
abbrev rdQ (V : Vals) : FVec Ideal S64x4x64x128 .f32 := V (Proc.devRef .tc main_v21_12)
abbrev rdK (V : Vals) : FVec Ideal S64x4x64x128 .f32 := V (Proc.devRef .tc main_v21_13)
abbrev rdA (V : Vals) : FVec Ideal S64x4x64x64 .f32 := V (Proc.devRef .tc main_v21_14)
abbrev rdG (V : Vals) : FVec Ideal S64x4x1x128 .f32 := V (Proc.devRef .tc main_v21_15)

/-- The chunk that trip `k` takes: `63 − k`, the loop's own subtraction of its counter. -/
theorem word_back : ∀ k : Fin 64, (64#32 - BitVec.ofNat 32 k.val) - 1#32 = BitVec.ofNat 32 (63 - k.val) := by decide +kernel

/-- A slice of chunk `n`, read without its first axis: rows of 128 lanes. -/
theorem take1 (x : FVec Ideal S64x4x64x128 .f32) {n : ℕ} (hn : n < 64) (start : Fin 4 → Int) (hs : StartsAt start n)
    (h : Fin 4) (c : Fin 64) (e : Fin 128) :
    shapeCast S4x64x128 (Host.dynamicSlice S1x4x64x128 x start sliceFits_S64x4x64x128_S1x4x64x128) shapeCasts_S1x4x64x128_S4x64x128 (ix3 h c e)
      = x (ix4 ⟨n, hn⟩ h c e) := by
  refine Eq.trans ?_ (slice_chunk x hn start hs sliceFits_S64x4x64x128_S1x4x64x128 0 h c e)
  generalize Host.dynamicSlice S1x4x64x128 x start sliceFits_S64x4x64x128_S1x4x64x128 = y
  pointwise

/-- A slice of chunk `n`, read without its first axis: rows of 64 lanes. -/
theorem take2 (x : FVec Ideal S64x4x64x64 .f32) {n : ℕ} (hn : n < 64) (start : Fin 4 → Int) (hs : StartsAt start n)
    (h : Fin 4) (c : Fin 64) (e : Fin 64) :
    shapeCast S4x64x64 (Host.dynamicSlice S1x4x64x64 x start sliceFits_S64x4x64x64_S1x4x64x64) shapeCasts_S1x4x64x64_S4x64x64 (ix3 h c e)
      = x (ix4 ⟨n, hn⟩ h c e) := by
  refine Eq.trans ?_ (slice_chunk x hn start hs sliceFits_S64x4x64x64_S1x4x64x64 0 h c e)
  generalize Host.dynamicSlice S1x4x64x64 x start sliceFits_S64x4x64x64_S1x4x64x64 = y
  pointwise

/-- A slice of chunk `n`, read without its first axis: lanes. -/
theorem take3 (x : FVec Ideal S64x4x1x128 .f32) {n : ℕ} (hn : n < 64) (start : Fin 4 → Int) (hs : StartsAt start n)
    (h : Fin 4) (c : Fin 1) (e : Fin 128) :
    shapeCast S4x1x128 (Host.dynamicSlice S1x4x1x128 x start sliceFits_S64x4x1x128_S1x4x1x128) shapeCasts_S1x4x1x128_S4x1x128 (ix3 h c e)
      = x (ix4 ⟨n, hn⟩ h 0 e) := by
  refine Eq.trans ?_ (slice_chunk x hn start hs sliceFits_S64x4x1x128_S1x4x1x128 0 h 0 e)
  generalize Host.dynamicSlice S1x4x1x128 x start sliceFits_S64x4x1x128_S1x4x1x128 = y
  pointwise

/-- A slice of chunk `n`, read without its first axis: squares. -/
theorem take4 (x : FVec Ideal S64x4x128x128 .f32) {n : ℕ} (hn : n < 64) (start : Fin 4 → Int) (hs : StartsAt start n)
    (h : Fin 4) (c : Fin 128) (e : Fin 128) :
    shapeCast S4x128x128 (Host.dynamicSlice S1x4x128x128 x start sliceFits_S64x4x128x128_S1x4x128x128) shapeCasts_S1x4x128x128_S4x128x128 (ix3 h c e)
      = x (ix4 ⟨n, hn⟩ h c e) := by
  refine Eq.trans ?_ (slice_chunk x hn start hs sliceFits_S64x4x128x128_S1x4x128x128 0 h c e)
  generalize Host.dynamicSlice S1x4x128x128 x start sliceFits_S64x4x128x128_S1x4x128x128 = y
  pointwise

/-! The trip's formulas, of any arrays whose head `h` is known. -/

section Formulas

variable (h : Fin 4)

theorem vn_formula (u w : FVec Ideal S4x64x128 .f32) (S : FVec Ideal S4x128x128 .f32) (U W : Mat 64 128) (M : Mat 128 128)
    (hu : ∀ c e, u (ix3 h c e) = U c e) (hw : ∀ c e, w (ix3 h c e) = W c e) (hS : ∀ d e, S (ix3 h d e) = M d e) (c : Fin 64) (e : Fin 128) :
    subf u (Host.dotGeneral dot_S4x64x128_S4x128x128_S4x64x128_2_1_1_2_0_0 none w S) (ix3 h c e) = U c e - ∑ d, W c d * M d e := by
  pointwise [hu, hw, hS]

theorem du_formula (D : FVec Ideal S4x128x128 .f32) (k y : FVec Ideal S4x64x128 .f32) (a : FVec Ideal S4x64x64 .f32) (K Y : Mat 64 128) (A : Mat 64 64)
    (hk : ∀ c e, k (ix3 h c e) = K c e) (hy : ∀ c e, y (ix3 h c e) = Y c e) (ha : ∀ c e, a (ix3 h c e) = A c e) (c : Fin 64) (e : Fin 128) :
    addf (transpose S4x64x128 [0, 2, 1] (Host.dotGeneral dot_S4x128x128_S4x64x128_S4x128x64_1_2_2_1_0_0 none D k) transposes_S4x128x64_S4x64x128_0_2_1)
      (transpose S4x64x128 [0, 2, 1] (Host.dotGeneral dot_S4x64x128_S4x64x64_S4x128x64_1_1_2_2_0_0 none y a) transposes_S4x128x64_S4x64x128_0_2_1) (ix3 h c e)
      = (∑ r, A r c * Y r e) + ∑ d, K c d * D (ix3 h d e) := by
  have e1 : addf (transpose S4x64x128 [0, 2, 1] (Host.dotGeneral dot_S4x128x128_S4x64x128_S4x128x64_1_2_2_1_0_0 none D k) transposes_S4x128x64_S4x64x128_0_2_1)
      (transpose S4x64x128 [0, 2, 1] (Host.dotGeneral dot_S4x64x128_S4x64x64_S4x128x64_1_1_2_2_0_0 none y a) transposes_S4x128x64_S4x64x128_0_2_1) (ix3 h c e)
      = (∑ d, D (ix3 h d e) * K c d) + ∑ r, Y r e * A r c := by pointwise [hk, hy, ha]
  rw [e1, add_comm]
  exact congrArg₂ (· + ·) (Finset.sum_congr rfl fun r _ => mul_comm _ _) (Finset.sum_congr rfl fun d _ => mul_comm _ _)

theorem neg_formula (x : FVec Ideal S4x64x128 .f32) (c : Fin 64) (e : Fin 128) : Host.negf x (ix3 h c e) = -x (ix3 h c e) := by
  pointwise

theorem back_formula (D : FVec Ideal S4x128x128 .f32) (g : FVec Ideal S4x1x128 .f32) (y q v w : FVec Ideal S4x64x128 .f32)
    (G : Fin 128 → EReal) (Y Q N W : Mat 64 128) (hg : ∀ e, g (ix3 h 0 e) = G e) (hy : ∀ c e, y (ix3 h c e) = Y c e)
    (hq : ∀ c e, q (ix3 h c e) = Q c e) (hv : ∀ c e, v (ix3 h c e) = N c e) (hw : ∀ c e, w (ix3 h c e) = W c e) (d e : Fin 128) :
    addf (addf (mulf D (broadcastInDim S4x128x128 ![0, 1, 2] bcast_S4x1x128_S4x128x128_0_1_2 g))
        (transpose S4x128x128 [0, 2, 1] (Host.dotGeneral dot_S4x64x128_S4x64x128_S4x128x128_1_1_2_2_0_0 none y q) transposes_S4x128x128_S4x128x128_0_2_1))
      (transpose S4x128x128 [0, 2, 1] (Host.dotGeneral dot_S4x64x128_S4x64x128_S4x128x128_1_1_2_2_0_0 none v w) transposes_S4x128x128_S4x128x128_0_2_1) (ix3 h d e)
      = (D (ix3 h d e) * G e + ∑ c, Y c e * Q c d) + ∑ c, N c e * W c d := by
  pointwise [hg, hy, hq, hv, hw]

theorem keep_formula (x : FVec Ideal S4x64x128 .f32) (z : Fin 1) (c : Fin 64) (e : Fin 128) :
    broadcastInDim S1x4x64x128 ![1, 2, 3] bcast_S4x64x128_S1x4x64x128_1_2_3 x (ix4 z h c e) = x (ix3 h c e) := by
  pointwise

/-- A product of rows with the transposed square: of the outgoing rows in `q`'s gradient, of the negated gradient in `w`'s. -/
theorem rowsS_formula (y : FVec Ideal S4x64x128 .f32) (S : FVec Ideal S4x128x128 .f32) (Y : Mat 64 128) (M : Mat 128 128)
    (hy : ∀ c e, y (ix3 h c e) = Y c e) (hS : ∀ d e, S (ix3 h d e) = M d e) (z : Fin 1) (c : Fin 64) (d : Fin 128) :
    broadcastInDim S1x4x64x128 ![1, 2, 3] bcast_S4x64x128_S1x4x64x128_1_2_3
      (Host.dotGeneral dot_S4x64x128_S4x128x128_S4x64x128_2_2_1_1_0_0 none y S) (ix4 z h c d) = ∑ e, Y c e * M d e := by
  pointwise [hy, hS]

theorem dk_formula (D : FVec Ideal S4x128x128 .f32) (v : FVec Ideal S4x64x128 .f32) (N : Mat 64 128)
    (hv : ∀ c e, v (ix3 h c e) = N c e) (z : Fin 1) (c : Fin 64) (d : Fin 128) :
    broadcastInDim S1x4x64x128 ![1, 2, 3] bcast_S4x64x128_S1x4x64x128_1_2_3
      (transpose S4x64x128 [0, 2, 1] (Host.dotGeneral dot_S4x128x128_S4x64x128_S4x128x64_2_2_1_1_0_0 none D v) transposes_S4x128x64_S4x64x128_0_2_1) (ix4 z h c d)
      = ∑ e, N c e * D (ix3 h d e) := by
  have e1 : broadcastInDim S1x4x64x128 ![1, 2, 3] bcast_S4x64x128_S1x4x64x128_1_2_3
      (transpose S4x64x128 [0, 2, 1] (Host.dotGeneral dot_S4x128x128_S4x64x128_S4x128x64_2_2_1_1_0_0 none D v) transposes_S4x128x64_S4x64x128_0_2_1) (ix4 z h c d)
      = ∑ e, D (ix3 h d e) * N c e := by pointwise [hv]
  rw [e1]
  exact Finset.sum_congr rfl fun e _ => mul_comm _ _

theorem da_formula (y v : FVec Ideal S4x64x128 .f32) (Y N : Mat 64 128)
    (hy : ∀ c e, y (ix3 h c e) = Y c e) (hv : ∀ c e, v (ix3 h c e) = N c e) (z : Fin 1) (c r : Fin 64) :
    broadcastInDim S1x4x64x64 ![1, 2, 3] bcast_S4x64x64_S1x4x64x64_1_2_3
      (Host.dotGeneral dot_S4x64x128_S4x64x128_S4x64x64_2_2_1_1_0_0 none y v) (ix4 z h c r) = ∑ e, Y c e * N r e := by
  pointwise [hy, hv]

theorem dg_formula (S D : FVec Ideal S4x128x128 .f32) (M : Mat 128 128) (hS : ∀ d e, S (ix3 h d e) = M d e) (z z' : Fin 1) (e : Fin 128) :
    broadcastInDim S1x4x1x128 ![1, 2, 3] bcast_S4x1x128_S1x4x1x128_1_2_3
      (shapeCast S4x1x128 (Host.reduceAdd (mulf S D) (constant S_ .f32 0x00000000#32) reducesTo_S4x128x128_S4x128_d1 h_S_) shapeCasts_S4x128_S4x1x128) (ix4 z h z' e)
      = ∑ d, D (ix3 h d e) * M d e := by
  have e1 : broadcastInDim S1x4x1x128 ![1, 2, 3] bcast_S4x1x128_S1x4x1x128_1_2_3
      (shapeCast S4x1x128 (Host.reduceAdd (mulf S D) (constant S_ .f32 0x00000000#32) reducesTo_S4x128x128_S4x128_d1 h_S_) shapeCasts_S4x128_S4x1x128) (ix4 z h z' e)
      = ∑ d, M d e * D (ix3 h d e) := by pointwise [hS]
  rw [e1]
  exact Finset.sum_congr rfl fun d _ => mul_comm _ _

end Formulas

/-- What chunk `n` of head `h` reads of a trip's arrays. -/
def chunkR (V : Vals) (h : Fin 4) (n : Fin 64) : Back where
  u c e := rU V (ix4 n h c e)
  w c e := rW V (ix4 n h c e)
  q c e := rQ V (ix4 n h c e)
  k c e := rK V (ix4 n h c e)
  a c r := rA V (ix4 n h c r)
  g e := rG V (ix4 n h 0 e)
  s d e := rSt V (ix4 n h d e)
  y c e := rY V (ix4 n h c e)

/-- Head `h` of a carried gradient. -/
abbrev matR (D : FVec Ideal S4x128x128 .f32) (h : Fin 4) : Mat 128 128 := fun d e => D (ix3 h d e)

/-- The chunk of trip `k`. -/
abbrev chunkOf (k : ℕ) : Fin 64 := ⟨63 - k, by omega⟩

section Trip

variable (V : Vals) (k : ℕ) (hk : k < 64) (hc : rN V = fun _ => BitVec.ofNat 32 k)
include hk hc

theorem starts : StartsAt (fun j => (((![res_main_while0b_v37 V, constantI S_ 32 0#32, constantI S_ 32 0#32, constantI S_ 32 0#32] : Fin 4 → (⟨S_, .i32⟩ : BufTy).Contents (Elt Ideal))) j (Shape.Idx.first h_S_)).toInt) (63 - k) := by
  refine startsAt_of_word (by omega) _ (?_ : res_main_while0b_v37 V (Shape.Idx.first h_S_) = _) _ rfl rfl rfl rfl
  unfold res_main_while0b_v37
  show (64#32 - rN V (Shape.Idx.first h_S_)) - 1#32 = _
  rw [hc]
  exact word_back ⟨k, hk⟩

theorem s_trip (h : Fin 4) (c : Fin 128) (e : Fin 128) :
    (res_main_while0b_v38 V : FVec Ideal S4x128x128 .f32) (ix3 h c e) = (chunkR V h (chunkOf k)).s c e := by
  unfold res_main_while0b_v38
  exact take4 (rSt V) (by omega) _ (starts V k hk hc) h c e

theorem w_trip (h : Fin 4) (c : Fin 64) (e : Fin 128) :
    (res_main_while0b_v40 V : FVec Ideal S4x64x128 .f32) (ix3 h c e) = (chunkR V h (chunkOf k)).w c e := by
  unfold res_main_while0b_v40
  exact take1 (rW V) (by omega) _ (starts V k hk hc) h c e

theorem q_trip (h : Fin 4) (c : Fin 64) (e : Fin 128) :
    (res_main_while0b_v41 V : FVec Ideal S4x64x128 .f32) (ix3 h c e) = (chunkR V h (chunkOf k)).q c e := by
  unfold res_main_while0b_v41
  exact take1 (rQ V) (by omega) _ (starts V k hk hc) h c e

theorem k_trip (h : Fin 4) (c : Fin 64) (e : Fin 128) :
    (res_main_while0b_v42 V : FVec Ideal S4x64x128 .f32) (ix3 h c e) = (chunkR V h (chunkOf k)).k c e := by
  unfold res_main_while0b_v42
  exact take1 (rK V) (by omega) _ (starts V k hk hc) h c e

theorem a_trip (h : Fin 4) (c : Fin 64) (e : Fin 64) :
    (res_main_while0b_v43 V : FVec Ideal S4x64x64 .f32) (ix3 h c e) = (chunkR V h (chunkOf k)).a c e := by
  unfold res_main_while0b_v43
  exact take2 (rA V) (by omega) _ (starts V k hk hc) h c e

theorem y_trip (h : Fin 4) (c : Fin 64) (e : Fin 128) :
    (res_main_while0b_v45 V : FVec Ideal S4x64x128 .f32) (ix3 h c e) = (chunkR V h (chunkOf k)).y c e := by
  unfold res_main_while0b_v45
  exact take1 (rY V) (by omega) _ (starts V k hk hc) h c e

theorem g_trip (h : Fin 4) (e : Fin 128) :
    (res_main_while0b_v44 V : FVec Ideal S4x1x128 .f32) (ix3 h 0 e) = (chunkR V h (chunkOf k)).g e := by
  unfold res_main_while0b_v44
  exact take3 (rG V) (by omega) _ (starts V k hk hc) h 0 e

theorem vn_trip (h : Fin 4) (c : Fin 64) (e : Fin 128) :
    (res_main_while0b_v47 V : FVec Ideal S4x64x128 .f32) (ix3 h c e) = kept (chunkR V h (chunkOf k)) c e := by
  unfold res_main_while0b_v47
  exact vn_formula h _ _ _ _ _ _ (take1 (rU V) (by omega) _ (starts V k hk hc) h) (w_trip V k hk hc h) (s_trip V k hk hc h) c e

theorem du_trip (h : Fin 4) (c : Fin 64) (e : Fin 128) :
    (res_main_while0b_v66 V : FVec Ideal S4x64x128 .f32) (ix3 h c e) = gradU (chunkR V h (chunkOf k)) (matR (rD V) h) c e := by
  unfold res_main_while0b_v66
  exact du_formula h _ _ _ _ _ _ _ (k_trip V k hk hc h) (y_trip V k hk hc h) (a_trip V k hk hc h) c e

theorem neg_trip (h : Fin 4) (c : Fin 64) (e : Fin 128) :
    (res_main_while0b_v72 V : FVec Ideal S4x64x128 .f32) (ix3 h c e) = -gradU (chunkR V h (chunkOf k)) (matR (rD V) h) c e := by
  unfold res_main_while0b_v72
  exact (neg_formula h _ c e).trans (congrArg Neg.neg (du_trip V k hk hc h c e))

theorem back_trip (h : Fin 4) : matR (step_main_v21_9 V) h = back' (chunkR V h (chunkOf k)) (matR (rD V) h) := by
  funext d e
  unfold matR step_main_v21_9
  exact back_formula h _ _ _ _ _ _ _ _ _ _ _ (g_trip V k hk hc h) (y_trip V k hk hc h) (q_trip V k hk hc h) (neg_trip V k hk hc h) (w_trip V k hk hc h) d e

theorem dU_trip (i : Fin 64) (h : Fin 4) (c : Fin 64) (e : Fin 128) :
    (step_main_v21_10 V : FVec Ideal S64x4x64x128 .f32) (ix4 i h c e)
      = if i.val = 63 - k then gradU (chunkR V h (chunkOf k)) (matR (rD V) h) c e else rdU V (ix4 i h c e) := by
  unfold step_main_v21_10
  refine (update_chunk _ _ (by omega) _ (starts V k hk hc) _ i h c e).trans (if_congr Iff.rfl ?_ rfl)
  exact (keep_formula h _ 0 c e).trans (du_trip V k hk hc h c e)

theorem dW_trip (i : Fin 64) (h : Fin 4) (c : Fin 64) (e : Fin 128) :
    (step_main_v21_11 V : FVec Ideal S64x4x64x128 .f32) (ix4 i h c e)
      = if i.val = 63 - k then gradW' (chunkR V h (chunkOf k)) (matR (rD V) h) c e else rdW V (ix4 i h c e) := by
  unfold step_main_v21_11
  refine (update_chunk _ _ (by omega) _ (starts V k hk hc) _ i h c e).trans (if_congr Iff.rfl ?_ rfl)
  exact rowsS_formula h _ _ _ _ (neg_trip V k hk hc h) (s_trip V k hk hc h) 0 c e

theorem dQ_trip (i : Fin 64) (h : Fin 4) (c : Fin 64) (e : Fin 128) :
    (step_main_v21_12 V : FVec Ideal S64x4x64x128 .f32) (ix4 i h c e)
      = if i.val = 63 - k then gradQ (chunkR V h (chunkOf k)) c e else rdQ V (ix4 i h c e) := by
  unfold step_main_v21_12
  refine (update_chunk _ _ (by omega) _ (starts V k hk hc) _ i h c e).trans (if_congr Iff.rfl ?_ rfl)
  exact rowsS_formula h _ _ _ _ (y_trip V k hk hc h) (s_trip V k hk hc h) 0 c e

theorem dK_trip (i : Fin 64) (h : Fin 4) (c : Fin 64) (e : Fin 128) :
    (step_main_v21_13 V : FVec Ideal S64x4x64x128 .f32) (ix4 i h c e)
      = if i.val = 63 - k then gradK (chunkR V h (chunkOf k)) (matR (rD V) h) c e else rdK V (ix4 i h c e) := by
  unfold step_main_v21_13
  refine (update_chunk _ _ (by omega) _ (starts V k hk hc) _ i h c e).trans (if_congr Iff.rfl ?_ rfl)
  exact dk_formula h _ _ _ (vn_trip V k hk hc h) 0 c e

theorem dA_trip (i : Fin 64) (h : Fin 4) (c : Fin 64) (e : Fin 64) :
    (step_main_v21_14 V : FVec Ideal S64x4x64x64 .f32) (ix4 i h c e)
      = if i.val = 63 - k then gradA (chunkR V h (chunkOf k)) c e else rdA V (ix4 i h c e) := by
  unfold step_main_v21_14
  refine (update_chunk _ _ (by omega) _ (starts V k hk hc) _ i h c e).trans (if_congr Iff.rfl ?_ rfl)
  exact da_formula h _ _ _ _ (y_trip V k hk hc h) (vn_trip V k hk hc h) 0 c e

theorem dG_trip (i : Fin 64) (h : Fin 4) (e : Fin 128) :
    (step_main_v21_15 V : FVec Ideal S64x4x1x128 .f32) (ix4 i h 0 e)
      = if i.val = 63 - k then gradG (chunkR V h (chunkOf k)) (matR (rD V) h) e else rdG V (ix4 i h 0 e) := by
  unfold step_main_v21_15
  refine (update_chunk _ _ (by omega) _ (starts V k hk hc) _ i h 0 e).trans (if_congr Iff.rfl ?_ rfl)
  exact dg_formula h _ _ _ (s_trip V k hk hc h) 0 0 e

end Trip

/-! ## The trips -/

variable (m : (ℓ : Loc nD τ sig) → Buf (Elt Ideal) ℓ) (c : Dev nD)

/-- What the backward pass of chunk `n` of head `h` reads of the arguments. -/
abbrev X (h : Fin 4) (n : ℕ) : Back :=
  Back.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) h n

/-- The contents before trip `k`. -/
abbrev at_ (k : ℕ) : Vals := STEP^[k] (entryContents preI m c)

theorem unrows_formula (x : Rows 128) (n : Fin 64) (h : Fin 4) (p : Fin 64) (e : Fin 128) :
    transpose S64x4x64x128 [1, 0, 2, 3] (shapeCast S4x64x64x128 (x : FVec Ideal S4x4096x128 .f32) shapeCasts_S4x4096x128_S4x64x64x128)
      transposes_S4x64x64x128_S64x4x64x128_1_0_2_3 (ix4 n h p e) = rowsOf x h n.val p e := by
  pointwise [rowsOf, row]
  exact congrArg (fun i => x (ix3 h i e)) (Fin.ext (by show n.val * 64 + p.val = (64 * n.val + p.val) % 4096; omega))

theorem unatt_formula (x : Rows 64) (n : Fin 64) (h : Fin 4) (p : Fin 64) (e : Fin 64) :
    transpose S64x4x64x64 [1, 0, 2, 3] (shapeCast S4x64x64x64 (x : FVec Ideal S4x4096x64 .f32) shapeCasts_S4x4096x64_S4x64x64x64)
      transposes_S4x64x64x64_S64x4x64x64_1_0_2_3 (ix4 n h p e) = rowsOf x h n.val p e := by
  pointwise [rowsOf, row]
  exact congrArg (fun i => x (ix3 h i e)) (Fin.ext (by show n.val * 64 + p.val = (64 * n.val + p.val) % 4096; omega))

theorem unlanes_formula (x : Lanes) (n : Fin 64) (h : Fin 4) (e : Fin 128) :
    transpose S64x4x1x128 [1, 0, 2, 3] (x : FVec Ideal S4x64x1x128 .f32) transposes_S4x64x1x128_S64x4x1x128_1_0_2_3 (ix4 n h 0 e)
      = lanesOf x h n.val e := by
  pointwise [lanesOf, chk]
  exact congrArg (fun i => x (ix4 h i 0 e)) (Fin.ext (by show n.val = n.val % 64; omega))

theorem unsquares_formula (x : Squares) (n : Fin 64) (h : Fin 4) (d e : Fin 128) :
    transpose S64x4x128x128 [1, 0, 2, 3] (x : FVec Ideal S4x64x128x128 .f32) transposes_S4x64x128x128_S64x4x128x128_1_0_2_3 (ix4 n h d e)
      = squareOf x h n.val d e := by
  pointwise [squareOf, chk]
  exact congrArg (fun i => x (ix4 h i d e)) (Fin.ext (by show n.val = n.val % 64; omega))

theorem entryU (h : Fin 4) (n p : Fin 64) (e : Fin 128) :
    rU (at_ m c 0) (ix4 n h p e) = rowsOf (m ((c.tc : Thread nD τ).loc main_arg0)) h n.val p e := by
  refine Eq.trans (congrFun (?_ : rU (at_ m c 0) = transpose S64x4x64x128 [1, 0, 2, 3] (shapeCast S4x64x64x128
    (m ((c.tc : Thread nD τ).loc main_arg0) : FVec Ideal S4x4096x128 .f32) shapeCasts_S4x4096x128_S4x64x64x128)
    transposes_S4x64x64x128_S64x4x64x128_1_0_2_3) _) (unrows_formula _ n h p e)
  show entryContents preI m c (Proc.devRef .tc main_v21_1) = _
  simp only [entryContents, afterL_cons, afterL_nil]
  after_reads_simp
  rfl

theorem entryW (h : Fin 4) (n p : Fin 64) (e : Fin 128) :
    rW (at_ m c 0) (ix4 n h p e) = rowsOf (m ((c.tc : Thread nD τ).loc main_arg1)) h n.val p e := by
  refine Eq.trans (congrFun (?_ : rW (at_ m c 0) = transpose S64x4x64x128 [1, 0, 2, 3] (shapeCast S4x64x64x128
    (m ((c.tc : Thread nD τ).loc main_arg1) : FVec Ideal S4x4096x128 .f32) shapeCasts_S4x4096x128_S4x64x64x128)
    transposes_S4x64x64x128_S64x4x64x128_1_0_2_3) _) (unrows_formula _ n h p e)
  show entryContents preI m c (Proc.devRef .tc main_v21_2) = _
  simp only [entryContents, afterL_cons, afterL_nil]
  after_reads_simp
  rfl

theorem entryQ (h : Fin 4) (n p : Fin 64) (e : Fin 128) :
    rQ (at_ m c 0) (ix4 n h p e) = rowsOf (m ((c.tc : Thread nD τ).loc main_arg2)) h n.val p e := by
  refine Eq.trans (congrFun (?_ : rQ (at_ m c 0) = transpose S64x4x64x128 [1, 0, 2, 3] (shapeCast S4x64x64x128
    (m ((c.tc : Thread nD τ).loc main_arg2) : FVec Ideal S4x4096x128 .f32) shapeCasts_S4x4096x128_S4x64x64x128)
    transposes_S4x64x64x128_S64x4x64x128_1_0_2_3) _) (unrows_formula _ n h p e)
  show entryContents preI m c (Proc.devRef .tc main_v21_3) = _
  simp only [entryContents, afterL_cons, afterL_nil]
  after_reads_simp
  rfl

theorem entryK (h : Fin 4) (n p : Fin 64) (e : Fin 128) :
    rK (at_ m c 0) (ix4 n h p e) = rowsOf (m ((c.tc : Thread nD τ).loc main_arg3)) h n.val p e := by
  refine Eq.trans (congrFun (?_ : rK (at_ m c 0) = transpose S64x4x64x128 [1, 0, 2, 3] (shapeCast S4x64x64x128
    (m ((c.tc : Thread nD τ).loc main_arg3) : FVec Ideal S4x4096x128 .f32) shapeCasts_S4x4096x128_S4x64x64x128)
    transposes_S4x64x64x128_S64x4x64x128_1_0_2_3) _) (unrows_formula _ n h p e)
  show entryContents preI m c (Proc.devRef .tc main_v21_4) = _
  simp only [entryContents, afterL_cons, afterL_nil]
  after_reads_simp
  rfl

theorem entryA (h : Fin 4) (n p r : Fin 64) :
    rA (at_ m c 0) (ix4 n h p r) = rowsOf (m ((c.tc : Thread nD τ).loc main_arg4)) h n.val p r := by
  refine Eq.trans (congrFun (?_ : rA (at_ m c 0) = transpose S64x4x64x64 [1, 0, 2, 3] (shapeCast S4x64x64x64
    (m ((c.tc : Thread nD τ).loc main_arg4) : FVec Ideal S4x4096x64 .f32) shapeCasts_S4x4096x64_S4x64x64x64)
    transposes_S4x64x64x64_S64x4x64x64_1_0_2_3) _) (unatt_formula _ n h p r)
  show entryContents preI m c (Proc.devRef .tc main_v21_5) = _
  simp only [entryContents, afterL_cons, afterL_nil]
  after_reads_simp
  rfl

theorem entryG (h : Fin 4) (n : Fin 64) (e : Fin 128) :
    rG (at_ m c 0) (ix4 n h 0 e) = lanesOf (m ((c.tc : Thread nD τ).loc main_arg5)) h n.val e := by
  refine Eq.trans (congrFun (?_ : rG (at_ m c 0) = transpose S64x4x1x128 [1, 0, 2, 3]
    (m ((c.tc : Thread nD τ).loc main_arg5) : FVec Ideal S4x64x1x128 .f32) transposes_S4x64x1x128_S64x4x1x128_1_0_2_3) _)
    (unlanes_formula _ n h e)
  show entryContents preI m c (Proc.devRef .tc main_v21_6) = _
  simp only [entryContents, afterL_cons, afterL_nil]
  after_reads_simp
  rfl

theorem entrySt (h : Fin 4) (n : Fin 64) (d e : Fin 128) :
    rSt (at_ m c 0) (ix4 n h d e) = squareOf (m ((c.tc : Thread nD τ).loc main_arg6)) h n.val d e := by
  refine Eq.trans (congrFun (?_ : rSt (at_ m c 0) = transpose S64x4x128x128 [1, 0, 2, 3]
    (m ((c.tc : Thread nD τ).loc main_arg6) : FVec Ideal S4x64x128x128 .f32) transposes_S4x64x128x128_S64x4x128x128_1_0_2_3) _)
    (unsquares_formula _ n h d e)
  show entryContents preI m c (Proc.devRef .tc main_v21_0) = _
  simp only [entryContents, afterL_cons, afterL_nil]
  after_reads_simp
  rfl

theorem entryY (h : Fin 4) (n p : Fin 64) (e : Fin 128) :
    rY (at_ m c 0) (ix4 n h p e) = rowsOf (m ((c.tc : Thread nD τ).loc main_arg7)) h n.val p e := by
  refine Eq.trans (congrFun (?_ : rY (at_ m c 0) = transpose S64x4x64x128 [1, 0, 2, 3] (shapeCast S4x64x64x128
    (m ((c.tc : Thread nD τ).loc main_arg7) : FVec Ideal S4x4096x128 .f32) shapeCasts_S4x4096x128_S4x64x64x128)
    transposes_S4x64x64x128_S64x4x64x128_1_0_2_3) _) (unrows_formula _ n h p e)
  show entryContents preI m c (Proc.devRef .tc main_v21_7) = _
  simp only [entryContents, afterL_cons, afterL_nil]
  after_reads_simp
  rfl

theorem chunk_entry (h : Fin 4) (n : Fin 64) : chunkR (at_ m c 0) h n = X m c h n.val := by
  unfold chunkR X Back.of
  congr 1
  · funext p e; exact entryU m c h n p e
  · funext p e; exact entryW m c h n p e
  · funext p e; exact entryQ m c h n p e
  · funext p e; exact entryK m c h n p e
  · funext p e; exact entryA m c h n p e
  · funext e; exact entryG m c h n e
  · funext d e; exact entrySt m c h n d e
  · funext p e; exact entryY m c h n p e

theorem counter_entry : rN (at_ m c 0) = fun _ => BitVec.ofNat 32 0 := by
  show entryContents preI m c (Proc.devRef .tc main_v21_8) = _
  simp only [entryContents, afterL_cons, afterL_nil]
  after_reads_simp
  rfl

theorem state_entry (h : Fin 4) : matR (rD (at_ m c 0)) h = walk' (X m c h) 0 := by
  have e : rD (at_ m c 0) = broadcastInDim S4x128x128 ![] bcast_S_S4x128x128 (constant S_ .f32 0x00000000#32) := by
    show entryContents preI m c (Proc.devRef .tc main_v21_9) = _
    simp only [entryContents, afterL_cons, afterL_nil]
    after_reads_simp
    rfl
  rw [e]
  funext d e
  show broadcastInDim S4x128x128 ![] bcast_S_S4x128x128 (constant (F := Ideal) S_ .f32 0x00000000#32) (ix3 h d e) = (0 : EReal)
  pointwise

theorem chunk_trip (V : Vals) (h : Fin 4) (n : Fin 64) : chunkR (STEP V) h n = chunkR V h n := by
  unfold chunkR rU rW rQ rK rA rG rSt rY
  rw [STEP_main_v21_0, STEP_main_v21_1, STEP_main_v21_2, STEP_main_v21_3, STEP_main_v21_4, STEP_main_v21_5, STEP_main_v21_6, STEP_main_v21_7]

/-- THE INVARIANT of the loop. -/
structure Inv (k : ℕ) (V : Vals) : Prop where
  counter : rN V = fun _ => BitVec.ofNat 32 k
  chunks : ∀ h (n : Fin 64), chunkR V h n = X m c h n.val
  state : ∀ h, matR (rD V) h = walk' (X m c h) k
  dU : ∀ (i : Fin 64), 63 - i.val < k → ∀ h c' e, rdU V (ix4 i h c' e) = gradU (X m c h i.val) (walk' (X m c h) (63 - i.val)) c' e
  dW : ∀ (i : Fin 64), 63 - i.val < k → ∀ h c' e, rdW V (ix4 i h c' e) = gradW' (X m c h i.val) (walk' (X m c h) (63 - i.val)) c' e
  dQ : ∀ (i : Fin 64), 63 - i.val < k → ∀ h c' e, rdQ V (ix4 i h c' e) = gradQ (X m c h i.val) c' e
  dK : ∀ (i : Fin 64), 63 - i.val < k → ∀ h c' e, rdK V (ix4 i h c' e) = gradK (X m c h i.val) (walk' (X m c h) (63 - i.val)) c' e
  dA : ∀ (i : Fin 64), 63 - i.val < k → ∀ h c' e, rdA V (ix4 i h c' e) = gradA (X m c h i.val) c' e
  dG : ∀ (i : Fin 64), 63 - i.val < k → ∀ h e, rdG V (ix4 i h 0 e) = gradG (X m c h i.val) (walk' (X m c h) (63 - i.val)) e

theorem inv_step (k : ℕ) (hk : k < 64) (V : Vals) (H : Inv m c k V) : Inv m c (k + 1) (STEP V) where
  counter := by
    unfold rN
    rw [STEP_main_v21_8]
    funext i
    show rN V i + 1#32 = _
    rw [H.counter, BitVec.ofNat_add]
  chunks h n := (chunk_trip V h n).trans (H.chunks h n)
  state h := by
    unfold rD
    rw [STEP_main_v21_9]
    refine (back_trip V k hk H.counter h).trans ?_
    rw [H.chunks, H.state]
    rfl
  dU i hi h c' e := by
    unfold rdU
    rw [STEP_main_v21_10]
    refine (dU_trip V k hk H.counter i h c' e).trans ?_
    by_cases he : i.val = 63 - k
    · rw [if_pos he, H.chunks, H.state, he, (by omega : 63 - (63 - k) = k)]
    · rw [if_neg he]; exact H.dU i (by omega) h c' e
  dW i hi h c' e := by
    unfold rdW
    rw [STEP_main_v21_11]
    refine (dW_trip V k hk H.counter i h c' e).trans ?_
    by_cases he : i.val = 63 - k
    · rw [if_pos he, H.chunks, H.state, he, (by omega : 63 - (63 - k) = k)]
    · rw [if_neg he]; exact H.dW i (by omega) h c' e
  dQ i hi h c' e := by
    unfold rdQ
    rw [STEP_main_v21_12]
    refine (dQ_trip V k hk H.counter i h c' e).trans ?_
    by_cases he : i.val = 63 - k
    · rw [if_pos he, H.chunks, he]
    · rw [if_neg he]; exact H.dQ i (by omega) h c' e
  dK i hi h c' e := by
    unfold rdK
    rw [STEP_main_v21_13]
    refine (dK_trip V k hk H.counter i h c' e).trans ?_
    by_cases he : i.val = 63 - k
    · rw [if_pos he, H.chunks, H.state, he, (by omega : 63 - (63 - k) = k)]
    · rw [if_neg he]; exact H.dK i (by omega) h c' e
  dA i hi h c' e := by
    unfold rdA
    rw [STEP_main_v21_14]
    refine (dA_trip V k hk H.counter i h c' e).trans ?_
    by_cases he : i.val = 63 - k
    · rw [if_pos he, H.chunks, he]
    · rw [if_neg he]; exact H.dA i (by omega) h c' e
  dG i hi h e := by
    unfold rdG
    rw [STEP_main_v21_15]
    refine (dG_trip V k hk H.counter i h e).trans ?_
    by_cases he : i.val = 63 - k
    · rw [if_pos he, H.chunks, H.state, he, (by omega : 63 - (63 - k) = k)]
    · rw [if_neg he]; exact H.dG i (by omega) h e

theorem inv (k : ℕ) (hk : k ≤ 64) : Inv m c k (at_ m c k) := by
  induction k with
  | zero => exact ⟨counter_entry m c, chunk_entry m c, state_entry m c, fun i hi => absurd hi (Nat.not_lt_zero _), fun i hi => absurd hi (Nat.not_lt_zero _), fun i hi => absurd hi (Nat.not_lt_zero _), fun i hi => absurd hi (Nat.not_lt_zero _), fun i hi => absurd hi (Nat.not_lt_zero _), fun i hi => absurd hi (Nat.not_lt_zero _)⟩
  | succ k ih =>
    unfold at_
    rw [Function.iterate_succ_apply']
    exact inv_step m c k (by omega) _ (ih (by omega))

/-! ## The results -/

theorem unchunk_formula (y : FVec Ideal S64x4x64x128 .f32) (h : Fin 4) (i : Fin 4096) (e : Fin 128) :
    shapeCast S4x4096x128 (transpose S4x64x64x128 [1, 0, 2, 3] y transposes_S64x4x64x128_S4x64x64x128_1_0_2_3) shapeCasts_S4x64x64x128_S4x4096x128 (ix3 h i e)
      = y (ix4 ⟨i.val / 64, by omega⟩ h ⟨i.val % 64, Nat.mod_lt _ (by decide)⟩ e) := by
  pointwise

theorem swap_formula (y : FVec Ideal S64x4x1x128 .f32) (h : Fin 4) (n : Fin 64) (z : Fin 1) (e : Fin 128) :
    transpose S4x64x1x128 [1, 0, 2, 3] y transposes_S64x4x1x128_S4x64x1x128_1_0_2_3 (ix4 h n z e) = y (ix4 n h 0 e) := by
  pointwise

/-- The comparison of two positions of a chunk, over their words. -/
theorem sge_word : ∀ a b : Fin 64,
    IntOp.cmpi .sge (BitVec.ofNat 32 a.val + 0#32) (BitVec.ofNat 32 b.val) = if b.val ≤ a.val then 1#1 else 0#1 := by
  decide +kernel

/-- The lower triangle of a chunk's positions, as the mask the reference builds. -/
abbrev trilMask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem tril_apply (c r : Fin 64) : trilMask (ix2 c r) = if r.val ≤ c.val then 1#1 else 0#1 := by
  show Scalar.select (IntOp.cmpi .sge (BitVec.ofNat 32 c.val + 0#32) (BitVec.ofNat 32 r.val)) 1#1 0#1 = _
  rw [sge_word]
  split <;> rfl

theorem select_tril (c r : Fin 64) (x y : EReal) (h : x = y) :
    Scalar.select (trilMask (ix2 c r)) x 0 = if r.val ≤ c.val then y else 0 := by
  rw [tril_apply, h]
  split <;> rfl

theorem mask_formula (M : IVec S64x64 1) (y : FVec Ideal S64x4x64x64 .f32) (h : Fin 4) (i : Fin 4096) (e : Fin 64) :
    shapeCast S4x4096x64 (transpose S4x64x64x64 [1, 0, 2, 3] (select (broadcastInDim S64x4x64x64 ![2, 3] bcast_S64x64_S64x4x64x64_2_3 M) y
      (broadcastInDim S64x4x64x64 ![] bcast_S_S64x4x64x64 (id (constant S_ .f32 0x00000000#32)))) transposes_S64x4x64x64_S4x64x64x64_1_0_2_3)
      shapeCasts_S4x64x64x64_S4x4096x64 (ix3 h i e)
      = Scalar.select (M (ix2 ⟨i.val % 64, Nat.mod_lt _ (by decide)⟩ e)) (y (ix4 ⟨i.val / 64, by omega⟩ h ⟨i.val % 64, Nat.mod_lt _ (by decide)⟩ e)) (0 : EReal) := by
  simp only [id]
  pointwise

theorem dU_apply (h : Fin 4) (i : Fin 4096) (e : Fin 128) :
    (out_main_v26 (at_ m c 64) : Rows 128) (ix3 h i e)
      = gradU (X m c h (i.val / 64)) (walk' (X m c h) (63 - (i.val / 64))) ⟨i.val % 64, Nat.mod_lt _ (by decide)⟩ e := by
  unfold out_main_v26
  refine (unchunk_formula _ h i e).trans ?_
  exact (inv m c 64 le_rfl).dU ⟨i.val / 64, by omega⟩ (by show 63 - i.val / 64 < 64; omega) h _ e

theorem dW_apply (h : Fin 4) (i : Fin 4096) (e : Fin 128) :
    (out_main_v28 (at_ m c 64) : Rows 128) (ix3 h i e)
      = gradW' (X m c h (i.val / 64)) (walk' (X m c h) (63 - (i.val / 64))) ⟨i.val % 64, Nat.mod_lt _ (by decide)⟩ e := by
  unfold out_main_v28
  refine (unchunk_formula _ h i e).trans ?_
  exact (inv m c 64 le_rfl).dW ⟨i.val / 64, by omega⟩ (by show 63 - i.val / 64 < 64; omega) h _ e

theorem dQ_apply (h : Fin 4) (i : Fin 4096) (e : Fin 128) :
    (out_main_v30 (at_ m c 64) : Rows 128) (ix3 h i e)
      = gradQ (X m c h (i.val / 64)) ⟨i.val % 64, Nat.mod_lt _ (by decide)⟩ e := by
  unfold out_main_v30
  refine (unchunk_formula _ h i e).trans ?_
  exact (inv m c 64 le_rfl).dQ ⟨i.val / 64, by omega⟩ (by show 63 - i.val / 64 < 64; omega) h _ e

theorem dK_apply (h : Fin 4) (i : Fin 4096) (e : Fin 128) :
    (out_main_v32 (at_ m c 64) : Rows 128) (ix3 h i e)
      = gradK (X m c h (i.val / 64)) (walk' (X m c h) (63 - (i.val / 64))) ⟨i.val % 64, Nat.mod_lt _ (by decide)⟩ e := by
  unfold out_main_v32
  refine (unchunk_formula _ h i e).trans ?_
  exact (inv m c 64 le_rfl).dK ⟨i.val / 64, by omega⟩ (by show 63 - i.val / 64 < 64; omega) h _ e

theorem dA_apply (h : Fin 4) (i : Fin 4096) (e : Fin 64) :
    (out_main_v34 (at_ m c 64) : Rows 64) (ix3 h i e)
      = gradAm (X m c h (i.val / 64)) ⟨i.val % 64, Nat.mod_lt _ (by decide)⟩ e := by
  unfold out_main_v34
  refine (mask_formula trilMask _ h i e).trans ?_
  exact select_tril _ _ _ _ ((inv m c 64 le_rfl).dA ⟨i.val / 64, by omega⟩ (by show 63 - i.val / 64 < 64; omega) h ⟨i.val % 64, Nat.mod_lt _ (by decide)⟩ e)

theorem dG_apply (h : Fin 4) (n : Fin 64) (e : Fin 128) :
    (out_main_v35 (at_ m c 64) : Lanes) (ix4 h n 0 e) = gradG (X m c h n.val) (walk' (X m c h) (63 - n.val)) e := by
  unfold out_main_v35
  exact (swap_formula _ h n 0 e).trans ((inv m c 64 le_rfl).dG n (by omega) h e)

end Cert.BwdRef

end
-- ==== Proof.BwdClaim.lean ====
/- The backward scan's value claim: for finite arguments kernel and reference compute the same six gradients. -/
module

public import proofs.«01_k».proof.Defs
public import proofs.«01_k».proof.Proof.BwdKernel
public import proofs.«01_k».proof.Proof.BwdRef
public import proofs.«01_k».proof.Proof.FwdClaim
public import Idealize.ShloMosaic.Lib.ReduceAll

@[expose] public section

set_option maxRecDepth 16384

noncomputable section

namespace Cert.BwdClaim

open Idealize.ShloMosaic Idealize.ShloMosaic.TcCoe Idealize.ShloMosaic.StableHlo Idealize.SL.Sem Delta
open Cert.FwdClaim (rows_ext)

/-- Two arrays of lanes that agree everywhere are equal. -/
theorem lanes_ext (x y : Lanes) (h : ∀ (a : Fin 4) (n : Fin 64) (e : Fin 128), x (ix4 a n 0 e) = y (ix4 a n 0 e)) : x = y := by
  funext i
  have e : i = ix4 (i 0) (i 1) 0 (i 3) := by
    funext a
    match a with
    | ⟨0, _⟩ => rfl
    | ⟨1, _⟩ => rfl
    | ⟨2, _⟩ => exact Fin.ext (show (i 2).val = 0 by have h2 : (i 2).val < 1 := (i 2).isLt; omega)
    | ⟨3, _⟩ => rfl
  rw [e]; exact h _ _ _

/-! ## The precondition -/

/-- A number whose absolute value compares below `+∞` is finite. -/
theorem finite_of_cmp (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  constructor
  · rintro rfl; simp at h
  · rintro rfl; simp at h

instance : Subsingleton Cert.Pre_finite.S_.Idx := ⟨fun a b => funext fun i => i.elim0⟩

/-- The printed "every number of `x` is finite" gives it of each. -/
theorem finite_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) hr hu j = 1#1) (i : s.Idx) : Fin' (x i) :=
  finite_of_cmp _ (Host.reduce_andi_all _ _ hr hu j e i)

theorem and_word : ∀ a b : BitVec 1, a &&& b = 1#1 → a = 1#1 ∧ b = 1#1 := by decide

theorem and_split (a b : IVec Cert.Pre_finite.S_ 1) (j : Cert.Pre_finite.S_.Idx) (e : andi a b j = 1#1) : a j = 1#1 ∧ b j = 1#1 :=
  and_word _ _ e

/-- The printed conjunction of eight is all eight. -/
theorem and_all (a b c d p q r s : IVec Cert.Pre_finite.S_ 1) (j : Cert.Pre_finite.S_.Idx)
    (e : andi (andi (andi (andi (andi (andi (andi a b) c) d) p) q) r) s j = 1#1) :
    a j = 1#1 ∧ b j = 1#1 ∧ c j = 1#1 ∧ d j = 1#1 ∧ p j = 1#1 ∧ q j = 1#1 ∧ r j = 1#1 ∧ s j = 1#1 := by
  have e7 := and_split _ _ _ e
  have e6 := and_split _ _ _ e7.1
  have e5 := and_split _ _ _ e6.1
  have e4 := and_split _ _ _ e5.1
  have e3 := and_split _ _ _ e4.1
  have e2 := and_split _ _ _ e3.1
  have e1 := and_split _ _ _ e2.1
  exact ⟨e1.1, e1.2, e2.2, e3.2, e4.2, e5.2, e6.2, e7.2⟩

theorem finite_args [Cert.Pre_finite.Facts] (x0 x1 x2 x3 : Rows 128) (x4 : Rows 64) (x5 : Lanes) (x6 : Squares) (x7 : Rows 128)
    (hp : Cert.Pre_finite.fn (F := Ideal) x0 x1 x2 x3 x4 x5 x6 x7 = fun _ => 1#1) (h : Fin 4) (n : ℕ) :
    (Back.of x0 x1 x2 x3 x4 x5 x6 x7 h n).Finite := by
  have e := congrFun hp (Shape.Idx.first Cert.Pre_finite.Facts.h_S_)
  dsimp only [Cert.Pre_finite.fn, Cert.Pre_finite.fn_part1, Cert.Pre_finite.fn_part2] at e
  obtain ⟨e0, e1, e2, e3, e4, e5, e6, e7⟩ := and_all _ _ _ _ _ _ _ _ _ e
  clear e hp
  have f0 : ∀ i, Fin' (x0 i) := finite_all x0 _ _ _ _ e0
  have f1 : ∀ i, Fin' (x1 i) := finite_all x1 _ _ _ _ e1
  have f2 : ∀ i, Fin' (x2 i) := finite_all x2 _ _ _ _ e2
  have f3 : ∀ i, Fin' (x3 i) := finite_all x3 _ _ _ _ e3
  have f4 : ∀ i, Fin' (x4 i) := finite_all x4 _ _ _ _ e4
  have f5 : ∀ i, Fin' (x5 i) := finite_all x5 _ _ _ _ e5
  have f6 : ∀ i, Fin' (x6 i) := finite_all x6 _ _ _ _ e6
  have f7 : ∀ i, Fin' (x7 i) := finite_all x7 _ _ _ _ e7
  clear e0 e1 e2 e3 e4 e5 e6 e7
  constructor
  · exact fun _ _ => f0 _
  · exact fun _ _ => f1 _
  · exact fun _ _ => f2 _
  · exact fun _ _ => f3 _
  · exact fun _ _ => f4 _
  · exact fun _ => f5 _
  · exact fun _ _ => f6 _
  · exact fun _ _ => f7 _

/-! ## The claim -/

theorem algebraic [Cert.KernelIdeal.Facts] [Cert.ReferenceIdeal.Facts] [Cert.Pre_finite.Facts] :
    Cert.algebraic_KernelIdeal_ReferenceIdeal_pre_finite := by
  intro m g m' g' hpre hargs
  have hX : ∀ (c : Dev Cert.KernelIdeal.nD) h, Cert.BwdRef.X m' c h = Cert.Bwd.X m c h := by
    intro c h
    obtain ⟨h0, h1, h2, h3, h4, h5, h6, h7⟩ := hargs c
    funext n
    unfold Cert.BwdRef.X Cert.Bwd.X
    rw [h0, h1, h2, h3, h4, h5, h6, h7]
  have hF : ∀ (c : Dev Cert.KernelIdeal.nD) h n, (Cert.Bwd.X m c h n).Finite := fun c h n => finite_args _ _ _ _ _ _ _ _ (hpre c) h n
  have hW : ∀ (c : Dev Cert.KernelIdeal.nD) h i, walk' (Cert.Bwd.X m c h) i = walk (Cert.Bwd.X m c h) i :=
    fun c h i => (walk_eq (hF c h) i).symm
  have hG : ∀ (c : Dev Cert.KernelIdeal.nD) h n i, gradW' (Cert.Bwd.X m c h n) (walk (Cert.Bwd.X m c h) i) = gradW (Cert.Bwd.X m c h n) (walk (Cert.Bwd.X m c h) i) :=
    fun c h n i => (gradW_eq (hF c h n) (walk_finite (hF c h) i)).symm
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N, ?_, ?_⟩
  · exact Cert.KernelIdeal.Value.run_blocks (F := Ideal) m g
  · refine (θ_run Cert.ReferenceIdeal.defs _ _).mono (fun r h c => ?_) (Cert.ReferenceIdeal.Value.run (F := Ideal) m' g')
    obtain ⟨hu, hw, hq, hk, ha, hg, hkeep⟩ := h c
    refine ⟨hu.trans ?_, hw.trans ?_, hq.trans ?_, hk.trans ?_, ha.trans ?_, hg.trans ?_, hkeep⟩
    · refine rows_ext _ _ fun a i e => ?_
      refine (Cert.BwdRef.dU_apply m' c a i e).trans ?_
      rw [hX, hW]
      exact (Cert.Bwd.du_apply m c a i e).symm
    · refine rows_ext _ _ fun a i e => ?_
      refine (Cert.BwdRef.dW_apply m' c a i e).trans ?_
      rw [hX, hW, hG]
      exact (Cert.Bwd.dw_apply m c a i e).symm
    · refine rows_ext _ _ fun a i e => ?_
      refine (Cert.BwdRef.dQ_apply m' c a i e).trans ?_
      rw [hX]
      exact (Cert.Bwd.dq_apply m c a i e).symm
    · refine rows_ext _ _ fun a i e => ?_
      refine (Cert.BwdRef.dK_apply m' c a i e).trans ?_
      rw [hX, hW]
      exact (Cert.Bwd.dk_apply m c a i e).symm
    · refine rows_ext _ _ fun a i e => ?_
      refine (Cert.BwdRef.dA_apply m' c a i e).trans ?_
      rw [hX]
      exact (Cert.Bwd.da_apply m c a i e).symm
    · refine lanes_ext _ _ fun a n e => ?_
      refine (Cert.BwdRef.dG_apply m' c a n e).trans ?_
      rw [hX, hW]
      exact (Cert.Bwd.dg_apply m c a n e).symm

/-- The reference declares no semaphore. -/
theorem no_cell (g : GSem Cert.ReferenceIdeal.nD Cert.ReferenceIdeal.τ Cert.ReferenceIdeal.sig) : False := by
  obtain ⟨_, s | s⟩ := g
  · exact s.elim0
  · exact s.elim0

theorem frame_reference [Cert.ReferenceIdeal.Facts] : Cert.quiescent_ReferenceIdeal := fun m ρ _ => by
  refine (θ_run Cert.ReferenceIdeal.defs _ _).mono (fun r h => ?_) (Cert.ReferenceIdeal.Value.run (F := Ideal) m ρ)
  exact ⟨fun c => (h c).2.2.2.2.2.2, funext fun g => (no_cell g).elim⟩

end Cert.BwdClaim

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Ff2Dx
public import proofs.«01_k».proof.Proof.Ff2Dw
public import proofs.«01_k».proof.Proof.Ff1Dw
public import proofs.«01_k».proof.Proof.Ff1Dx
public import proofs.«01_k».proof.Proof.InDw
public import proofs.«01_k».proof.Proof.InDx
public import proofs.«01_k».proof.Proof.OutDx
public import proofs.«01_k».proof.Proof.OutDw
public import proofs.«01_k».proof.Proof.BranchDx
public import proofs.«01_k».proof.Proof.BranchDw
public import proofs.«01_k».proof.Proof.InProj
public import proofs.«01_k».proof.Proof.Branch
public import proofs.«01_k».proof.Proof.OutProj
public import proofs.«01_k».proof.Proof.Ff1
public import proofs.«01_k».proof.Proof.Ff2
public import proofs.«01_k».proof.Proof.AdamWNorm
public import proofs.«01_k».proof.Proof.AdamWWIn
public import proofs.«01_k».proof.Proof.AdamWConvQkv
public import proofs.«01_k».proof.Proof.AdamWDecay
public import proofs.«01_k».proof.Proof.AdamWGdnNorm
public import proofs.«01_k».proof.Proof.AdamWConvSc
public import proofs.«01_k».proof.Proof.AdamWWBranch
public import proofs.«01_k».proof.Proof.AdamWWOut
public import proofs.«01_k».proof.Proof.AdamWWFf1
public import proofs.«01_k».proof.Proof.AdamWWFf2
public import proofs.«01_k».proof.Proof.SumSmall
public import proofs.«01_k».proof.Proof.SumBranch
public import proofs.«01_k».proof.Proof.SumOut
public import proofs.«01_k».proof.Proof.SumFf1
public import proofs.«01_k».proof.Proof.SumFf2
public import proofs.«01_k».proof.Proof.SumIn
public import proofs.«01_k».proof.Proof.NormBwd
public import proofs.«01_k».proof.Proof.LossHead
public import proofs.«01_k».proof.Proof.FwdClaim
public import proofs.«01_k».proof.Proof.BwdClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Pre_finite.Gen.facts, by
  letI := Cert.Kernel.Gen.facts
  letI := Cert.KernelIdeal.Gen.facts
  letI := Cert.ReferenceIdeal.Gen.facts
  letI := Cert.Kernel2.Gen.facts
  letI := Cert.Kernel2Ideal.Gen.facts
  letI := Cert.Reference2Ideal.Gen.facts
  letI := Cert.Kernel3.Gen.facts
  letI := Cert.Kernel3Ideal.Gen.facts
  letI := Cert.Reference3Ideal.Gen.facts
  letI := Cert.Kernel4.Gen.facts
  letI := Cert.Kernel4Ideal.Gen.facts
  letI := Cert.Reference4Ideal.Gen.facts
  letI := Cert.Kernel5.Gen.facts
  letI := Cert.Kernel5Ideal.Gen.facts
  letI := Cert.Reference5Ideal.Gen.facts
  letI := Cert.Kernel6.Gen.facts
  letI := Cert.Kernel6Ideal.Gen.facts
  letI := Cert.Reference6Ideal.Gen.facts
  letI := Cert.Kernel7.Gen.facts
  letI := Cert.Kernel7Ideal.Gen.facts
  letI := Cert.Reference7Ideal.Gen.facts
  letI := Cert.Kernel8.Gen.facts
  letI := Cert.Kernel8Ideal.Gen.facts
  letI := Cert.Reference8Ideal.Gen.facts
  letI := Cert.Kernel9.Gen.facts
  letI := Cert.Kernel9Ideal.Gen.facts
  letI := Cert.Reference9Ideal.Gen.facts
  letI := Cert.Kernel10.Gen.facts
  letI := Cert.Kernel10Ideal.Gen.facts
  letI := Cert.Reference10Ideal.Gen.facts
  letI := Cert.Kernel11.Gen.facts
  letI := Cert.Kernel11Ideal.Gen.facts
  letI := Cert.Reference11Ideal.Gen.facts
  letI := Cert.Kernel12.Gen.facts
  letI := Cert.Kernel12Ideal.Gen.facts
  letI := Cert.Reference12Ideal.Gen.facts
  letI := Cert.Kernel13.Gen.facts
  letI := Cert.Kernel13Ideal.Gen.facts
  letI := Cert.Reference13Ideal.Gen.facts
  letI := Cert.Kernel14.Gen.facts
  letI := Cert.Kernel14Ideal.Gen.facts
  letI := Cert.Reference14Ideal.Gen.facts
  letI := Cert.Kernel15.Gen.facts
  letI := Cert.Kernel15Ideal.Gen.facts
  letI := Cert.Reference15Ideal.Gen.facts
  letI := Cert.Kernel16.Gen.facts
  letI := Cert.Kernel16Ideal.Gen.facts
  letI := Cert.Reference16Ideal.Gen.facts
  letI := Cert.Kernel17.Gen.facts
  letI := Cert.Kernel17Ideal.Gen.facts
  letI := Cert.Reference17Ideal.Gen.facts
  letI := Cert.Kernel18.Gen.facts
  letI := Cert.Kernel18Ideal.Gen.facts
  letI := Cert.Reference18Ideal.Gen.facts
  letI := Cert.Kernel19.Gen.facts
  letI := Cert.Kernel19Ideal.Gen.facts
  letI := Cert.Reference19Ideal.Gen.facts
  letI := Cert.Kernel20.Gen.facts
  letI := Cert.Kernel20Ideal.Gen.facts
  letI := Cert.Reference20Ideal.Gen.facts
  letI := Cert.Kernel21.Gen.facts
  letI := Cert.Kernel21Ideal.Gen.facts
  letI := Cert.Reference21Ideal.Gen.facts
  letI := Cert.Kernel22.Gen.facts
  letI := Cert.Kernel22Ideal.Gen.facts
  letI := Cert.Reference22Ideal.Gen.facts
  letI := Cert.Kernel23.Gen.facts
  letI := Cert.Kernel23Ideal.Gen.facts
  letI := Cert.Reference23Ideal.Gen.facts
  letI := Cert.Kernel24.Gen.facts
  letI := Cert.Kernel24Ideal.Gen.facts
  letI := Cert.Reference24Ideal.Gen.facts
  letI := Cert.Kernel25.Gen.facts
  letI := Cert.Kernel25Ideal.Gen.facts
  letI := Cert.Reference25Ideal.Gen.facts
  letI := Cert.Kernel26.Gen.facts
  letI := Cert.Kernel26Ideal.Gen.facts
  letI := Cert.Reference26Ideal.Gen.facts
  letI := Cert.Kernel27.Gen.facts
  letI := Cert.Kernel27Ideal.Gen.facts
  letI := Cert.Reference27Ideal.Gen.facts
  letI := Cert.Kernel28.Gen.facts
  letI := Cert.Kernel28Ideal.Gen.facts
  letI := Cert.Reference28Ideal.Gen.facts
  letI := Cert.Kernel29.Gen.facts
  letI := Cert.Kernel29Ideal.Gen.facts
  letI := Cert.Reference29Ideal.Gen.facts
  letI := Cert.Kernel30.Gen.facts
  letI := Cert.Kernel30Ideal.Gen.facts
  letI := Cert.Reference30Ideal.Gen.facts
  letI := Cert.Kernel31.Gen.facts
  letI := Cert.Kernel31Ideal.Gen.facts
  letI := Cert.Reference31Ideal.Gen.facts
  letI := Cert.Kernel32.Gen.facts
  letI := Cert.Kernel32Ideal.Gen.facts
  letI := Cert.Reference32Ideal.Gen.facts
  letI := Cert.Kernel33.Gen.facts
  letI := Cert.Kernel33Ideal.Gen.facts
  letI := Cert.Reference33Ideal.Gen.facts
  letI := Cert.Kernel34.Gen.facts
  letI := Cert.Kernel34Ideal.Gen.facts
  letI := Cert.Reference34Ideal.Gen.facts
  letI := Cert.Kernel35.Gen.facts
  letI := Cert.Kernel35Ideal.Gen.facts
  letI := Cert.Reference35Ideal.Gen.facts
  letI := Cert.Pre_finite.Gen.facts
  exact ⟨fun m ρ _ => Cert.Kernel.Gen.frame m ρ, fun m ρ _ => Cert.KernelIdeal.Gen.frame m ρ, fun m ρ _ => Cert.KernelIdeal.Gen.frame m ρ,
    Cert.BwdClaim.frame_reference, fun m ρ _ => Cert.BwdClaim.frame_reference m ρ trivial,
    fun m ρ _ => Cert.Kernel2.Gen.frame m ρ, fun m ρ _ => Cert.Kernel2Ideal.Gen.frame m ρ, Cert.FwdClaim.frame_reference,
    fun m ρ _ => Cert.Kernel3.Gen.frame m ρ, fun m ρ _ => Cert.Kernel3Ideal.Gen.frame m ρ, Cert.Ff2Dx.frame_reference,
    fun m ρ _ => Cert.Kernel4.Gen.frame m ρ, fun m ρ _ => Cert.Kernel4Ideal.Gen.frame m ρ, Cert.Ff2Dw.frame_reference,
    fun m ρ _ => Cert.Kernel5.Gen.frame m ρ, fun m ρ _ => Cert.Kernel5Ideal.Gen.frame m ρ, Cert.Ff1Dw.frame_reference,
    fun m ρ _ => Cert.Kernel6.Gen.frame m ρ, fun m ρ _ => Cert.Kernel6Ideal.Gen.frame m ρ, Cert.Ff1Dx.frame_reference,
    fun m ρ _ => Cert.Kernel7.Gen.frame m ρ, fun m ρ _ => Cert.Kernel7Ideal.Gen.frame m ρ, Cert.InDw.frame_reference,
    fun m ρ _ => Cert.Kernel8.Gen.frame m ρ, fun m ρ _ => Cert.Kernel8Ideal.Gen.frame m ρ, Cert.InDx.frame_reference,
    fun m ρ _ => Cert.Kernel9.Gen.frame m ρ, fun m ρ _ => Cert.Kernel9Ideal.Gen.frame m ρ, Cert.OutDx.frame_reference,
    fun m ρ _ => Cert.Kernel10.Gen.frame m ρ, fun m ρ _ => Cert.Kernel10Ideal.Gen.frame m ρ, Cert.OutDw.frame_reference,
    fun m ρ _ => Cert.Kernel11.Gen.frame m ρ, fun m ρ _ => Cert.Kernel11Ideal.Gen.frame m ρ, Cert.BranchDx.frame_reference,
    fun m ρ _ => Cert.Kernel12.Gen.frame m ρ, fun m ρ _ => Cert.Kernel12Ideal.Gen.frame m ρ, Cert.BranchDw.frame_reference,
    fun m ρ _ => Cert.Kernel13.Gen.frame m ρ, fun m ρ _ => Cert.Kernel13Ideal.Gen.frame m ρ, Cert.InProj.frame_reference,
    fun m ρ _ => Cert.Kernel14.Gen.frame m ρ, fun m ρ _ => Cert.Kernel14Ideal.Gen.frame m ρ, Cert.Branch.frame_reference,
    fun m ρ _ => Cert.Kernel15.Gen.frame m ρ, fun m ρ _ => Cert.Kernel15Ideal.Gen.frame m ρ, Cert.OutProj.frame_reference,
    fun m ρ _ => Cert.Kernel16.Gen.frame m ρ, fun m ρ _ => Cert.Kernel16Ideal.Gen.frame m ρ, Cert.Ff1.frame_reference,
    fun m ρ _ => Cert.Kernel17.Gen.frame m ρ, fun m ρ _ => Cert.Kernel17Ideal.Gen.frame m ρ, Cert.Ff2.frame_reference,
    fun m ρ _ => Cert.Kernel18.Gen.frame m ρ, fun m ρ _ => Cert.Kernel18Ideal.Gen.frame m ρ, Cert.AdamWNorm.frame_reference,
    fun m ρ _ => Cert.Kernel19.Gen.frame m ρ, fun m ρ _ => Cert.Kernel19Ideal.Gen.frame m ρ, Cert.AdamWWIn.frame_reference,
    fun m ρ _ => Cert.Kernel20.Gen.frame m ρ, fun m ρ _ => Cert.Kernel20Ideal.Gen.frame m ρ, Cert.AdamWConvQkv.frame_reference,
    fun m ρ _ => Cert.Kernel21.Gen.frame m ρ, fun m ρ _ => Cert.Kernel21Ideal.Gen.frame m ρ, Cert.AdamWDecay.frame_reference,
    fun m ρ _ => Cert.Kernel22.Gen.frame m ρ, fun m ρ _ => Cert.Kernel22Ideal.Gen.frame m ρ, Cert.AdamWGdnNorm.frame_reference,
    fun m ρ _ => Cert.Kernel23.Gen.frame m ρ, fun m ρ _ => Cert.Kernel23Ideal.Gen.frame m ρ, Cert.AdamWConvSc.frame_reference,
    fun m ρ _ => Cert.Kernel24.Gen.frame m ρ, fun m ρ _ => Cert.Kernel24Ideal.Gen.frame m ρ, Cert.AdamWWBranch.frame_reference,
    fun m ρ _ => Cert.Kernel25.Gen.frame m ρ, fun m ρ _ => Cert.Kernel25Ideal.Gen.frame m ρ, Cert.AdamWWOut.frame_reference,
    fun m ρ _ => Cert.Kernel26.Gen.frame m ρ, fun m ρ _ => Cert.Kernel26Ideal.Gen.frame m ρ, Cert.AdamWWFf1.frame_reference,
    fun m ρ _ => Cert.Kernel27.Gen.frame m ρ, fun m ρ _ => Cert.Kernel27Ideal.Gen.frame m ρ, Cert.AdamWWFf2.frame_reference,
    fun m ρ _ => Cert.Kernel28.Gen.frame m ρ, fun m ρ _ => Cert.Kernel28Ideal.Gen.frame m ρ, Cert.SumSmall.frame_reference,
    fun m ρ _ => Cert.Kernel29.Gen.frame m ρ, fun m ρ _ => Cert.Kernel29Ideal.Gen.frame m ρ, Cert.SumBranch.frame_reference,
    fun m ρ _ => Cert.Kernel30.Gen.frame m ρ, fun m ρ _ => Cert.Kernel30Ideal.Gen.frame m ρ, Cert.SumOut.frame_reference,
    fun m ρ _ => Cert.Kernel31.Gen.frame m ρ, fun m ρ _ => Cert.Kernel31Ideal.Gen.frame m ρ, Cert.SumFf1.frame_reference,
    fun m ρ _ => Cert.Kernel32.Gen.frame m ρ, fun m ρ _ => Cert.Kernel32Ideal.Gen.frame m ρ, Cert.SumFf2.frame_reference,
    fun m ρ _ => Cert.Kernel33.Gen.frame m ρ, fun m ρ _ => Cert.Kernel33Ideal.Gen.frame m ρ, Cert.SumIn.frame_reference,
    fun m ρ _ => Cert.Kernel34.Gen.frame m ρ, fun m ρ _ => Cert.Kernel34Ideal.Gen.frame m ρ, Cert.NormBwd.frame_reference,
    fun m ρ _ => Cert.Kernel35.Gen.frame m ρ, fun m ρ _ => Cert.Kernel35Ideal.Gen.frame m ρ, Cert.LossHead.frame_reference,
    trivial, Cert.BwdClaim.algebraic, trivial, Cert.FwdClaim.algebraic,
    trivial, Cert.Ff2Dx.algebraic,
    trivial, Cert.Ff2Dw.algebraic,
    trivial, Cert.Ff1Dw.algebraic,
    trivial, Cert.Ff1Dx.algebraic,
    trivial, Cert.InDw.algebraic,
    trivial, Cert.InDx.algebraic,
    trivial, Cert.OutDx.algebraic,
    trivial, Cert.OutDw.algebraic,
    trivial, Cert.BranchDx.algebraic,
    trivial, Cert.BranchDw.algebraic,
    trivial, Cert.InProj.algebraic,
    trivial, Cert.Branch.algebraic,
    trivial, Cert.OutProj.algebraic,
    trivial, Cert.Ff1.algebraic,
    trivial, Cert.Ff2.algebraic,
    trivial, Cert.AdamWNorm.algebraic,
    trivial, Cert.AdamWWIn.algebraic,
    trivial, Cert.AdamWConvQkv.algebraic,
    trivial, Cert.AdamWDecay.algebraic,
    trivial, Cert.AdamWGdnNorm.algebraic,
    trivial, Cert.AdamWConvSc.algebraic,
    trivial, Cert.AdamWWBranch.algebraic,
    trivial, Cert.AdamWWOut.algebraic,
    trivial, Cert.AdamWWFf1.algebraic,
    trivial, Cert.AdamWWFf2.algebraic,
    trivial, Cert.SumSmall.algebraic,
    trivial, Cert.SumBranch.algebraic,
    trivial, Cert.SumOut.algebraic,
    trivial, Cert.SumFf1.algebraic,
    trivial, Cert.SumFf2.algebraic,
    trivial, Cert.SumIn.algebraic,
    trivial, Cert.NormBwd.algebraic,
    trivial, Cert.LossHead.algebraic⟩⟩

end Cert.Proof

end
